-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)) (v4 : (c : Dev Cert.Kernel3Ideal.nD) → Buf (Elt Ideal) ((c.tc : Thread Cert.Kernel3Ideal.nD Cert.Kernel3Ideal.τ).loc Cert.Kernel3Ideal.main_v14_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_v14_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_v30) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v51_3)) (v1 : (c : Dev Cert.Kernel6Ideal.nD) → Buf (Elt Ideal) ((c.tc : Thread Cert.Kernel6Ideal.nD Cert.Kernel6Ideal.τ).loc Cert.Kernel6Ideal.main_v51_4)) (v2 : (c : Dev Cert.Kernel6Ideal.nD) → Buf (Elt Ideal) ((c.tc : Thread Cert.Kernel6Ideal.nD Cert.Kernel6Ideal.τ).loc Cert.Kernel6Ideal.main_v51_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v51_3) = v0 c
          ∧ r.2.mem ((c.tc : Thread Cert.Kernel6Ideal.nD Cert.Kernel6Ideal.τ).loc Cert.Kernel6Ideal.main_v51_4) = v1 c
          ∧ r.2.mem ((c.tc : Thread Cert.Kernel6Ideal.nD Cert.Kernel6Ideal.τ).loc Cert.Kernel6Ideal.main_v51_8) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v44) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v51_3)) (v1 : (c : Dev Cert.Kernel7Ideal.nD) → Buf (Elt Ideal) ((c.tc : Thread Cert.Kernel7Ideal.nD Cert.Kernel7Ideal.τ).loc Cert.Kernel7Ideal.main_v51_4)) (v2 : (c : Dev Cert.Kernel7Ideal.nD) → Buf (Elt Ideal) ((c.tc : Thread Cert.Kernel7Ideal.nD Cert.Kernel7Ideal.τ).loc Cert.Kernel7Ideal.main_v51_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v51_3) = v0 c
          ∧ r.2.mem ((c.tc : Thread Cert.Kernel7Ideal.nD Cert.Kernel7Ideal.τ).loc Cert.Kernel7Ideal.main_v51_4) = v1 c
          ∧ r.2.mem ((c.tc : Thread Cert.Kernel7Ideal.nD Cert.Kernel7Ideal.τ).loc Cert.Kernel7Ideal.main_v51_8) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_v46) = v1 c
          ∧ r.2.mem ((c.tc : Thread Cert.Reference7Ideal.nD Cert.Reference7Ideal.τ).loc Cert.Reference7Ideal.main_v47) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S32x128x1024 : Shape := ⟨3, ![32, 128, 1024]⟩
abbrev S32x128x128 : Shape := ⟨3, ![32, 128, 128]⟩
abbrev S32x2048x16x64 : Shape := ⟨4, ![32, 2048, 16, 64]⟩
abbrev S32x128x2048 : Shape := ⟨3, ![32, 128, 2048]⟩
abbrev S_ : Shape := ⟨0, ![]⟩

class Facts : Prop where
  bitsLt_bf16_f32 : FTy.bits .bf16 < FTy.bits .f32
  bcast_S_S32x128x1024 : S_.BroadcastsInDim S32x128x1024 (![] : Fin 0 → Fin S32x128x1024.rank)
  bcast_S_S32x128x128 : S_.BroadcastsInDim S32x128x128 (![] : Fin 0 → Fin S32x128x128.rank)
  bcast_S_S32x2048x16x64 : S_.BroadcastsInDim S32x2048x16x64 (![] : Fin 0 → Fin S32x2048x16x64.rank)
  bcast_S_S32x128x2048 : S_.BroadcastsInDim S32x128x2048 (![] : Fin 0 → Fin S32x128x2048.rank)

variable [Facts]

def fn_part1 {F : FTy → Type} [FloatOps F] (main_arg6 : FVec F S32x128x2048 .bf16) (main_v3 : IVec S32x128x1024 1) (main_v7 : IVec S32x128x128 1) (main_v11 : IVec S32x128x1024 1) (main_v15 : IVec S32x128x128 1) (main_v18 : IVec S32x2048x16x64 1) : IVec S32x128x1024 1 × IVec S32x128x128 1 × IVec S32x128x1024 1 × IVec S32x128x128 1 × IVec S32x2048x16x64 1 × IVec S32x128x2048 1 :=
  let main_v19 : FVec F S32x128x2048 .f32 := (extf .f32 · bitsLt_bf16_f32) main_arg6
  let main_v20 : FVec F S32x128x2048 .f32 := Host.absf main_v19
  let main_cst_4 : FVec F S_ .f32 := constant S_ .f32 0x7F800000#32
  let main_v21 : FVec F S32x128x2048 .f32 := broadcastInDim S32x128x2048 ![] bcast_S_S32x128x2048 main_cst_4
  let main_v22 : IVec S32x128x2048 1 := cmpf .olt main_v20 main_v21
  (main_v3, main_v7, main_v11, main_v15, main_v18, main_v22)

def fn {F : FTy → Type} [FloatOps F] (main_arg0 : FVec F S32x128x1024 .bf16) (main_arg1 : FVec F S32x128x128 .bf16) (main_arg2 : FVec F S32x128x1024 .bf16) (main_arg3 : FVec F S32x128x128 .bf16) (main_arg4 : FVec F S32x128x1024 .f32) (main_arg5 : FVec F S32x2048x16x64 .f32) (main_arg6 : FVec F S32x128x2048 .bf16) (main_arg7 : FVec F S32x2048x16x64 .f32) : IVec S32x128x1024 1 × IVec S32x128x128 1 × IVec S32x128x1024 1 × IVec S32x128x128 1 × IVec S32x2048x16x64 1 × IVec S32x128x2048 1 :=
  let main_v0 : FVec F S32x128x1024 .f32 := (extf .f32 · bitsLt_bf16_f32) main_arg0
  let main_v1 : FVec F S32x128x1024 .f32 := Host.absf main_v0
  let main_cst : FVec F S_ .f32 := constant S_ .f32 0x7F800000#32
  let main_v2 : FVec F S32x128x1024 .f32 := broadcastInDim S32x128x1024 ![] bcast_S_S32x128x1024 main_cst
  let main_v3 : IVec S32x128x1024 1 := cmpf .olt main_v1 main_v2
  let main_v4 : FVec F S32x128x128 .f32 := (extf .f32 · bitsLt_bf16_f32) main_arg1
  let main_v5 : FVec F S32x128x128 .f32 := Host.absf main_v4
  let main_cst_0 : FVec F S_ .f32 := constant S_ .f32 0x7F800000#32
  let main_v6 : FVec F S32x128x128 .f32 := broadcastInDim S32x128x128 ![] bcast_S_S32x128x128 main_cst_0
  let main_v7 : IVec S32x128x128 1 := cmpf .olt main_v5 main_v6
  let main_v8 : FVec F S32x128x1024 .f32 := (extf .f32 · bitsLt_bf16_f32) main_arg2
  let main_v9 : FVec F S32x128x1024 .f32 := Host.absf main_v8
  let main_cst_1 : FVec F S_ .f32 := constant S_ .f32 0x7F800000#32
  let main_v10 : FVec F S32x128x1024 .f32 := broadcastInDim S32x128x1024 ![] bcast_S_S32x128x1024 main_cst_1
  let main_v11 : IVec S32x128x1024 1 := cmpf .olt main_v9 main_v10
  let main_v12 : FVec F S32x128x128 .f32 := (extf .f32 · bitsLt_bf16_f32) main_arg3
  let main_v13 : FVec F S32x128x128 .f32 := Host.absf main_v12
  let main_cst_2 : FVec F S_ .f32 := constant S_ .f32 0x7F800000#32
  let main_v14 : FVec F S32x128x128 .f32 := broadcastInDim S32x128x128 ![] bcast_S_S32x128x128 main_cst_2
  let main_v15 : IVec S32x128x128 1 := cmpf .olt main_v13 main_v14
  let main_v16 : FVec F S32x2048x16x64 .f32 := Host.absf main_arg5
  let main_cst_3 : FVec F S_ .f32 := constant S_ .f32 0x7F800000#32
  let main_v17 : FVec F S32x2048x16x64 .f32 := broadcastInDim S32x2048x16x64 ![] bcast_S_S32x2048x16x64 main_cst_3
  let main_v18 : IVec S32x2048x16x64 1 := cmpf .olt main_v16 main_v17
  fn_part1 (F := F) main_arg6 main_v3 main_v7 main_v11 main_v15 main_v18
-- ==== Kernel.lean ====
abbrev S32x128x1024 : Shape := ⟨3, ![32, 128, 1024]⟩
abbrev S32x128x128 : Shape := ⟨3, ![32, 128, 128]⟩
abbrev S32x2048x16x64 : Shape := ⟨4, ![32, 2048, 16, 64]⟩
abbrev S32x128x2048 : Shape := ⟨3, ![32, 128, 2048]⟩
abbrev S32x16x64x2048 : Shape := ⟨4, ![32, 16, 64, 2048]⟩
abbrev S32x1024x2048 : Shape := ⟨3, ![32, 1024, 2048]⟩
abbrev S32x32x1024 : Shape := ⟨3, ![32, 32, 1024]⟩
abbrev S1x32x512 : Shape := ⟨3, ![1, 32, 512]⟩
abbrev S1x32x128 : Shape := ⟨3, ![1, 32, 128]⟩
abbrev S1x128x512 : Shape := ⟨3, ![1, 128, 512]⟩
abbrev S1x128x128 : Shape := ⟨3, ![1, 128, 128]⟩
abbrev S1x512x2048 : Shape := ⟨3, ![1, 512, 2048]⟩
abbrev S1x128x2048 : Shape := ⟨3, ![1, 128, 2048]⟩
abbrev S4x64x256 : Shape := ⟨3, ![4, 64, 256]⟩
abbrev S128x2048 : Shape := ⟨2, ![128, 2048]⟩
abbrev S128x128 : Shape := ⟨2, ![128, 128]⟩
abbrev S64x128 : Shape := ⟨2, ![64, 128]⟩
abbrev S32x128 : Shape := ⟨2, ![32, 128]⟩
abbrev S1x128 : Shape := ⟨2, ![1, 128]⟩
abbrev S32x256 : Shape := ⟨2, ![32, 256]⟩
abbrev S1x64x256 : Shape := ⟨3, ![1, 64, 256]⟩
abbrev S64x256 : Shape := ⟨2, ![64, 256]⟩
abbrev S1x32x256 : Shape := ⟨3, ![1, 32, 256]⟩
abbrev S256x2048 : Shape := ⟨2, ![256, 2048]⟩
abbrev S64x2048 : Shape := ⟨2, ![64, 2048]⟩
abbrev S128x256 : Shape := ⟨2, ![128, 256]⟩
abbrev S64 : Shape := ⟨1, ![64]⟩
abbrev S64x1 : Shape := ⟨2, ![64, 1]⟩

abbrev nBuf : Space → Nat
  | .hbm => 13
  | .vmem => 19
  | .smem => 0
  | _ => 0

abbrev bufTy : (tb : Table) → Fin (tcTables nBuf tb) → BufTy
  | .hbm, ⟨0, _⟩ => ⟨S32x128x1024, .bf16⟩
  | .hbm, ⟨1, _⟩ => ⟨S32x128x128, .bf16⟩
  | .hbm, ⟨2, _⟩ => ⟨S32x128x1024, .bf16⟩
  | .hbm, ⟨3, _⟩ => ⟨S32x128x128, .bf16⟩
  | .hbm, ⟨4, _⟩ => ⟨S32x128x1024, .f32⟩
  | .hbm, ⟨5, _⟩ => ⟨S32x2048x16x64, .f32⟩
  | .hbm, ⟨6, _⟩ => ⟨S32x128x2048, .bf16⟩
  | .hbm, ⟨7, _⟩ => ⟨S32x2048x16x64, .f32⟩
  | .hbm, ⟨8, _⟩ => ⟨S32x16x64x2048, .f32⟩
  | .hbm, ⟨9, _⟩ => ⟨S32x1024x2048, .f32⟩
  | .hbm, ⟨10, _⟩ => ⟨S32x16x64x2048, .f32⟩
  | .hbm, ⟨11, _⟩ => ⟨S32x1024x2048, .f32⟩
  | .hbm, ⟨12, _⟩ => ⟨S32x32x1024, .bf16⟩
  | .local _ .vmem, ⟨0, _⟩ => ⟨S1x32x512, .bf16⟩
  | .local _ .vmem, ⟨1, _⟩ => ⟨S1x32x512, .bf16⟩
  | .local _ .vmem, ⟨2, _⟩ => ⟨S1x32x128, .bf16⟩
  | .local _ .vmem, ⟨3, _⟩ => ⟨S1x32x128, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x512, .f32⟩
  | .local _ .vmem, ⟨9, _⟩ => ⟨S1x128x512, .f32⟩
  | .local _ .vmem, ⟨10, _⟩ => ⟨S1x512x2048, .f32⟩
  | .local _ .vmem, ⟨11, _⟩ => ⟨S1x512x2048, .f32⟩
  | .local _ .vmem, ⟨12, _⟩ => ⟨S1x128x2048, .bf16⟩
  | .local _ .vmem, ⟨13, _⟩ => ⟨S1x128x2048, .bf16⟩
  | .local _ .vmem, ⟨14, _⟩ => ⟨S1x512x2048, .f32⟩
  | .local _ .vmem, ⟨15, _⟩ => ⟨S1x512x2048, .f32⟩
  | .local _ .vmem, ⟨16, _⟩ => ⟨S1x32x512, .bf16⟩
  | .local _ .vmem, ⟨17, _⟩ => ⟨S1x32x512, .bf16⟩
  | .local _ .vmem, ⟨18, _⟩ => ⟨S4x64x256, .bf16⟩
  | _, _ => ⟨S32x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x128x1024 : Shape := ⟨3, ![32, 128, 1024]⟩
abbrev S32x128x128 : Shape := ⟨3, ![32, 128, 128]⟩
abbrev S32x2048x16x64 : Shape := ⟨4, ![32, 2048, 16, 64]⟩
abbrev S32x128x2048 : Shape := ⟨3, ![32, 128, 2048]⟩
abbrev S32x32x1024 : Shape := ⟨3, ![32, 32, 1024]⟩
abbrev S32x32x16x64 : Shape := ⟨4, ![32, 32, 16, 64]⟩
abbrev S32x2080x16x64 : Shape := ⟨4, ![32, 2080, 16, 64]⟩
abbrev S32x32x96 : Shape := ⟨3, ![32, 32, 96]⟩
abbrev S32x32x6x16 : Shape := ⟨4, ![32, 32, 6, 16]⟩
abbrev S32x96x2048 : Shape := ⟨3, ![32, 96, 2048]⟩
abbrev S32x2048x96 : Shape := ⟨3, ![32, 2048, 96]⟩
abbrev S32x2080x96 : Shape := ⟨3, ![32, 2080, 96]⟩
abbrev S32x2080x6x16 : Shape := ⟨4, ![32, 2080, 6, 16]⟩
abbrev S32x16x32x2080 : Shape := ⟨4, ![32, 16, 32, 2080]⟩
abbrev S32 : Shape := ⟨1, ![32]⟩
abbrev S_ : Shape := ⟨0, ![]⟩
abbrev S2080 : Shape := ⟨1, ![2080]⟩
abbrev S1x1x1x2080 : Shape := ⟨4, ![1, 1, 1, 2080]⟩
abbrev S1x1x32x1 : Shape := ⟨4, ![1, 1, 32, 1]⟩
abbrev S1x1x32x2080 : Shape := ⟨4, ![1, 1, 32, 2080]⟩
abbrev S32x16x32 : Shape := ⟨3, ![32, 16, 32]⟩
abbrev S32x16x32x1 : Shape := ⟨4, ![32, 16, 32, 1]⟩
abbrev S32x16x64x32 : Shape := ⟨4, ![32, 16, 64, 32]⟩

abbrev nBuf : Space → Nat
  | .hbm => 68
  | .vmem => 0
  | .smem => 0
  | _ => 0

abbrev bufTy : (tb : Table) → Fin (tcTables nBuf tb) → BufTy
  | .hbm, ⟨0, _⟩ => ⟨S32x128x1024, .bf16⟩
  | .hbm, ⟨1, _⟩ => ⟨S32x128x128, .bf16⟩
  | .hbm, ⟨2, _⟩ => ⟨S32x128x1024, .bf16⟩
  | .hbm, ⟨3, _⟩ => ⟨S32x128x128, .bf16⟩
  | .hbm, ⟨4, _⟩ => ⟨S32x128x1024, .f32⟩
  | .hbm, ⟨5, _⟩ => ⟨S32x2048x16x64, .f32⟩
  | .hbm, ⟨6, _⟩ => ⟨S32x128x2048, .bf16⟩
  | .hbm, ⟨7, _⟩ => ⟨S32x2048x16x64, .f32⟩
  | .hbm, ⟨8, _⟩ => ⟨S32x32x1024, .bf16⟩
  | .hbm, ⟨9, _⟩ => ⟨S32x32x1024, .f32⟩
  | .hbm, ⟨10, _⟩ => ⟨S32x32x16x64, .f32⟩
  | .hbm, ⟨11, _⟩ => ⟨S32x32x1024, .bf16⟩
  | .hbm, ⟨12, _⟩ => ⟨S32x32x1024, .f32⟩
  | .hbm, ⟨13, _⟩ => ⟨S32x32x16x64, .f32⟩
  | .hbm, ⟨14, _⟩ => ⟨S32x32x1024, .f32⟩
  | .hbm, ⟨15, _⟩ => ⟨S32x32x16x64, .f32⟩
  | .hbm, ⟨16, _⟩ => ⟨S32x2080x16x64, .f32⟩
  | .hbm, ⟨17, _⟩ => ⟨S32x2080x16x64, .f32⟩
  | .hbm, ⟨18, _⟩ => ⟨S32x32x96, .bf16⟩
  | .hbm, ⟨19, _⟩ => ⟨S32x32x96, .f32⟩
  | .hbm, ⟨20, _⟩ => ⟨S32x32x6x16, .f32⟩
  | .hbm, ⟨21, _⟩ => ⟨S32x96x2048, .bf16⟩
  | .hbm, ⟨22, _⟩ => ⟨S32x96x2048, .f32⟩
  | .hbm, ⟨23, _⟩ => ⟨S32x2048x96, .f32⟩
  | .hbm, ⟨24, _⟩ => ⟨S32x32x96, .bf16⟩
  | .hbm, ⟨25, _⟩ => ⟨S32x32x96, .f32⟩
  | .hbm, ⟨26, _⟩ => ⟨S32x2080x96, .f32⟩
  | .hbm, ⟨27, _⟩ => ⟨S32x2080x6x16, .f32⟩
  | .hbm, ⟨28, _⟩ => ⟨S32x16x32x2080, .f32⟩
  | .hbm, ⟨29, _⟩ => ⟨S32x16x32x2080, .f32⟩
  | .hbm, ⟨30, _⟩ => ⟨S32x16x32x2080, .f32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S2080, .i32⟩
  | .hbm, ⟨36, _⟩ => ⟨S1x1x1x2080, .i32⟩
  | .hbm, ⟨37, _⟩ => ⟨S1x1x32x1, .i32⟩
  | .hbm, ⟨38, _⟩ => ⟨S1x1x32x2080, .i32⟩
  | .hbm, ⟨39, _⟩ => ⟨S1x1x32x2080, .i32⟩
  | .hbm, ⟨40, _⟩ => ⟨S1x1x32x2080, .i1⟩
  | .hbm, ⟨41, _⟩ => ⟨S_, .f32⟩
  | .hbm, ⟨42, _⟩ => ⟨S_, .f32⟩
  | .hbm, ⟨43, _⟩ => ⟨S32x16x32x2080, .i1⟩
  | .hbm, ⟨44, _⟩ => ⟨S32x16x32x2080, .f32⟩
  | .hbm, ⟨45, _⟩ => ⟨S32x16x32x2080, .f32⟩
  | .hbm, ⟨46, _⟩ => ⟨S_, .f32⟩
  | .hbm, ⟨47, _⟩ => ⟨S_, .f32⟩
  | .hbm, ⟨48, _⟩ => ⟨S32x16x32x2080, .f32⟩
  | .hbm, ⟨49, _⟩ => ⟨S32x16x32x2080, .f32⟩
  | .hbm, ⟨50, _⟩ => ⟨S_, .f32⟩
  | .hbm, ⟨51, _⟩ => ⟨S32x16x32, .f32⟩
  | .hbm, ⟨52, _⟩ => ⟨S_, .f32⟩
  | .hbm, ⟨53, _⟩ => ⟨S32x16x32, .f32⟩
  | .hbm, ⟨54, _⟩ => ⟨S32x16x32, .f32⟩
  | .hbm, ⟨55, _⟩ => ⟨S32x16x32x1, .f32⟩
  | .hbm, ⟨56, _⟩ => ⟨S32x16x32x2080, .f32⟩
  | .hbm, ⟨57, _⟩ => ⟨S32x16x32x2080, .f32⟩
  | .hbm, ⟨58, _⟩ => ⟨S32x16x32x2080, .f32⟩
  | .hbm, ⟨59, _⟩ => ⟨S_, .f32⟩
  | .hbm, ⟨60, _⟩ => ⟨S32x16x32, .f32⟩
  | .hbm, ⟨61, _⟩ => ⟨S32x16x32x1, .f32⟩
  | .hbm, ⟨62, _⟩ => ⟨S32x16x32x2080, .f32⟩
  | .hbm, ⟨63, _⟩ => ⟨S32x16x32x2080, .f32⟩
  | .hbm, ⟨64, _⟩ => ⟨S32x16x64x32, .f32⟩
  | .hbm, ⟨65, _⟩ => ⟨S32x32x16x64, .f32⟩
  | .hbm, ⟨66, _⟩ => ⟨S32x32x1024, .f32⟩
  | .hbm, ⟨67, _⟩ => ⟨S32x32x1024, .bf16⟩
  | _, _ => ⟨S32x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Kernel2.lean ====
abbrev S8x4224x1024 : Shape := ⟨3, ![8, 4224, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x1024 : Shape := ⟨3, ![8, 4096, 1024]⟩
abbrev S1x512x1024 : Shape := ⟨3, ![1, 512, 1024]⟩
abbrev S1x16x1024 : Shape := ⟨3, ![1, 16, 1024]⟩
abbrev S1x496x1024 : Shape := ⟨3, ![1, 496, 1024]⟩
abbrev S496x1024 : Shape := ⟨2, ![496, 1024]⟩
abbrev S16x1024 : Shape := ⟨2, ![16, 1024]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S8x4224x1024, .bf16⟩
  | .hbm, ⟨1, _⟩ => ⟨S8x4224x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S2x1024x4096, .bf16⟩
  | .hbm, ⟨10, _⟩ => ⟨S2x4096x1024, .bf16⟩
  | .hbm, ⟨11, _⟩ => ⟨S2x1x1024, .f32⟩
  | .hbm, ⟨12, _⟩ => ⟨S1x1x1024, .f32⟩
  | .hbm, ⟨13, _⟩ => ⟨S1x1024, .f32⟩
  | .hbm, ⟨14, _⟩ => ⟨S1x1024x4096, .bf16⟩
  | .hbm, ⟨15, _⟩ => ⟨S1024x4096, .bf16⟩
  | .hbm, ⟨16, _⟩ => ⟨S1x4096x1024, .bf16⟩
  | .hbm, ⟨17, _⟩ => ⟨S4096x1024, .bf16⟩
  | .hbm, ⟨18, _⟩ => ⟨S1x1024, .f32⟩
  | .hbm, ⟨19, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x16x1024, .f32⟩
  | .local _ .vmem, ⟨7, _⟩ => ⟨S1x16x1024, .f32⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c0_i32 : BitVec 32 := 0#32
  let c0_i32_0 : BitVec 32 := 0#32
  ![arg0.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x4224x1024 : Shape := ⟨3, ![8, 4224, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S8x4224 : Shape := ⟨2, ![8, 4224]⟩
abbrev S8x4224x1 : Shape := ⟨3, ![8, 4224, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4224x4096 : Shape := ⟨3, ![8, 4224, 4096]⟩
abbrev S1x4096x1024 : Shape := ⟨3, ![1, 4096, 1024]⟩
abbrev S4096x1024 : Shape := ⟨2, ![4096, 1024]⟩
abbrev S8x4096x1024 : Shape := ⟨3, ![8, 4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x4224x1024, .bf16⟩
  | .hbm, ⟨1, _⟩ => ⟨S8x4224x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S8x4224x1024, .f32⟩
  | .hbm, ⟨8, _⟩ => ⟨S1024x1024, .f32⟩
  | .hbm, ⟨9, _⟩ => ⟨S8x4224x1024, .f32⟩
  | .hbm, ⟨10, _⟩ => ⟨S8x4224x1024, .f32⟩
  | .hbm, ⟨11, _⟩ => ⟨S1x1024, .f32⟩
  | .hbm, ⟨12, _⟩ => ⟨S1024, .f32⟩
  | .hbm, ⟨13, _⟩ => ⟨S8x4224x1024, .f32⟩
  | .hbm, ⟨14, _⟩ => ⟨S_, .f32⟩
  | .hbm, ⟨15, _⟩ => ⟨S8x4224, .f32⟩
  | .hbm, ⟨16, _⟩ => ⟨S8x4224x1, .f32⟩
  | .hbm, ⟨17, _⟩ => ⟨S_, .f32⟩
  | .hbm, ⟨18, _⟩ => ⟨S8x4224x1, .f32⟩
  | .hbm, ⟨19, _⟩ => ⟨S8x4224x1, .f32⟩
  | .hbm, ⟨20, _⟩ => ⟨S_, .f32⟩
  | .hbm, ⟨21, _⟩ => ⟨S8x4224x1, .f32⟩
  | .hbm, ⟨22, _⟩ => ⟨S8x4224x1, .f32⟩
  | .hbm, ⟨23, _⟩ => ⟨S8x4224x1, .f32⟩
  | .hbm, ⟨24, _⟩ => ⟨S8x4224x1024, .f32⟩
  | .hbm, ⟨25, _⟩ => ⟨S8x4224x1024, .f32⟩
  | .hbm, ⟨26, _⟩ => ⟨S1x1x1024, .f32⟩
  | .hbm, ⟨27, _⟩ => ⟨S8x4224x1024, .f32⟩
  | .hbm, ⟨28, _⟩ => ⟨S8x4224x1024, .f32⟩
  | .hbm, ⟨29, _⟩ => ⟨S1x1024x4096, .f32⟩
  | .hbm, ⟨30, _⟩ => ⟨S1024x4096, .f32⟩
  | .hbm, ⟨31, _⟩ => ⟨S8x4224x4096, .f32⟩
  | .hbm, ⟨32, _⟩ => ⟨S_, .f32⟩
  | .hbm, ⟨33, _⟩ => ⟨S8x4224x4096, .f32⟩
  | .hbm, ⟨34, _⟩ => ⟨S8x4224x4096, .f32⟩
  | .hbm, ⟨35, _⟩ => ⟨S8x4224x4096, .f32⟩
  | .hbm, ⟨36, _⟩ => ⟨S1x4096x1024, .f32⟩
  | .hbm, ⟨37, _⟩ => ⟨S4096x1024, .f32⟩
  | .hbm, ⟨38, _⟩ => ⟨S8x4224x1024, .f32⟩
  | .hbm, ⟨39, _⟩ => ⟨S8x4224x1024, .f32⟩
  | .hbm, ⟨40, _⟩ => ⟨S8x4224x1024, .f32⟩
  | .hbm, ⟨41, _⟩ => ⟨S_, .f32⟩
  | .hbm, ⟨42, _⟩ => ⟨S8x4224, .f32⟩
  | .hbm, ⟨43, _⟩ => ⟨S8x4224x1, .f32⟩
  | .hbm, ⟨44, _⟩ => ⟨S_, .f32⟩
  | .hbm, ⟨45, _⟩ => ⟨S8x4224x1, .f32⟩
  | .hbm, ⟨46, _⟩ => ⟨S8x4224x1, .f32⟩
  | .hbm, ⟨47, _⟩ => ⟨S_, .f32⟩
  | .hbm, ⟨48, _⟩ => ⟨S8x4224x1, .f32⟩
  | .hbm, ⟨49, _⟩ => ⟨S8x4224x1, .f32⟩
  | .hbm, ⟨50, _⟩ => ⟨S8x4224x1, .f32⟩
  | .hbm, ⟨51, _⟩ => ⟨S8x4224x1024, .f32⟩
  | .hbm, ⟨52, _⟩ => ⟨S8x4224x1024, .f32⟩
  | .hbm, ⟨53, _⟩ => ⟨S1x1x1024, .f32⟩
  | .hbm, ⟨54, _⟩ => ⟨S8x4224x1024, .f32⟩
  | .hbm, ⟨55, _⟩ => ⟨S8x4224x1024, .f32⟩
  | .hbm, ⟨56, _⟩ => ⟨S8x4096x1024, .f32⟩
  | _, _ => ⟨S8x4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel3.lean ====
abbrev S33792x1024 : Shape := ⟨2, ![33792, 1024]⟩
abbrev S2x1024 : Shape := ⟨2, ![2, 1024]⟩
abbrev S1x1024x3080 : Shape := ⟨3, ![1, 1024, 3080]⟩
abbrev S1024x3080 : Shape := ⟨2, ![1024, 3080]⟩
abbrev S1024x512 : Shape := ⟨2, ![1024, 512]⟩
abbrev S1024x2048 : Shape := ⟨2, ![1024, 2048]⟩
abbrev S1024x2560 : Shape := ⟨2, ![1024, 2560]⟩
abbrev S2560x1024 : Shape := ⟨2, ![2560, 1024]⟩
abbrev S1024x8 : Shape := ⟨2, ![1024, 8]⟩
abbrev S_ : Shape := ⟨0, ![]⟩
abbrev S1024x128 : Shape := ⟨2, ![1024, 128]⟩
abbrev S2x1x1024 : Shape := ⟨3, ![2, 1, 1024]⟩
abbrev S1x1x1024 : Shape := ⟨3, ![1, 1, 1024]⟩
abbrev S1x1024 : Shape := ⟨2, ![1, 1024]⟩
abbrev S33792x512 : Shape := ⟨2, ![33792, 512]⟩
abbrev S33792x128 : Shape := ⟨2, ![33792, 128]⟩
abbrev S512x33792 : Shape := ⟨2, ![512, 33792]⟩
abbrev S1024x33792 : Shape := ⟨2, ![1024, 33792]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 24
  | .vmem => 16
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S1x1024x3080, .f32⟩
  | .hbm, ⟨3, _⟩ => ⟨S1024x3080, .f32⟩
  | .hbm, ⟨4, _⟩ => ⟨S1024x512, .f32⟩
  | .hbm, ⟨5, _⟩ => ⟨S1024x512, .bf16⟩
  | .hbm, ⟨6, _⟩ => ⟨S1024x512, .f32⟩
  | .hbm, ⟨7, _⟩ => ⟨S1024x2048, .f32⟩
  | .hbm, ⟨8, _⟩ => ⟨S1024x2560, .f32⟩
  | .hbm, ⟨9, _⟩ => ⟨S2560x1024, .f32⟩
  | .hbm, ⟨10, _⟩ => ⟨S2560x1024, .bf16⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S2x1x1024, .f32⟩
  | .hbm, ⟨17, _⟩ => ⟨S1x1x1024, .f32⟩
  | .hbm, ⟨18, _⟩ => ⟨S1x1024, .f32⟩
  | .hbm, ⟨19, _⟩ => ⟨S33792x512, .bf16⟩
  | .hbm, ⟨20, _⟩ => ⟨S33792x128, .f32⟩
  | .hbm, ⟨21, _⟩ => ⟨S512x33792, .bf16⟩
  | .hbm, ⟨22, _⟩ => ⟨S1024x33792, .bf16⟩
  | .hbm, ⟨23, _⟩ => ⟨S1024x33792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x128, .bf16⟩
  | .local _ .vmem, ⟨5, _⟩ => ⟨S2560x1024, .bf16⟩
  | .local _ .vmem, ⟨6, _⟩ => ⟨S512x512, .bf16⟩
  | .local _ .vmem, ⟨7, _⟩ => ⟨S512x512, .bf16⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v14_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S33792x1024 : Shape := ⟨2, ![33792, 1024]⟩
abbrev S2x1024 : Shape := ⟨2, ![2, 1024]⟩
abbrev S1x1024x3080 : Shape := ⟨3, ![1, 1024, 3080]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S1024x3080 : Shape := ⟨2, ![1024, 3080]⟩
abbrev S33792x3080 : Shape := ⟨2, ![33792, 3080]⟩
abbrev S33792x512 : Shape := ⟨2, ![33792, 512]⟩
abbrev S33792x8 : Shape := ⟨2, ![33792, 8]⟩
abbrev S33792x128 : Shape := ⟨2, ![33792, 128]⟩
abbrev S512x33792 : Shape := ⟨2, ![512, 33792]⟩
abbrev S1024x33792 : Shape := ⟨2, ![1024, 33792]⟩

abbrev nBuf : Space → Nat
  | .hbm => 40
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S1x1024x3080, .f32⟩
  | .hbm, ⟨3, _⟩ => ⟨S1x1024, .f32⟩
  | .hbm, ⟨4, _⟩ => ⟨S1024, .f32⟩
  | .hbm, ⟨5, _⟩ => ⟨S33792x1024, .f32⟩
  | .hbm, ⟨6, _⟩ => ⟨S_, .f32⟩
  | .hbm, ⟨7, _⟩ => ⟨S33792, .f32⟩
  | .hbm, ⟨8, _⟩ => ⟨S33792x1, .f32⟩
  | .hbm, ⟨9, _⟩ => ⟨S_, .f32⟩
  | .hbm, ⟨10, _⟩ => ⟨S33792x1, .f32⟩
  | .hbm, ⟨11, _⟩ => ⟨S33792x1, .f32⟩
  | .hbm, ⟨12, _⟩ => ⟨S_, .f32⟩
  | .hbm, ⟨13, _⟩ => ⟨S33792x1, .f32⟩
  | .hbm, ⟨14, _⟩ => ⟨S33792x1, .f32⟩
  | .hbm, ⟨15, _⟩ => ⟨S33792x1, .f32⟩
  | .hbm, ⟨16, _⟩ => ⟨S33792x1024, .f32⟩
  | .hbm, ⟨17, _⟩ => ⟨S33792x1024, .f32⟩
  | .hbm, ⟨18, _⟩ => ⟨S1x1024, .f32⟩
  | .hbm, ⟨19, _⟩ => ⟨S33792x1024, .f32⟩
  | .hbm, ⟨20, _⟩ => ⟨S33792x1024, .f32⟩
  | .hbm, ⟨21, _⟩ => ⟨S1024x3080, .f32⟩
  | .hbm, ⟨22, _⟩ => ⟨S33792x3080, .f32⟩
  | .hbm, ⟨23, _⟩ => ⟨S33792x512, .f32⟩
  | .hbm, ⟨24, _⟩ => ⟨S33792x512, .f32⟩
  | .hbm, ⟨25, _⟩ => ⟨S33792x1024, .f32⟩
  | .hbm, ⟨26, _⟩ => ⟨S33792x1024, .f32⟩
  | .hbm, ⟨27, _⟩ => ⟨S33792x8, .f32⟩
  | .hbm, ⟨28, _⟩ => ⟨S_, .f32⟩
  | .hbm, ⟨29, _⟩ => ⟨S33792x512, .f32⟩
  | .hbm, ⟨30, _⟩ => ⟨S33792x512, .f32⟩
  | .hbm, ⟨31, _⟩ => ⟨S33792x512, .bf16⟩
  | .hbm, ⟨32, _⟩ => ⟨S_, .i32⟩
  | .hbm, ⟨33, _⟩ => ⟨S_, .f32⟩
  | .hbm, ⟨34, _⟩ => ⟨S33792x128, .f32⟩
  | .hbm, ⟨35, _⟩ => ⟨S512x33792, .f32⟩
  | .hbm, ⟨36, _⟩ => ⟨S512x33792, .bf16⟩
  | .hbm, ⟨37, _⟩ => ⟨S1024x33792, .f32⟩
  | .hbm, ⟨38, _⟩ => ⟨S1024x33792, .bf16⟩
  | .hbm, ⟨39, _⟩ => ⟨S1024x33792, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel4.lean ====
abbrev S8x4224x1024 : Shape := ⟨3, ![8, 4224, 1024]⟩
abbrev S8x4096x1024 : Shape := ⟨3, ![8, 4096, 1024]⟩
abbrev S16x1024 : Shape := ⟨2, ![16, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x384x1024 : Shape := ⟨3, ![1, 384, 1024]⟩
abbrev S1x16x1024 : Shape := ⟨3, ![1, 16, 1024]⟩
abbrev S1x368x1024 : Shape := ⟨3, ![1, 368, 1024]⟩
abbrev S368x1024 : Shape := ⟨2, ![368, 1024]⟩
abbrev S384x1024 : Shape := ⟨2, ![384, 1024]⟩
abbrev S384x1 : Shape := ⟨2, ![384, 1]⟩
abbrev S384 : Shape := ⟨1, ![384]⟩

abbrev nBuf : Space → Nat
  | .hbm => 21
  | .vmem => 14
  | .smem => 0
  | _ => 0

abbrev bufTy : (tb : Table) → Fin (tcTables nBuf tb) → BufTy
  | .hbm, ⟨0, _⟩ => ⟨S8x4224x1024, .bf16⟩
  | .hbm, ⟨1, _⟩ => ⟨S8x4096x1024, .f32⟩
  | .hbm, ⟨2, _⟩ => ⟨S16x1024, .f32⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S2x1024x4096, .bf16⟩
  | .hbm, ⟨11, _⟩ => ⟨S2x4096x1024, .bf16⟩
  | .hbm, ⟨12, _⟩ => ⟨S2x1x1024, .f32⟩
  | .hbm, ⟨13, _⟩ => ⟨S1x1x1024, .f32⟩
  | .hbm, ⟨14, _⟩ => ⟨S1x1024, .f32⟩
  | .hbm, ⟨15, _⟩ => ⟨S1x1024x4096, .bf16⟩
  | .hbm, ⟨16, _⟩ => ⟨S1024x4096, .bf16⟩
  | .hbm, ⟨17, _⟩ => ⟨S1x4096x1024, .bf16⟩
  | .hbm, ⟨18, _⟩ => ⟨S4096x1024, .bf16⟩
  | .hbm, ⟨19, _⟩ => ⟨S1x1024, .f32⟩
  | .hbm, ⟨20, _⟩ => ⟨S8x4224x1024, .f32⟩
  | .local _ .vmem, ⟨0, _⟩ => ⟨S1x384x1024, .bf16⟩
  | .local _ .vmem, ⟨1, _⟩ => ⟨S1x384x1024, .bf16⟩
  | .local _ .vmem, ⟨2, _⟩ => ⟨S1x16x1024, .f32⟩
  | .local _ .vmem, ⟨3, _⟩ => ⟨S1x16x1024, .f32⟩
  | .local _ .vmem, ⟨4, _⟩ => ⟨S1x384x1024, .f32⟩
  | .local _ .vmem, ⟨5, _⟩ => ⟨S1x384x1024, .f32⟩
  | .local _ .vmem, ⟨6, _⟩ => ⟨S16x1024, .f32⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x384x1024, .f32⟩
  | .local _ .vmem, ⟨13, _⟩ => ⟨S1x384x1024, .f32⟩
  | _, _ => ⟨S8x4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg1 c24_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x4224x1024 : Shape := ⟨3, ![8, 4224, 1024]⟩
abbrev S8x4096x1024 : Shape := ⟨3, ![8, 4096, 1024]⟩
abbrev S16x1024 : Shape := ⟨2, ![16, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S_ : Shape := ⟨0, ![]⟩
abbrev S1024x1024 : Shape := ⟨2, ![1024, 1024]⟩
abbrev S1x1024 : Shape := ⟨2, ![1, 1024]⟩
abbrev S8x4224 : Shape := ⟨2, ![8, 4224]⟩
abbrev S8x4224x1 : Shape := ⟨3, ![8, 4224, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4224x4096 : Shape := ⟨3, ![8, 4224, 4096]⟩
abbrev S1x4096x1024 : Shape := ⟨3, ![1, 4096, 1024]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x4224x1024, .bf16⟩
  | .hbm, ⟨1, _⟩ => ⟨S8x4096x1024, .f32⟩
  | .hbm, ⟨2, _⟩ => ⟨S16x1024, .f32⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S1x16x1024, .f32⟩
  | .hbm, ⟨9, _⟩ => ⟨S8x16x1024, .f32⟩
  | .hbm, ⟨10, _⟩ => ⟨S8x4112x1024, .f32⟩
  | .hbm, ⟨11, _⟩ => ⟨S_, .i32⟩
  | .hbm, ⟨12, _⟩ => ⟨S_, .f32⟩
  | .hbm, ⟨13, _⟩ => ⟨S8x4224x1024, .f32⟩
  | .hbm, ⟨14, _⟩ => ⟨S8x4224x1024, .f32⟩
  | .hbm, ⟨15, _⟩ => ⟨S1024x1024, .f32⟩
  | .hbm, ⟨16, _⟩ => ⟨S8x4224x1024, .f32⟩
  | .hbm, ⟨17, _⟩ => ⟨S8x4224x1024, .f32⟩
  | .hbm, ⟨18, _⟩ => ⟨S1x1024, .f32⟩
  | .hbm, ⟨19, _⟩ => ⟨S1024, .f32⟩
  | .hbm, ⟨20, _⟩ => ⟨S8x4224x1024, .f32⟩
  | .hbm, ⟨21, _⟩ => ⟨S_, .f32⟩
  | .hbm, ⟨22, _⟩ => ⟨S8x4224, .f32⟩
  | .hbm, ⟨23, _⟩ => ⟨S8x4224x1, .f32⟩
  | .hbm, ⟨24, _⟩ => ⟨S_, .f32⟩
  | .hbm, ⟨25, _⟩ => ⟨S8x4224x1, .f32⟩
  | .hbm, ⟨26, _⟩ => ⟨S8x4224x1, .f32⟩
  | .hbm, ⟨27, _⟩ => ⟨S_, .f32⟩
  | .hbm, ⟨28, _⟩ => ⟨S8x4224x1, .f32⟩
  | .hbm, ⟨29, _⟩ => ⟨S8x4224x1, .f32⟩
  | .hbm, ⟨30, _⟩ => ⟨S8x4224x1, .f32⟩
  | .hbm, ⟨31, _⟩ => ⟨S8x4224x1024, .f32⟩
  | .hbm, ⟨32, _⟩ => ⟨S8x4224x1024, .f32⟩
  | .hbm, ⟨33, _⟩ => ⟨S1x1x1024, .f32⟩
  | .hbm, ⟨34, _⟩ => ⟨S8x4224x1024, .f32⟩
  | .hbm, ⟨35, _⟩ => ⟨S8x4224x1024, .f32⟩
  | .hbm, ⟨36, _⟩ => ⟨S1x1024x4096, .f32⟩
  | .hbm, ⟨37, _⟩ => ⟨S1024x4096, .f32⟩
  | .hbm, ⟨38, _⟩ => ⟨S8x4224x4096, .f32⟩
  | .hbm, ⟨39, _⟩ => ⟨S_, .f32⟩
  | .hbm, ⟨40, _⟩ => ⟨S8x4224x4096, .f32⟩
  | .hbm, ⟨41, _⟩ => ⟨S8x4224x4096, .f32⟩
  | .hbm, ⟨42, _⟩ => ⟨S8x4224x4096, .f32⟩
  | .hbm, ⟨43, _⟩ => ⟨S1x4096x1024, .f32⟩
  | .hbm, ⟨44, _⟩ => ⟨S4096x1024, .f32⟩
  | .hbm, ⟨45, _⟩ => ⟨S8x4224x1024, .f32⟩
  | .hbm, ⟨46, _⟩ => ⟨S8x4224x1024, .f32⟩
  | _, _ => ⟨S8x4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call1_cst : Ref sig .tc := ⟨.hbm, 39, rfl⟩
abbrev main_call1_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel5.lean ====
abbrev S1024x1024 : Shape := ⟨2, ![1024, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S2x1x1024 : Shape := ⟨3, ![2, 1, 1024]⟩
abbrev S1x1x1024 : Shape := ⟨3, ![1, 1, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 11
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S2x1024x4096, .bf16⟩
  | .hbm, ⟨10, _⟩ => ⟨S2x4096x1024, .bf16⟩
  | .hbm, ⟨11, _⟩ => ⟨S2x1x1024, .f32⟩
  | .hbm, ⟨12, _⟩ => ⟨S1x1x1024, .f32⟩
  | .hbm, ⟨13, _⟩ => ⟨S1x1024, .f32⟩
  | .hbm, ⟨14, _⟩ => ⟨S1x1024x4096, .bf16⟩
  | .hbm, ⟨15, _⟩ => ⟨S1024x4096, .bf16⟩
  | .hbm, ⟨16, _⟩ => ⟨S1x4096x1024, .bf16⟩
  | .hbm, ⟨17, _⟩ => ⟨S4096x1024, .bf16⟩
  | .hbm, ⟨18, _⟩ => ⟨S1x1024, .f32⟩
  | .hbm, ⟨19, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S1024x1024 : Shape := ⟨2, ![1024, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S1024x1 : Shape := ⟨2, ![1024, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024, .f32⟩
  | .hbm, ⟨12, _⟩ => ⟨S1024, .f32⟩
  | .hbm, ⟨13, _⟩ => ⟨S1024x1024, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S_, .f32⟩
  | .hbm, ⟨21, _⟩ => ⟨S1024x1, .f32⟩
  | .hbm, ⟨22, _⟩ => ⟨S1024x1, .f32⟩
  | .hbm, ⟨23, _⟩ => ⟨S1024x1, .f32⟩
  | .hbm, ⟨24, _⟩ => ⟨S1024x1024, .f32⟩
  | .hbm, ⟨25, _⟩ => ⟨S1024x1024, .f32⟩
  | .hbm, ⟨26, _⟩ => ⟨S1x1024, .f32⟩
  | .hbm, ⟨27, _⟩ => ⟨S1024x1024, .f32⟩
  | .hbm, ⟨28, _⟩ => ⟨S1024x1024, .f32⟩
  | .hbm, ⟨29, _⟩ => ⟨S1x1024x4096, .f32⟩
  | .hbm, ⟨30, _⟩ => ⟨S1024x4096, .f32⟩
  | .hbm, ⟨31, _⟩ => ⟨S1024x4096, .f32⟩
  | .hbm, ⟨32, _⟩ => ⟨S_, .f32⟩
  | .hbm, ⟨33, _⟩ => ⟨S1024x4096, .f32⟩
  | .hbm, ⟨34, _⟩ => ⟨S1024x4096, .f32⟩
  | .hbm, ⟨35, _⟩ => ⟨S1024x4096, .f32⟩
  | .hbm, ⟨36, _⟩ => ⟨S1x4096x1024, .f32⟩
  | .hbm, ⟨37, _⟩ => ⟨S4096x1024, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x1, .f32⟩
  | .hbm, ⟨51, _⟩ => ⟨S1024x1024, .f32⟩
  | .hbm, ⟨52, _⟩ => ⟨S1024x1024, .f32⟩
  | .hbm, ⟨53, _⟩ => ⟨S1x1024, .f32⟩
  | .hbm, ⟨54, _⟩ => ⟨S1024x1024, .f32⟩
  | .hbm, ⟨55, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel6.lean ====
abbrev S8x512x1024 : Shape := ⟨3, ![8, 512, 1024]⟩
abbrev S2x1024 : Shape := ⟨2, ![2, 1024]⟩
abbrev S1x1024x3088 : Shape := ⟨3, ![1, 1024, 3088]⟩
abbrev S1x16 : Shape := ⟨2, ![1, 16]⟩
abbrev S1x64 : Shape := ⟨2, ![1, 64]⟩
abbrev S1024x3088 : Shape := ⟨2, ![1024, 3088]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S1024x1 : Shape := ⟨2, ![1024, 1]⟩
abbrev S128x1024 : Shape := ⟨2, ![128, 1024]⟩
abbrev S256x1024 : Shape := ⟨2, ![256, 1024]⟩
abbrev S2x1x1024 : Shape := ⟨3, ![2, 1, 1024]⟩
abbrev S1x1x1024 : Shape := ⟨3, ![1, 1, 1024]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S8x4x1024x128 : Shape := ⟨4, ![8, 4, 1024, 128]⟩
abbrev S8x512x128 : Shape := ⟨3, ![8, 512, 128]⟩
abbrev S8x128x512 : Shape := ⟨3, ![8, 128, 512]⟩
abbrev S32x16x32 : Shape := ⟨3, ![32, 16, 32]⟩
abbrev S1x512x1024 : Shape := ⟨3, ![1, 512, 1024]⟩
abbrev S1x4x1024x128 : Shape := ⟨4, ![1, 4, 1024, 128]⟩
abbrev S1x512x128 : Shape := ⟨3, ![1, 512, 128]⟩
abbrev S1x128x512 : Shape := ⟨3, ![1, 128, 512]⟩
abbrev S4x16x32 : Shape := ⟨3, ![4, 16, 32]⟩
abbrev S512x1024 : Shape := ⟨2, ![512, 1024]⟩
abbrev S1024x1024 : Shape := ⟨2, ![1024, 1024]⟩
abbrev S512x128 : Shape := ⟨2, ![512, 128]⟩
abbrev S512x256 : Shape := ⟨2, ![512, 256]⟩
abbrev S1024x512 : Shape := ⟨2, ![1024, 512]⟩
abbrev S1x1x1024x128 : Shape := ⟨4, ![1, 1, 1024, 128]⟩
abbrev S512x384 : Shape := ⟨2, ![512, 384]⟩
abbrev S128x512 : Shape := ⟨2, ![128, 512]⟩
abbrev S16x32 : Shape := ⟨2, ![16, 32]⟩
abbrev S1x16x32 : Shape := ⟨3, ![1, 16, 32]⟩

abbrev nBuf : Space → Nat
  | .hbm => 122
  | .vmem => 30
  | .smem => 0
  | _ => 0

abbrev bufTy : (tb : Table) → Fin (tcTables nBuf tb) → BufTy
  | .hbm, ⟨0, _⟩ => ⟨S8x512x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1x64, .f32⟩
  | .hbm, ⟨5, _⟩ => ⟨S1x64, .f32⟩
  | .hbm, ⟨6, _⟩ => ⟨S1024x3088, .f32⟩
  | .hbm, ⟨7, _⟩ => ⟨S1024x3072, .f32⟩
  | .hbm, ⟨8, _⟩ => ⟨S1024x3072, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S16, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S64, .f32⟩
  | .hbm, ⟨20, _⟩ => ⟨S1x64, .f32⟩
  | .hbm, ⟨21, _⟩ => ⟨S16x64, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S64, .f32⟩
  | .hbm, ⟨28, _⟩ => ⟨S1x64, .f32⟩
  | .hbm, ⟨29, _⟩ => ⟨S16x64, .f32⟩
  | .hbm, ⟨30, _⟩ => ⟨S1024, .f32⟩
  | .hbm, ⟨31, _⟩ => ⟨S1x1024, .f32⟩
  | .hbm, ⟨32, _⟩ => ⟨S1024, .i32⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1024x1, .i32⟩
  | .hbm, ⟨52, _⟩ => ⟨S128, .i32⟩
  | .hbm, ⟨53, _⟩ => ⟨S1x128, .i32⟩
  | .hbm, ⟨54, _⟩ => ⟨S1024x128, .i32⟩
  | .hbm, ⟨55, _⟩ => ⟨S1024x128, .i32⟩
  | .hbm, ⟨56, _⟩ => ⟨S1024x128, .i1⟩
  | .hbm, ⟨57, _⟩ => ⟨S1024x128, .bf16⟩
  | .hbm, ⟨58, _⟩ => ⟨S128x1024, .bf16⟩
  | .hbm, ⟨59, _⟩ => ⟨S128x1024, .bf16⟩
  | .hbm, ⟨60, _⟩ => ⟨S256x1024, .bf16⟩
  | .hbm, ⟨61, _⟩ => ⟨S2x1x1024, .f32⟩
  | .hbm, ⟨62, _⟩ => ⟨S1x1x1024, .f32⟩
  | .hbm, ⟨63, _⟩ => ⟨S1x1024, .f32⟩
  | .hbm, ⟨64, _⟩ => ⟨S512, .i32⟩
  | .hbm, ⟨65, _⟩ => ⟨S1x512, .i32⟩
  | .hbm, ⟨66, _⟩ => ⟨S512x1, .i32⟩
  | .hbm, ⟨67, _⟩ => ⟨S512x512, .i32⟩
  | .hbm, ⟨68, _⟩ => ⟨S512x512, .i32⟩
  | .hbm, ⟨69, _⟩ => ⟨S512x512, .i1⟩
  | .hbm, ⟨70, _⟩ => ⟨S1x512, .i32⟩
  | .hbm, ⟨71, _⟩ => ⟨S_, .i32⟩
  | .hbm, ⟨72, _⟩ => ⟨S_, .i32⟩
  | .hbm, ⟨73, _⟩ => ⟨S1x512, .i32⟩
  | .hbm, ⟨74, _⟩ => ⟨S1x512, .i32⟩
  | .hbm, ⟨75, _⟩ => ⟨S1x512, .i32⟩
  | .hbm, ⟨76, _⟩ => ⟨S_, .i32⟩
  | .hbm, ⟨77, _⟩ => ⟨S1x512, .i32⟩
  | .hbm, ⟨78, _⟩ => ⟨S1x512, .i1⟩
  | .hbm, ⟨79, _⟩ => ⟨S1x512, .i32⟩
  | .hbm, ⟨80, _⟩ => ⟨S1x512, .i32⟩
  | .hbm, ⟨81, _⟩ => ⟨S_, .i32⟩
  | .hbm, ⟨82, _⟩ => ⟨S1x512, .i32⟩
  | .hbm, ⟨83, _⟩ => ⟨S1x512, .i1⟩
  | .hbm, ⟨84, _⟩ => ⟨S1x512, .i1⟩
  | .hbm, ⟨85, _⟩ => ⟨S_, .i32⟩
  | .hbm, ⟨86, _⟩ => ⟨S1x512, .i32⟩
  | .hbm, ⟨87, _⟩ => ⟨S1x512, .i32⟩
  | .hbm, ⟨88, _⟩ => ⟨S1x512, .i32⟩
  | .hbm, ⟨89, _⟩ => ⟨S512x1, .i32⟩
  | .hbm, ⟨90, _⟩ => ⟨S_, .i32⟩
  | .hbm, ⟨91, _⟩ => ⟨S_, .i32⟩
  | .hbm, ⟨92, _⟩ => ⟨S512x1, .i32⟩
  | .hbm, ⟨93, _⟩ => ⟨S512x1, .i32⟩
  | .hbm, ⟨94, _⟩ => ⟨S512x1, .i32⟩
  | .hbm, ⟨95, _⟩ => ⟨S_, .i32⟩
  | .hbm, ⟨96, _⟩ => ⟨S512x1, .i32⟩
  | .hbm, ⟨97, _⟩ => ⟨S512x1, .i1⟩
  | .hbm, ⟨98, _⟩ => ⟨S512x1, .i32⟩
  | .hbm, ⟨99, _⟩ => ⟨S512x1, .i32⟩
  | .hbm, ⟨100, _⟩ => ⟨S_, .i32⟩
  | .hbm, ⟨101, _⟩ => ⟨S512x1, .i32⟩
  | .hbm, ⟨102, _⟩ => ⟨S512x1, .i1⟩
  | .hbm, ⟨103, _⟩ => ⟨S512x1, .i1⟩
  | .hbm, ⟨104, _⟩ => ⟨S_, .i32⟩
  | .hbm, ⟨105, _⟩ => ⟨S512x1, .i32⟩
  | .hbm, ⟨106, _⟩ => ⟨S512x1, .i32⟩
  | .hbm, ⟨107, _⟩ => ⟨S512x1, .i32⟩
  | .hbm, ⟨108, _⟩ => ⟨S512x512, .i32⟩
  | .hbm, ⟨109, _⟩ => ⟨S512x512, .i32⟩
  | .hbm, ⟨110, _⟩ => ⟨S512x512, .i1⟩
  | .hbm, ⟨111, _⟩ => ⟨S512x512, .i1⟩
  | .hbm, ⟨112, _⟩ => ⟨S512x512, .bf16⟩
  | .hbm, ⟨113, _⟩ => ⟨S8x512x1024, .bf16⟩
  | .hbm, ⟨114, _⟩ => ⟨S8x512x1024, .bf16⟩
  | .hbm, ⟨115, _⟩ => ⟨S8x4x1024x128, .bf16⟩
  | .hbm, ⟨116, _⟩ => ⟨S8x512x1024, .f32⟩
  | .hbm, ⟨117, _⟩ => ⟨S8x512x1024, .f32⟩
  | .hbm, ⟨118, _⟩ => ⟨S8x512x128, .bf16⟩
  | .hbm, ⟨119, _⟩ => ⟨S8x512x128, .bf16⟩
  | .hbm, ⟨120, _⟩ => ⟨S8x128x512, .bf16⟩
  | .hbm, ⟨121, _⟩ => ⟨S32x16x32, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S1x1024, .f32⟩
  | .local _ .vmem, ⟨7, _⟩ => ⟨S1x1024, .f32⟩
  | .local _ .vmem, ⟨8, _⟩ => ⟨S1024x128, .bf16⟩
  | .local _ .vmem, ⟨9, _⟩ => ⟨S256x1024, .bf16⟩
  | .local _ .vmem, ⟨10, _⟩ => ⟨S512x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x4x1024x128, .bf16⟩
  | .local _ .vmem, ⟨16, _⟩ => ⟨S1x4x1024x128, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .bf16⟩
  | .local _ .vmem, ⟨25, _⟩ => ⟨S1x128x512, .bf16⟩
  | .local _ .vmem, ⟨26, _⟩ => ⟨S1x128x512, .bf16⟩
  | .local _ .vmem, ⟨27, _⟩ => ⟨S4x16x32, .f32⟩
  | .local _ .vmem, ⟨28, _⟩ => ⟨S4x16x32, .f32⟩
  | .local _ .vmem, ⟨29, _⟩ => ⟨S1x128, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_2 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_c : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_0 : Ref sig .tc := ⟨.hbm, 85, rfl⟩
abbrev main_call3_v12 : Ref sig .tc := ⟨.hbm, 86, rfl⟩
abbrev main_call3_v13 : Ref sig .tc := ⟨.hbm, 87, rfl⟩
abbrev main_v43 : Ref sig .tc := ⟨.hbm, 88, rfl⟩
abbrev main_v44 : Ref sig .tc := ⟨.hbm, 89, rfl⟩
abbrev main_c_3 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_c : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_c_0 : Ref sig .tc := ⟨.hbm, 104, rfl⟩
abbrev main_call4_v12 : Ref sig .tc := ⟨.hbm, 105, rfl⟩
abbrev main_call4_v13 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51_0 : Ref sig .tc := ⟨.hbm, 113, rfl⟩
abbrev main_v51_1 : Ref sig .tc := ⟨.hbm, 114, rfl⟩
abbrev main_v51_2 : Ref sig .tc := ⟨.hbm, 115, rfl⟩
abbrev main_v51_3 : Ref sig .tc := ⟨.hbm, 116, rfl⟩
abbrev main_v51_4 : Ref sig .tc := ⟨.hbm, 117, rfl⟩
abbrev main_v51_5 : Ref sig .tc := ⟨.hbm, 118, rfl⟩
abbrev main_v51_6 : Ref sig .tc := ⟨.hbm, 119, rfl⟩
abbrev main_v51_7 : Ref sig .tc := ⟨.hbm, 120, rfl⟩
abbrev main_v51_8 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S4x16x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference6Ideal.lean ====
abbrev S8x512x1024 : Shape := ⟨3, ![8, 512, 1024]⟩
abbrev S2x1024 : Shape := ⟨2, ![2, 1024]⟩
abbrev S1x1024x3088 : Shape := ⟨3, ![1, 1024, 3088]⟩
abbrev S1x16 : Shape := ⟨2, ![1, 16]⟩
abbrev S1x64 : Shape := ⟨2, ![1, 64]⟩
abbrev S1x1024 : Shape := ⟨2, ![1, 1024]⟩
abbrev S1024 : Shape := ⟨1, ![1024]⟩
abbrev S_ : Shape := ⟨0, ![]⟩
abbrev S8x512 : Shape := ⟨2, ![8, 512]⟩
abbrev S8x512x1 : Shape := ⟨3, ![8, 512, 1]⟩
abbrev S1x1x1024 : Shape := ⟨3, ![1, 1, 1024]⟩
abbrev S1024x3088 : Shape := ⟨2, ![1024, 3088]⟩
abbrev S8x512x3088 : Shape := ⟨3, ![8, 512, 3088]⟩
abbrev S8x512x16 : Shape := ⟨3, ![8, 512, 16]⟩
abbrev S8x512x16x64 : Shape := ⟨4, ![8, 512, 16, 64]⟩
abbrev S64 : Shape := ⟨1, ![64]⟩
abbrev S8x512x16x1 : Shape := ⟨4, ![8, 512, 16, 1]⟩
abbrev S1x1x1x64 : Shape := ⟨4, ![1, 1, 1, 64]⟩
abbrev S16 : Shape := ⟨1, ![16]⟩
abbrev S1x1x16 : Shape := ⟨3, ![1, 1, 16]⟩
abbrev S32x128x16 : Shape := ⟨3, ![32, 128, 16]⟩
abbrev S32x32x16 : Shape := ⟨3, ![32, 32, 16]⟩
abbrev S32x16x32 : Shape := ⟨3, ![32, 16, 32]⟩

abbrev nBuf : Space → Nat
  | .hbm => 72
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1x64, .f32⟩
  | .hbm, ⟨5, _⟩ => ⟨S1x64, .f32⟩
  | .hbm, ⟨6, _⟩ => ⟨S1x1024, .f32⟩
  | .hbm, ⟨7, _⟩ => ⟨S1024, .f32⟩
  | .hbm, ⟨8, _⟩ => ⟨S8x512x1024, .f32⟩
  | .hbm, ⟨9, _⟩ => ⟨S_, .f32⟩
  | .hbm, ⟨10, _⟩ => ⟨S8x512, .f32⟩
  | .hbm, ⟨11, _⟩ => ⟨S8x512x1, .f32⟩
  | .hbm, ⟨12, _⟩ => ⟨S_, .f32⟩
  | .hbm, ⟨13, _⟩ => ⟨S8x512x1, .f32⟩
  | .hbm, ⟨14, _⟩ => ⟨S8x512x1, .f32⟩
  | .hbm, ⟨15, _⟩ => ⟨S_, .f32⟩
  | .hbm, ⟨16, _⟩ => ⟨S8x512x1, .f32⟩
  | .hbm, ⟨17, _⟩ => ⟨S8x512x1, .f32⟩
  | .hbm, ⟨18, _⟩ => ⟨S8x512x1, .f32⟩
  | .hbm, ⟨19, _⟩ => ⟨S8x512x1024, .f32⟩
  | .hbm, ⟨20, _⟩ => ⟨S8x512x1024, .f32⟩
  | .hbm, ⟨21, _⟩ => ⟨S1x1x1024, .f32⟩
  | .hbm, ⟨22, _⟩ => ⟨S8x512x1024, .f32⟩
  | .hbm, ⟨23, _⟩ => ⟨S8x512x1024, .f32⟩
  | .hbm, ⟨24, _⟩ => ⟨S1024x3088, .f32⟩
  | .hbm, ⟨25, _⟩ => ⟨S8x512x3088, .f32⟩
  | .hbm, ⟨26, _⟩ => ⟨S8x512x1024, .f32⟩
  | .hbm, ⟨27, _⟩ => ⟨S8x512x1024, .f32⟩
  | .hbm, ⟨28, _⟩ => ⟨S8x512x1024, .f32⟩
  | .hbm, ⟨29, _⟩ => ⟨S8x512x16, .f32⟩
  | .hbm, ⟨30, _⟩ => ⟨S8x512x16x64, .f32⟩
  | .hbm, ⟨31, _⟩ => ⟨S64, .f32⟩
  | .hbm, ⟨32, _⟩ => ⟨S8x512x16x64, .f32⟩
  | .hbm, ⟨33, _⟩ => ⟨S_, .f32⟩
  | .hbm, ⟨34, _⟩ => ⟨S8x512x16, .f32⟩
  | .hbm, ⟨35, _⟩ => ⟨S8x512x16x1, .f32⟩
  | .hbm, ⟨36, _⟩ => ⟨S_, .f32⟩
  | .hbm, ⟨37, _⟩ => ⟨S8x512x16x1, .f32⟩
  | .hbm, ⟨38, _⟩ => ⟨S8x512x16x1, .f32⟩
  | .hbm, ⟨39, _⟩ => ⟨S_, .f32⟩
  | .hbm, ⟨40, _⟩ => ⟨S8x512x16x1, .f32⟩
  | .hbm, ⟨41, _⟩ => ⟨S8x512x16x1, .f32⟩
  | .hbm, ⟨42, _⟩ => ⟨S8x512x16x1, .f32⟩
  | .hbm, ⟨43, _⟩ => ⟨S8x512x16x64, .f32⟩
  | .hbm, ⟨44, _⟩ => ⟨S8x512x16x64, .f32⟩
  | .hbm, ⟨45, _⟩ => ⟨S1x1x1x64, .f32⟩
  | .hbm, ⟨46, _⟩ => ⟨S8x512x16x64, .f32⟩
  | .hbm, ⟨47, _⟩ => ⟨S8x512x16x64, .f32⟩
  | .hbm, ⟨48, _⟩ => ⟨S16, .f32⟩
  | .hbm, ⟨49, _⟩ => ⟨S1x1x16, .f32⟩
  | .hbm, ⟨50, _⟩ => ⟨S8x512x16, .f32⟩
  | .hbm, ⟨51, _⟩ => ⟨S8x512x16, .f32⟩
  | .hbm, ⟨52, _⟩ => ⟨S8x512x16, .f32⟩
  | .hbm, ⟨53, _⟩ => ⟨S_, .f32⟩
  | .hbm, ⟨54, _⟩ => ⟨S8x512x16, .f32⟩
  | .hbm, ⟨55, _⟩ => ⟨S8x512x16, .f32⟩
  | .hbm, ⟨56, _⟩ => ⟨S8x512x16, .f32⟩
  | .hbm, ⟨57, _⟩ => ⟨S8x512x16, .f32⟩
  | .hbm, ⟨58, _⟩ => ⟨S8x512x16, .i1⟩
  | .hbm, ⟨59, _⟩ => ⟨S8x512x16, .f32⟩
  | .hbm, ⟨60, _⟩ => ⟨S8x512x16, .f32⟩
  | .hbm, ⟨61, _⟩ => ⟨S8x512x16, .f32⟩
  | .hbm, ⟨62, _⟩ => ⟨S8x512x16, .f32⟩
  | .hbm, ⟨63, _⟩ => ⟨S8x512x16, .f32⟩
  | .hbm, ⟨64, _⟩ => ⟨S8x512x16, .f32⟩
  | .hbm, ⟨65, _⟩ => ⟨S8x512x16, .f32⟩
  | .hbm, ⟨66, _⟩ => ⟨S8x512x16, .f32⟩
  | .hbm, ⟨67, _⟩ => ⟨S8x512x16, .f32⟩
  | .hbm, ⟨68, _⟩ => ⟨S32x128x16, .f32⟩
  | .hbm, ⟨69, _⟩ => ⟨S32x32x16, .f32⟩
  | .hbm, ⟨70, _⟩ => ⟨S8x512x1024, .f32⟩
  | .hbm, ⟨71, _⟩ => ⟨S32x16x32, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Kernel7.lean ====
abbrev S8x4096x1024 : Shape := ⟨3, ![8, 4096, 1024]⟩
abbrev S16x1024 : Shape := ⟨2, ![16, 1024]⟩
abbrev S2x1024 : Shape := ⟨2, ![2, 1024]⟩
abbrev S1x1024x3088 : Shape := ⟨3, ![1, 1024, 3088]⟩
abbrev S1x16 : Shape := ⟨2, ![1, 16]⟩
abbrev S1x64 : Shape := ⟨2, ![1, 64]⟩
abbrev S1024x3088 : Shape := ⟨2, ![1024, 3088]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S1024x1 : Shape := ⟨2, ![1024, 1]⟩
abbrev S128x1024 : Shape := ⟨2, ![128, 1024]⟩
abbrev S256x1024 : Shape := ⟨2, ![256, 1024]⟩
abbrev S2x1x1024 : Shape := ⟨3, ![2, 1, 1024]⟩
abbrev S1x1x1024 : Shape := ⟨3, ![1, 1, 1024]⟩
abbrev S384 : Shape := ⟨1, ![384]⟩
abbrev S1x384 : Shape := ⟨2, ![1, 384]⟩
abbrev S384x1 : Shape := ⟨2, ![384, 1]⟩
abbrev S384x384 : Shape := ⟨2, ![384, 384]⟩
abbrev S8x4224x1024 : Shape := ⟨3, ![8, 4224, 1024]⟩
abbrev S8x33x1024x128 : Shape := ⟨4, ![8, 33, 1024, 128]⟩
abbrev S8x1024x4112 : Shape := ⟨3, ![8, 1024, 4112]⟩
abbrev S8x4224x128 : Shape := ⟨3, ![8, 4224, 128]⟩
abbrev S8x128x4224 : Shape := ⟨3, ![8, 128, 4224]⟩
abbrev S8x16x4112 : Shape := ⟨3, ![8, 16, 4112]⟩
abbrev S1x16x1024 : Shape := ⟨3, ![1, 16, 1024]⟩
abbrev S1x384x1024 : Shape := ⟨3, ![1, 384, 1024]⟩
abbrev S1x3x1024x128 : Shape := ⟨4, ![1, 3, 1024, 128]⟩
abbrev S1x1024x384 : Shape := ⟨3, ![1, 1024, 384]⟩
abbrev S1x384x128 : Shape := ⟨3, ![1, 384, 128]⟩
abbrev S1x128x384 : Shape := ⟨3, ![1, 128, 384]⟩
abbrev S1x16x384 : Shape := ⟨3, ![1, 16, 384]⟩
abbrev S1x368x1024 : Shape := ⟨3, ![1, 368, 1024]⟩
abbrev S368x1024 : Shape := ⟨2, ![368, 1024]⟩
abbrev S384x1024 : Shape := ⟨2, ![384, 1024]⟩
abbrev S1024x1024 : Shape := ⟨2, ![1024, 1024]⟩
abbrev S384x128 : Shape := ⟨2, ![384, 128]⟩
abbrev S384x256 : Shape := ⟨2, ![384, 256]⟩
abbrev S1024x384 : Shape := ⟨2, ![1024, 384]⟩
abbrev S1x1x1024x128 : Shape := ⟨4, ![1, 1, 1024, 128]⟩
abbrev S128x384 : Shape := ⟨2, ![128, 384]⟩
abbrev S16x384 : Shape := ⟨2, ![16, 384]⟩

abbrev nBuf : Space → Nat
  | .hbm => 123
  | .vmem => 33
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S2x1024, .f32⟩
  | .hbm, ⟨3, _⟩ => ⟨S1x1024x3088, .f32⟩
  | .hbm, ⟨4, _⟩ => ⟨S1x16, .f32⟩
  | .hbm, ⟨5, _⟩ => ⟨S1x64, .f32⟩
  | .hbm, ⟨6, _⟩ => ⟨S1x64, .f32⟩
  | .hbm, ⟨7, _⟩ => ⟨S1024x3088, .f32⟩
  | .hbm, ⟨8, _⟩ => ⟨S1024x3072, .f32⟩
  | .hbm, ⟨9, _⟩ => ⟨S1024x3072, .bf16⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S16, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S64, .f32⟩
  | .hbm, ⟨21, _⟩ => ⟨S1x64, .f32⟩
  | .hbm, ⟨22, _⟩ => ⟨S16x64, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S64, .f32⟩
  | .hbm, ⟨29, _⟩ => ⟨S1x64, .f32⟩
  | .hbm, ⟨30, _⟩ => ⟨S16x64, .f32⟩
  | .hbm, ⟨31, _⟩ => ⟨S1024, .f32⟩
  | .hbm, ⟨32, _⟩ => ⟨S1x1024, .f32⟩
  | .hbm, ⟨33, _⟩ => ⟨S1024, .i32⟩
  | .hbm, ⟨34, _⟩ => ⟨S_, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S128, .i32⟩
  | .hbm, ⟨54, _⟩ => ⟨S1x128, .i32⟩
  | .hbm, ⟨55, _⟩ => ⟨S1024x128, .i32⟩
  | .hbm, ⟨56, _⟩ => ⟨S1024x128, .i32⟩
  | .hbm, ⟨57, _⟩ => ⟨S1024x128, .i1⟩
  | .hbm, ⟨58, _⟩ => ⟨S1024x128, .bf16⟩
  | .hbm, ⟨59, _⟩ => ⟨S128x1024, .bf16⟩
  | .hbm, ⟨60, _⟩ => ⟨S128x1024, .bf16⟩
  | .hbm, ⟨61, _⟩ => ⟨S256x1024, .bf16⟩
  | .hbm, ⟨62, _⟩ => ⟨S2x1x1024, .f32⟩
  | .hbm, ⟨63, _⟩ => ⟨S1x1x1024, .f32⟩
  | .hbm, ⟨64, _⟩ => ⟨S1x1024, .f32⟩
  | .hbm, ⟨65, _⟩ => ⟨S384, .i32⟩
  | .hbm, ⟨66, _⟩ => ⟨S1x384, .i32⟩
  | .hbm, ⟨67, _⟩ => ⟨S384x1, .i32⟩
  | .hbm, ⟨68, _⟩ => ⟨S384x384, .i32⟩
  | .hbm, ⟨69, _⟩ => ⟨S384x384, .i32⟩
  | .hbm, ⟨70, _⟩ => ⟨S384x384, .i1⟩
  | .hbm, ⟨71, _⟩ => ⟨S1x384, .i32⟩
  | .hbm, ⟨72, _⟩ => ⟨S_, .i32⟩
  | .hbm, ⟨73, _⟩ => ⟨S_, .i32⟩
  | .hbm, ⟨74, _⟩ => ⟨S1x384, .i32⟩
  | .hbm, ⟨75, _⟩ => ⟨S1x384, .i32⟩
  | .hbm, ⟨76, _⟩ => ⟨S1x384, .i32⟩
  | .hbm, ⟨77, _⟩ => ⟨S_, .i32⟩
  | .hbm, ⟨78, _⟩ => ⟨S1x384, .i32⟩
  | .hbm, ⟨79, _⟩ => ⟨S1x384, .i1⟩
  | .hbm, ⟨80, _⟩ => ⟨S1x384, .i32⟩
  | .hbm, ⟨81, _⟩ => ⟨S1x384, .i32⟩
  | .hbm, ⟨82, _⟩ => ⟨S_, .i32⟩
  | .hbm, ⟨83, _⟩ => ⟨S1x384, .i32⟩
  | .hbm, ⟨84, _⟩ => ⟨S1x384, .i1⟩
  | .hbm, ⟨85, _⟩ => ⟨S1x384, .i1⟩
  | .hbm, ⟨86, _⟩ => ⟨S_, .i32⟩
  | .hbm, ⟨87, _⟩ => ⟨S1x384, .i32⟩
  | .hbm, ⟨88, _⟩ => ⟨S1x384, .i32⟩
  | .hbm, ⟨89, _⟩ => ⟨S1x384, .i32⟩
  | .hbm, ⟨90, _⟩ => ⟨S384x1, .i32⟩
  | .hbm, ⟨91, _⟩ => ⟨S_, .i32⟩
  | .hbm, ⟨92, _⟩ => ⟨S_, .i32⟩
  | .hbm, ⟨93, _⟩ => ⟨S384x1, .i32⟩
  | .hbm, ⟨94, _⟩ => ⟨S384x1, .i32⟩
  | .hbm, ⟨95, _⟩ => ⟨S384x1, .i32⟩
  | .hbm, ⟨96, _⟩ => ⟨S_, .i32⟩
  | .hbm, ⟨97, _⟩ => ⟨S384x1, .i32⟩
  | .hbm, ⟨98, _⟩ => ⟨S384x1, .i1⟩
  | .hbm, ⟨99, _⟩ => ⟨S384x1, .i32⟩
  | .hbm, ⟨100, _⟩ => ⟨S384x1, .i32⟩
  | .hbm, ⟨101, _⟩ => ⟨S_, .i32⟩
  | .hbm, ⟨102, _⟩ => ⟨S384x1, .i32⟩
  | .hbm, ⟨103, _⟩ => ⟨S384x1, .i1⟩
  | .hbm, ⟨104, _⟩ => ⟨S384x1, .i1⟩
  | .hbm, ⟨105, _⟩ => ⟨S_, .i32⟩
  | .hbm, ⟨106, _⟩ => ⟨S384x1, .i32⟩
  | .hbm, ⟨107, _⟩ => ⟨S384x1, .i32⟩
  | .hbm, ⟨108, _⟩ => ⟨S384x1, .i32⟩
  | .hbm, ⟨109, _⟩ => ⟨S384x384, .i32⟩
  | .hbm, ⟨110, _⟩ => ⟨S384x384, .i32⟩
  | .hbm, ⟨111, _⟩ => ⟨S384x384, .i1⟩
  | .hbm, ⟨112, _⟩ => ⟨S384x384, .i1⟩
  | .hbm, ⟨113, _⟩ => ⟨S384x384, .bf16⟩
  | .hbm, ⟨114, _⟩ => ⟨S8x4224x1024, .bf16⟩
  | .hbm, ⟨115, _⟩ => ⟨S8x4224x1024, .bf16⟩
  | .hbm, ⟨116, _⟩ => ⟨S8x33x1024x128, .bf16⟩
  | .hbm, ⟨117, _⟩ => ⟨S8x1024x4112, .f32⟩
  | .hbm, ⟨118, _⟩ => ⟨S8x1024x4112, .f32⟩
  | .hbm, ⟨119, _⟩ => ⟨S8x4224x128, .bf16⟩
  | .hbm, ⟨120, _⟩ => ⟨S8x4224x128, .bf16⟩
  | .hbm, ⟨121, _⟩ => ⟨S8x128x4224, .bf16⟩
  | .hbm, ⟨122, _⟩ => ⟨S8x16x4112, .f32⟩
  | .local _ .vmem, ⟨0, _⟩ => ⟨S1x16x1024, .f32⟩
  | .local _ .vmem, ⟨1, _⟩ => ⟨S1x16x1024, .f32⟩
  | .local _ .vmem, ⟨2, _⟩ => ⟨S1x384x1024, .f32⟩
  | .local _ .vmem, ⟨3, _⟩ => ⟨S1x384x1024, .f32⟩
  | .local _ .vmem, ⟨4, _⟩ => ⟨S16x1024, .f32⟩
  | .local _ .vmem, ⟨5, _⟩ => ⟨S1x1024, .f32⟩
  | .local _ .vmem, ⟨6, _⟩ => ⟨S1024x3072, .bf16⟩
  | .local _ .vmem, ⟨7, _⟩ => ⟨S1024x128, .bf16⟩
  | .local _ .vmem, ⟨8, _⟩ => ⟨S1x128, .f32⟩
  | .local _ .vmem, ⟨9, _⟩ => ⟨S1x1024, .f32⟩
  | .local _ .vmem, ⟨10, _⟩ => ⟨S1x1024, .f32⟩
  | .local _ .vmem, ⟨11, _⟩ => ⟨S1024x128, .bf16⟩
  | .local _ .vmem, ⟨12, _⟩ => ⟨S256x1024, .bf16⟩
  | .local _ .vmem, ⟨13, _⟩ => ⟨S384x384, .bf16⟩
  | .local _ .vmem, ⟨14, _⟩ => ⟨S1x384x1024, .bf16⟩
  | .local _ .vmem, ⟨15, _⟩ => ⟨S1x384x1024, .bf16⟩
  | .local _ .vmem, ⟨16, _⟩ => ⟨S1x384x1024, .bf16⟩
  | .local _ .vmem, ⟨17, _⟩ => ⟨S1x384x1024, .bf16⟩
  | .local _ .vmem, ⟨18, _⟩ => ⟨S1x3x1024x128, .bf16⟩
  | .local _ .vmem, ⟨19, _⟩ => ⟨S1x3x1024x128, .bf16⟩
  | .local _ .vmem, ⟨20, _⟩ => ⟨S1x1024x384, .f32⟩
  | .local _ .vmem, ⟨21, _⟩ => ⟨S1x1024x384, .f32⟩
  | .local _ .vmem, ⟨22, _⟩ => ⟨S1x1024x384, .f32⟩
  | .local _ .vmem, ⟨23, _⟩ => ⟨S1x1024x384, .f32⟩
  | .local _ .vmem, ⟨24, _⟩ => ⟨S1x384x128, .bf16⟩
  | .local _ .vmem, ⟨25, _⟩ => ⟨S1x384x128, .bf16⟩
  | .local _ .vmem, ⟨26, _⟩ => ⟨S1x384x128, .bf16⟩
  | .local _ .vmem, ⟨27, _⟩ => ⟨S1x384x128, .bf16⟩
  | .local _ .vmem, ⟨28, _⟩ => ⟨S1x128x384, .bf16⟩
  | .local _ .vmem, ⟨29, _⟩ => ⟨S1x128x384, .bf16⟩
  | .local _ .vmem, ⟨30, _⟩ => ⟨S1x16x384, .f32⟩
  | .local _ .vmem, ⟨31, _⟩ => ⟨S1x16x384, .f32⟩
  | .local _ .vmem, ⟨32, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_2 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_c : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_0 : Ref sig .tc := ⟨.hbm, 86, rfl⟩
abbrev main_call3_v12 : Ref sig .tc := ⟨.hbm, 87, rfl⟩
abbrev main_call3_v13 : Ref sig .tc := ⟨.hbm, 88, rfl⟩
abbrev main_v43 : Ref sig .tc := ⟨.hbm, 89, rfl⟩
abbrev main_v44 : Ref sig .tc := ⟨.hbm, 90, rfl⟩
abbrev main_c_3 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_c : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_0 : Ref sig .tc := ⟨.hbm, 105, rfl⟩
abbrev main_call4_v12 : Ref sig .tc := ⟨.hbm, 106, rfl⟩
abbrev main_call4_v13 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51_0 : Ref sig .tc := ⟨.hbm, 114, rfl⟩
abbrev main_v51_1 : Ref sig .tc := ⟨.hbm, 115, rfl⟩
abbrev main_v51_2 : Ref sig .tc := ⟨.hbm, 116, rfl⟩
abbrev main_v51_3 : Ref sig .tc := ⟨.hbm, 117, rfl⟩
abbrev main_v51_4 : Ref sig .tc := ⟨.hbm, 118, rfl⟩
abbrev main_v51_5 : Ref sig .tc := ⟨.hbm, 119, rfl⟩
abbrev main_v51_6 : Ref sig .tc := ⟨.hbm, 120, rfl⟩
abbrev main_v51_7 : Ref sig .tc := ⟨.hbm, 121, rfl⟩
abbrev main_v51_8 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg1 c24_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S384x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x384x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x384x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x3x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x384x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x384x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x384 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x16x384 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference7Ideal.lean ====
abbrev S8x4096x1024 : Shape := ⟨3, ![8, 4096, 1024]⟩
abbrev S16x1024 : Shape := ⟨2, ![16, 1024]⟩
abbrev S2x1024 : Shape := ⟨2, ![2, 1024]⟩
abbrev S1x1024x3088 : Shape := ⟨3, ![1, 1024, 3088]⟩
abbrev S1x16 : Shape := ⟨2, ![1, 16]⟩
abbrev S1x64 : Shape := ⟨2, ![1, 64]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S1x1024 : Shape := ⟨2, ![1, 1024]⟩
abbrev S1024 : Shape := ⟨1, ![1024]⟩
abbrev S_ : Shape := ⟨0, ![]⟩
abbrev S8x4112 : Shape := ⟨2, ![8, 4112]⟩
abbrev S8x4112x1 : Shape := ⟨3, ![8, 4112, 1]⟩
abbrev S1x1x1024 : Shape := ⟨3, ![1, 1, 1024]⟩
abbrev S1024x3088 : Shape := ⟨2, ![1024, 3088]⟩
abbrev S8x4112x3088 : Shape := ⟨3, ![8, 4112, 3088]⟩
abbrev S8x4112x16 : Shape := ⟨3, ![8, 4112, 16]⟩
abbrev S8x4112x16x64 : Shape := ⟨4, ![8, 4112, 16, 64]⟩
abbrev S64 : Shape := ⟨1, ![64]⟩
abbrev S8x4112x16x1 : Shape := ⟨4, ![8, 4112, 16, 1]⟩
abbrev S1x1x1x64 : Shape := ⟨4, ![1, 1, 1, 64]⟩
abbrev S16 : Shape := ⟨1, ![16]⟩
abbrev S1x1x16 : Shape := ⟨3, ![1, 1, 16]⟩
abbrev S8x1024x4112 : Shape := ⟨3, ![8, 1024, 4112]⟩
abbrev S8x16x4112 : Shape := ⟨3, ![8, 16, 4112]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S2x1024, .f32⟩
  | .hbm, ⟨3, _⟩ => ⟨S1x1024x3088, .f32⟩
  | .hbm, ⟨4, _⟩ => ⟨S1x16, .f32⟩
  | .hbm, ⟨5, _⟩ => ⟨S1x64, .f32⟩
  | .hbm, ⟨6, _⟩ => ⟨S1x64, .f32⟩
  | .hbm, ⟨7, _⟩ => ⟨S1x16x1024, .f32⟩
  | .hbm, ⟨8, _⟩ => ⟨S8x16x1024, .f32⟩
  | .hbm, ⟨9, _⟩ => ⟨S8x4112x1024, .f32⟩
  | .hbm, ⟨10, _⟩ => ⟨S1x1024, .f32⟩
  | .hbm, ⟨11, _⟩ => ⟨S1024, .f32⟩
  | .hbm, ⟨12, _⟩ => ⟨S8x4112x1024, .f32⟩
  | .hbm, ⟨13, _⟩ => ⟨S_, .f32⟩
  | .hbm, ⟨14, _⟩ => ⟨S8x4112, .f32⟩
  | .hbm, ⟨15, _⟩ => ⟨S8x4112x1, .f32⟩
  | .hbm, ⟨16, _⟩ => ⟨S_, .f32⟩
  | .hbm, ⟨17, _⟩ => ⟨S8x4112x1, .f32⟩
  | .hbm, ⟨18, _⟩ => ⟨S8x4112x1, .f32⟩
  | .hbm, ⟨19, _⟩ => ⟨S_, .f32⟩
  | .hbm, ⟨20, _⟩ => ⟨S8x4112x1, .f32⟩
  | .hbm, ⟨21, _⟩ => ⟨S8x4112x1, .f32⟩
  | .hbm, ⟨22, _⟩ => ⟨S8x4112x1, .f32⟩
  | .hbm, ⟨23, _⟩ => ⟨S8x4112x1024, .f32⟩
  | .hbm, ⟨24, _⟩ => ⟨S8x4112x1024, .f32⟩
  | .hbm, ⟨25, _⟩ => ⟨S1x1x1024, .f32⟩
  | .hbm, ⟨26, _⟩ => ⟨S8x4112x1024, .f32⟩
  | .hbm, ⟨27, _⟩ => ⟨S8x4112x1024, .f32⟩
  | .hbm, ⟨28, _⟩ => ⟨S1024x3088, .f32⟩
  | .hbm, ⟨29, _⟩ => ⟨S8x4112x3088, .f32⟩
  | .hbm, ⟨30, _⟩ => ⟨S8x4112x1024, .f32⟩
  | .hbm, ⟨31, _⟩ => ⟨S8x4112x1024, .f32⟩
  | .hbm, ⟨32, _⟩ => ⟨S8x4112x1024, .f32⟩
  | .hbm, ⟨33, _⟩ => ⟨S8x4112x16, .f32⟩
  | .hbm, ⟨34, _⟩ => ⟨S8x4112x16x64, .f32⟩
  | .hbm, ⟨35, _⟩ => ⟨S64, .f32⟩
  | .hbm, ⟨36, _⟩ => ⟨S8x4112x16x64, .f32⟩
  | .hbm, ⟨37, _⟩ => ⟨S_, .f32⟩
  | .hbm, ⟨38, _⟩ => ⟨S8x4112x16, .f32⟩
  | .hbm, ⟨39, _⟩ => ⟨S8x4112x16x1, .f32⟩
  | .hbm, ⟨40, _⟩ => ⟨S_, .f32⟩
  | .hbm, ⟨41, _⟩ => ⟨S8x4112x16x1, .f32⟩
  | .hbm, ⟨42, _⟩ => ⟨S8x4112x16x1, .f32⟩
  | .hbm, ⟨43, _⟩ => ⟨S_, .f32⟩
  | .hbm, ⟨44, _⟩ => ⟨S8x4112x16x1, .f32⟩
  | .hbm, ⟨45, _⟩ => ⟨S8x4112x16x1, .f32⟩
  | .hbm, ⟨46, _⟩ => ⟨S8x4112x16x1, .f32⟩
  | .hbm, ⟨47, _⟩ => ⟨S8x4112x16x64, .f32⟩
  | .hbm, ⟨48, _⟩ => ⟨S8x4112x16x64, .f32⟩
  | .hbm, ⟨49, _⟩ => ⟨S1x1x1x64, .f32⟩
  | .hbm, ⟨50, _⟩ => ⟨S8x4112x16x64, .f32⟩
  | .hbm, ⟨51, _⟩ => ⟨S8x4112x16x64, .f32⟩
  | .hbm, ⟨52, _⟩ => ⟨S16, .f32⟩
  | .hbm, ⟨53, _⟩ => ⟨S1x1x16, .f32⟩
  | .hbm, ⟨54, _⟩ => ⟨S8x4112x16, .f32⟩
  | .hbm, ⟨55, _⟩ => ⟨S8x4112x16, .f32⟩
  | .hbm, ⟨56, _⟩ => ⟨S8x4112x16, .f32⟩
  | .hbm, ⟨57, _⟩ => ⟨S_, .f32⟩
  | .hbm, ⟨58, _⟩ => ⟨S8x4112x16, .f32⟩
  | .hbm, ⟨59, _⟩ => ⟨S8x4112x16, .f32⟩
  | .hbm, ⟨60, _⟩ => ⟨S8x4112x16, .f32⟩
  | .hbm, ⟨61, _⟩ => ⟨S8x4112x16, .f32⟩
  | .hbm, ⟨62, _⟩ => ⟨S8x4112x16, .i1⟩
  | .hbm, ⟨63, _⟩ => ⟨S8x4112x16, .f32⟩
  | .hbm, ⟨64, _⟩ => ⟨S8x4112x16, .f32⟩
  | .hbm, ⟨65, _⟩ => ⟨S8x4112x16, .f32⟩
  | .hbm, ⟨66, _⟩ => ⟨S8x4112x16, .f32⟩
  | .hbm, ⟨67, _⟩ => ⟨S8x4112x16, .f32⟩
  | .hbm, ⟨68, _⟩ => ⟨S8x4112x16, .f32⟩
  | .hbm, ⟨69, _⟩ => ⟨S8x4112x16, .f32⟩
  | .hbm, ⟨70, _⟩ => ⟨S8x4112x16, .f32⟩
  | .hbm, ⟨71, _⟩ => ⟨S8x4112x16, .f32⟩
  | .hbm, ⟨72, _⟩ => ⟨S8x4112x1024, .f32⟩
  | .hbm, ⟨73, _⟩ => ⟨S8x1024x4112, .f32⟩
  | .hbm, ⟨74, _⟩ => ⟨S8x1024x4112, .f32⟩
  | .hbm, ⟨75, _⟩ => ⟨S8x16x4112, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_v0 : Ref sig .tc := ⟨.hbm, 56, rfl⟩
abbrev main_call0_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_v1 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Proof.Softmax.lean ====
/-
  Hand-written, untrusted. One row of an attention, over the extended reals: scores that are real or masked (`⊥`), the weights
  as powers of two less a row maximum and normalised last, or as powers of `e` of the scores times `log 2` and normalised first.
-/
module

public import Idealize.ShloMosaic.Lib.Pipeline.ValueKit

@[expose] public section

noncomputable section

namespace Cert.Proof.Softmax
open Idealize.ShloMosaic

/-! ## Finite sums of extended reals -/

theorem sum_mul_coe {n : ℕ} (f : Fin n → EReal) {c : ℝ} (hc : 0 ≤ c) : (∑ k, f k) * (c : EReal) = ∑ k, f k * (c : EReal) := by
  have h (s : Finset (Fin n)) : (∑ k ∈ s, f k) * (c : EReal) = ∑ k ∈ s, f k * (c : EReal) := by
    classical
    refine Finset.induction_on s (by simp) fun k s hk ih => ?_
    rw [Finset.sum_insert hk, Finset.sum_insert hk, ← ih,
      EReal.right_distrib_of_nonneg_of_ne_top (EReal.coe_nonneg.mpr hc) (EReal.coe_ne_top c)]
  exact h _

theorem coe_sum {n : ℕ} (f : Fin n → ℝ) : ((∑ k, f k : ℝ) : EReal) = ∑ k, (f k : EReal) := by
  have h (s : Finset (Fin n)) : ((∑ k ∈ s, f k : ℝ) : EReal) = ∑ k ∈ s, (f k : EReal) := by
    classical
    refine Finset.induction_on s (by simp) fun k s hk ih => ?_
    rw [Finset.sum_insert hk, Finset.sum_insert hk, ← ih, EReal.coe_add]
  exact h _

/-- A finite sum of reals is a real. -/
theorem sum_real {n : ℕ} (f : Fin n → EReal) (h : ∀ k, ∃ r : ℝ, f k = r) : ∃ r : ℝ, ∑ k, f k = r := by
  choose g hg using h
  exact ⟨∑ k, g k, by rw [coe_sum]; exact Finset.sum_congr rfl fun k _ => hg k⟩

/-! ## The row -/

/-- The unshifted weight of a score. -/
def weight (x : EReal) : ℝ := if x = ⊥ then 0 else (2 : ℝ) ^ x.toReal

theorem weight_nonneg (x : EReal) : 0 ≤ weight x := by
  unfold weight; split
  · exact le_rfl
  · exact (Real.rpow_pos_of_pos two_pos _).le

theorem weight_pos {x : EReal} (h : x ≠ ⊥) : 0 < weight x := by
  unfold weight; rw [if_neg h]; exact Real.rpow_pos_of_pos two_pos _

theorem exp2_sub {x : EReal} (hx : x ≠ ⊤) (m : ℝ) : Ideal.exp2 (x - (m : EReal)) = ((weight x * (2 : ℝ) ^ (-m) : ℝ) : EReal) := by
  induction x using EReal.rec with
  | bot => simp [weight]
  | top => exact absurd rfl hx
  | coe r =>
    rw [← EReal.coe_sub, Ideal.exp2_coe]
    unfold weight
    rw [if_neg (EReal.coe_ne_bot r), EReal.toReal_coe, ← Real.rpow_add two_pos, ← sub_eq_add_neg]
    rfl

theorem exp_sub {x : EReal} (hx : x ≠ ⊤) (m : ℝ) :
    Ideal.exp (x * ((Real.log 2 : ℝ) : EReal) - (m : EReal)) = ((weight x * Real.exp (-m) : ℝ) : EReal) := by
  induction x using EReal.rec with
  | bot => rw [EReal.bot_mul_coe_of_pos (Real.log_pos one_lt_two)]; simp [weight]
  | top => exact absurd rfl hx
  | coe r =>
    rw [← EReal.coe_mul, ← EReal.coe_sub, Ideal.exp_coe]
    unfold weight
    rw [if_neg (EReal.coe_ne_bot r), EReal.toReal_coe, Real.rpow_def_of_pos two_pos, ← Real.exp_add, ← sub_eq_add_neg, mul_comm r]

/-- Weights scaled by a positive real and their own sum: normalised first, or last, they are the same. -/
theorem normalised {n : ℕ} (a v : Fin n → EReal) (k₀ : Fin n) (h₀ : a k₀ ≠ ⊥) {c : ℝ} (hc : 0 < c) :
    Ideal.div (∑ k, ((weight (a k) * c : ℝ) : EReal) * v k) (∑ k, ((weight (a k) * c : ℝ) : EReal))
      = ∑ k, v k * ((weight (a k) / ∑ j, weight (a j) : ℝ) : EReal)
    ∧ ∀ k, Ideal.div ((weight (a k) * c : ℝ) : EReal) (∑ j, ((weight (a j) * c : ℝ) : EReal))
      = ((weight (a k) / ∑ j, weight (a j) : ℝ) : EReal) := by
  have hS : 0 < ∑ j, weight (a j) := lt_of_lt_of_le (weight_pos h₀) (Finset.single_le_sum (f := fun j => weight (a j)) (fun j _ => weight_nonneg _) (Finset.mem_univ k₀))
  have hsum : (∑ j, ((weight (a j) * c : ℝ) : EReal)) = (((∑ j, weight (a j)) * c : ℝ) : EReal) := by
    rw [Finset.sum_mul, coe_sum]
  have hne : (∑ j, weight (a j)) * c ≠ 0 := (mul_pos hS hc).ne'
  have hk (k : Fin n) : weight (a k) * c * (1 / ((∑ j, weight (a j)) * c)) = weight (a k) / ∑ j, weight (a j) := by
    field_simp
  rw [hsum]
  constructor
  · rw [Ideal.div_coe hne, sum_mul_coe _ (by positivity)]
    refine Finset.sum_congr rfl fun k _ => ?_
    rw [mul_right_comm, ← EReal.coe_mul, hk, mul_comm]
  · intro k
    rw [Ideal.div_coe hne, ← EReal.coe_mul, hk]

/-- A row normalised last, in powers of two less `m`, is the row normalised first, in powers of `e` less `M`. -/
theorem rows {n : ℕ} (a v : Fin n → EReal) (m M : EReal) (hm : m ≠ ⊥ ∧ m ≠ ⊤) (hM : M ≠ ⊥ ∧ M ≠ ⊤) (ha : ∀ k, a k ≠ ⊤) (k₀ : Fin n) (h₀ : a k₀ ≠ ⊥) :
    Ideal.div (∑ k, Ideal.exp2 (a k - m) * v k) (∑ k, Ideal.exp2 (a k - m))
      = ∑ k, v k * Ideal.div (Ideal.exp (a k * ((Real.log 2 : ℝ) : EReal) - M)) (∑ j, Ideal.exp (a j * ((Real.log 2 : ℝ) : EReal) - M)) := by
  lift m to ℝ using ⟨hm.2, hm.1⟩
  lift M to ℝ using ⟨hM.2, hM.1⟩
  simp only [exp2_sub (ha _), exp_sub (ha _), (normalised a v k₀ h₀ (Real.exp_pos (-M))).2]
  exact (normalised a v k₀ h₀ (Real.rpow_pos_of_pos two_pos (-m))).1

/-- The maximum of a row from `⊥` is a real if no score is `⊤` and one is not `⊥`. -/
theorem fold_real {n : ℕ} (a : Fin n → EReal) (ha : ∀ k, a k ≠ ⊤) (k₀ : Fin n) (h₀ : a k₀ ≠ ⊥) :
    Finset.fold max ⊥ a Finset.univ ≠ ⊥ ∧ Finset.fold max ⊥ a Finset.univ ≠ ⊤ := by
  constructor
  · exact (lt_of_lt_of_le (bot_lt_iff_ne_bot.mpr h₀) (Finset.le_fold_max _ |>.mpr (Or.inr ⟨k₀, Finset.mem_univ _, le_rfl⟩))).ne'
  · exact ((Finset.fold_max_lt _).mpr ⟨bot_lt_top, fun k _ => lt_top_iff_ne_top.mpr (ha k)⟩).ne
theorem fold_ne_top {n : ℕ} (a : Fin n → EReal) (ha : ∀ k, a k ≠ ⊤) : Finset.fold max ⊥ a Finset.univ ≠ ⊤ :=
  ((Finset.fold_max_lt _).mpr ⟨bot_lt_top, fun k _ => lt_top_iff_ne_top.mpr (ha k)⟩).ne

/-! ## The row in two parts: 2048 old keys, and 128 new ones of which only the first 32 can be unmasked -/

/-- The kernel's row. -/
def outRow (so vo : Fin 2048 → EReal) (sn vn : Fin 128 → EReal) : EReal :=
  Ideal.div
    (∑ k, Ideal.exp2 (so k - max (Finset.fold max ⊥ so Finset.univ) (Finset.fold max ⊥ sn Finset.univ)) * vo k
      + ∑ k, Ideal.exp2 (sn k - max (Finset.fold max ⊥ so Finset.univ) (Finset.fold max ⊥ sn Finset.univ)) * vn k)
    (∑ k, Ideal.exp2 (so k - max (Finset.fold max ⊥ so Finset.univ) (Finset.fold max ⊥ sn Finset.univ))
      + ∑ k, Ideal.exp2 (sn k - max (Finset.fold max ⊥ so Finset.univ) (Finset.fold max ⊥ sn Finset.univ)))

/-- The reference's row. -/
def softRow (a v : Fin 2080 → EReal) : EReal :=
  ∑ k, v k * Ideal.div (Ideal.exp (a k * ((Real.log 2 : ℝ) : EReal) - max ⊥ (Finset.fold max ⊥ (fun k => a k * ((Real.log 2 : ℝ) : EReal)) Finset.univ)))
    (∑ j, Ideal.exp (a j * ((Real.log 2 : ℝ) : EReal) - max ⊥ (Finset.fold max ⊥ (fun k => a k * ((Real.log 2 : ℝ) : EReal)) Finset.univ)))

/-- The old values, then the new ones. -/
def join {α : Type} (o : Fin 2048 → α) (n : Fin 128 → α) (k : Fin 2080) : α :=
  if h : k.val < 2048 then o ⟨k.val, h⟩ else n ⟨k.val - 2048, by omega⟩

theorem sum_join (F : EReal → EReal → EReal) (hF : ∀ v, F ⊥ v = 0) (so vo : Fin 2048 → EReal) (sn vn : Fin 128 → EReal)
    (hn : ∀ k : Fin 128, 32 ≤ k.val → sn k = ⊥) :
    ∑ k, F (so k) (vo k) + ∑ k, F (sn k) (vn k) = ∑ k, F (join so sn k) (join vo vn k) := by
  have e1 : ∑ k : Fin (2048 + 32), F (join so sn k) (join vo vn k) = _ := Fin.sum_univ_add _
  have e2 : ∑ k : Fin (32 + 96), F (sn k) (vn k) = _ := Fin.sum_univ_add _
  refine Eq.trans ?_ e1.symm
  have z : ∑ i : Fin 96, F (sn (Fin.natAdd 32 i)) (vn (Fin.natAdd 32 i)) = 0 :=
    Finset.sum_eq_zero fun i _ => by rw [hn _ (by simp), hF]
  rw [show (∑ k : Fin 128, F (sn k) (vn k)) = _ from e2, z, add_zero]
  refine congr (congrArg _ (Finset.sum_congr rfl fun k _ => ?_)) (Finset.sum_congr rfl fun k _ => ?_)
  · simp [join]
  · simp [join]; rfl

theorem out_eq_soft (so vo : Fin 2048 → EReal) (sn vn : Fin 128 → EReal) (ho : ∀ k, so k ≠ ⊥ ∧ so k ≠ ⊤) (hnt : ∀ k, sn k ≠ ⊤)
    (hn : ∀ k : Fin 128, 32 ≤ k.val → sn k = ⊥) : outRow so vo sn vn = softRow (join so sn) (join vo vn) := by
  have hmo := fold_real so (fun k => (ho k).2) 0 (ho 0).1
  have hmn := fold_ne_top sn hnt
  have hm : max (Finset.fold max ⊥ so Finset.univ) (Finset.fold max ⊥ sn Finset.univ) ≠ ⊥
      ∧ max (Finset.fold max ⊥ so Finset.univ) (Finset.fold max ⊥ sn Finset.univ) ≠ ⊤ :=
    ⟨(lt_of_lt_of_le (bot_lt_iff_ne_bot.mpr hmo.1) (le_max_left _ _)).ne', (max_lt (lt_top_iff_ne_top.mpr hmo.2) (lt_top_iff_ne_top.mpr hmn)).ne⟩
  unfold outRow
  generalize max (Finset.fold max ⊥ so Finset.univ) (Finset.fold max ⊥ sn Finset.univ) = m at hm ⊢
  have hb : Ideal.exp2 (⊥ - m) = 0 := by
    lift m to ℝ using ⟨hm.2, hm.1⟩
    simp
  rw [sum_join (fun s v => Ideal.exp2 (s - m) * v) (fun v => by show Ideal.exp2 (⊥ - m) * v = 0; rw [hb, zero_mul]) so vo sn vn hn,
    sum_join (fun s _ => Ideal.exp2 (s - m)) (fun _ => hb) so vo sn vn hn]
  have ha (k : Fin 2080) : join so sn k ≠ ⊤ := by
    unfold join; split
    · exact (ho _).2
    · exact hnt _
  have h0 : join so sn 0 ≠ ⊥ := by unfold join; rw [dif_pos (by simp)]; exact (ho _).1
  have hl (x : EReal) : (x ≠ ⊤ → x * ((Real.log 2 : ℝ) : EReal) ≠ ⊤) ∧ (x ≠ ⊥ → x ≠ ⊤ → x * ((Real.log 2 : ℝ) : EReal) ≠ ⊥) := by
    induction x using EReal.rec with
    | bot => exact ⟨fun _ => by rw [EReal.bot_mul_coe_of_pos (Real.log_pos one_lt_two)]; exact bot_ne_top, fun h => absurd rfl h⟩
    | top => exact ⟨fun h => absurd rfl h, fun _ h => absurd rfl h⟩
    | coe r => rw [← EReal.coe_mul]; exact ⟨fun _ => EReal.coe_ne_top _, fun _ _ => EReal.coe_ne_bot _⟩
  exact rows (join so sn) (join vo vn) m _ hm
    (by rw [max_eq_right bot_le]; exact fold_real _ (fun k => (hl _).1 (ha k)) 0 ((hl _).2 h0 (ha 0))) ha 0 h0

end Cert.Proof.Softmax
end
-- ==== Proof.DecRef.lean ====
/-
  The reference of the decode attention, read at one output entry.
-/
module

public import proofs.«01_k».proof.Proof.Gen.ReferenceIdeal.Run
public import proofs.«01_k».proof.Proof.Gen.ReferenceIdeal.Read
public import proofs.«01_k».proof.Proof.Softmax
public import Idealize.ShloMosaic.Lib.Pipeline.ValueKit

@[expose] public section

set_option maxRecDepth 16384

noncomputable section

namespace Cert.Proof.DecRef

open Idealize.ShloMosaic Idealize.SL.Sem Idealize.ShloMosaic.TcCoe
open Cert.ReferenceIdeal.Read Cert.Proof.Softmax

/-- The score of one query against one key: the plain product of 64 lanes and the product of 6 bias terms. -/
def score (qv kv : Fin 64 → EReal) (qb kb : Fin 6 → EReal) : EReal := ∑ x, qv x * kv x + ∑ x, qb x * kb x

variable (q : Vec Ideal Cert.ReferenceIdeal.S32x128x1024 .bf16) (qa : Vec Ideal Cert.ReferenceIdeal.S32x128x128 .bf16)
  (k : Vec Ideal Cert.ReferenceIdeal.S32x128x1024 .bf16) (ka : Vec Ideal Cert.ReferenceIdeal.S32x128x128 .bf16)
  (v : Vec Ideal Cert.ReferenceIdeal.S32x128x1024 .f32) (ck : Vec Ideal Cert.ReferenceIdeal.S32x2048x16x64 .f32)
  (kab : Vec Ideal Cert.ReferenceIdeal.S32x128x2048 .bf16) (cv : Vec Ideal Cert.ReferenceIdeal.S32x2048x16x64 .f32)

/-- Lane `x` of head `h`. -/
def lane (h : Fin 16) (x : Fin 64) : Fin 1024 := ⟨h.val * 64 + x.val, by omega⟩
/-- Bias term `x` of head `h`. -/
def term (h : Fin 16) (x : Fin 6) : Fin 128 := ⟨x.val * 16 + h.val, by omega⟩
/-- A query row among the padded ones. -/
def row (i : Fin 32) : Fin 128 := ⟨i.val, by omega⟩

/-- The scores against the cached keys. -/
def sOld (b : Fin 32) (i : Fin 32) (h : Fin 16) (kk : Fin 2048) : EReal :=
  score (fun x => q (ix3 b (row i) (lane h x))) (fun x => ck (ix4 b kk h x))
    (fun x => qa (ix3 b (row i) (term h x))) (fun x => kab (ix3 b (term h x) kk))
/-- The scores against the new keys, those after the query masked. -/
def sNew (b : Fin 32) (i : Fin 32) (h : Fin 16) (c : Fin 128) : EReal :=
  if c.val ≤ i.val then
    score (fun x => q (ix3 b (row i) (lane h x))) (fun x => k (ix3 b c (lane h x)))
      (fun x => qa (ix3 b (row i) (term h x))) (fun x => ka (ix3 b c (term h x)))
  else ⊥
def vOld (b : Fin 32) (h : Fin 16) (d : Fin 64) (kk : Fin 2048) : EReal := cv (ix4 b kk h d)
def vNew (b : Fin 32) (h : Fin 16) (d : Fin 64) (c : Fin 128) : EReal := v (ix3 b c (lane h d))

theorem neg_inf : Ideal.ofBits .f32 0xFF800000#32 = ⊥ := by simp [Ideal.ofBits, Ideal.ieee]
theorem cst_1 : val_main_cst_1 (F := Ideal) (Shape.Idx.first Cert.ReferenceIdeal.Gen.h_S_) = ⊥ := neg_inf
theorem cst_3 : val_main_cst_3 (F := Ideal) (Shape.Idx.first Cert.ReferenceIdeal.Gen.h_S_) = 0 := by
  show Ideal.ofBits .f32 0x0#32 = 0
  simp [Ideal.ofBits, Ideal.ieee]
theorem log_two : Ideal.log (Ideal.ofBits FTy.f32 1073741824#32) = ((Real.log 2 : ℝ) : EReal) := by
  have : Ideal.ofBits FTy.f32 1073741824#32 = ((2 : ℝ) : EReal) := by
    simp [Ideal.ofBits, Ideal.ieee, -EReal.coe_mul]; norm_num
  rw [this]
  exact if_neg (by norm_num)

theorem r0 (b i : Fin 32) (h : Fin 16) (d : Fin 64) :
    val_main_v50 (F := Ideal) q qa k ka v ck kab cv (ix3 b i (lane h d)) = val_main_v47 (F := Ideal) q qa k ka v ck kab cv (ix4 b h d i) := by
  unfold lane
  pointwise [val_main_v50, val_main_v49, val_main_v48]

theorem r1 (b i : Fin 32) (h : Fin 16) (d : Fin 64) :
    val_main_v47 (F := Ideal) q qa k ka v ck kab cv (ix4 b h d i)
      = ∑ x, val_main_v9 (F := Ideal) v cv (ix4 b x h d) *
        Ideal.div
          (Ideal.exp (val_main_v35 (F := Ideal) q qa k ka ck kab (ix4 b h i x) - val_main_v40 (F := Ideal) q qa k ka ck kab (ix4 b h i x)))
          (∑ x, Ideal.exp (val_main_v35 (F := Ideal) q qa k ka ck kab (ix4 b h i x) - val_main_v40 (F := Ideal) q qa k ka ck kab (ix4 b h i x))) := by
  pointwise [val_main_v47, val_main_v46, val_main_v45, val_main_v44, val_main_v43, val_main_v42, val_main_v41]
  simp only [cst_3, zero_add]

theorem m1 (b i : Fin 32) (h : Fin 16) (kk : Fin 2080) :
    val_main_v40 (F := Ideal) q qa k ka ck kab (ix4 b h i kk) = val_main_v38 (F := Ideal) q qa k ka ck kab (ix3 b h i) := by
  pointwise [val_main_v40, val_main_v39]
theorem m2 (b i : Fin 32) (h : Fin 16) :
    val_main_v38 (F := Ideal) q qa k ka ck kab (ix3 b h i) = max ⊥ (val_main_v36 (F := Ideal) q qa k ka ck kab (ix3 b h i)) := by
  rw [val_main_v38_apply, val_main_v37_apply, val_main_cst_2_apply]
  generalize val_main_v36 (F := Ideal) q qa k ka ck kab (ix3 b h i) = y
  exact congrArg (max · y) neg_inf
theorem m3 (b i : Fin 32) (h : Fin 16) :
    val_main_v36 (F := Ideal) q qa k ka ck kab (ix3 b h i)
      = Finset.fold max ⊥ (fun x => val_main_v35 (F := Ideal) q qa k ka ck kab (ix4 b h i x)) Finset.univ := by
  rw [← cst_1]
  unfold val_main_v36
  generalize val_main_v35 (F := Ideal) q qa k ka ck kab = y
  rw [Host.reduce_eq_fold]
  exact Shape.ReducesTo.fold_fiber_r4_a3 Cert.ReferenceIdeal.Gen.reducesTo_S32x16x32x2080_S32x16x32_d3 (ix3 b h i) max _ y

theorem seen_old (i : Fin 32) (kk : Fin 2080) (h : kk.val < 2048) :
    IntOp.cmpi CmpIPredicate.sle (BitVec.ofNat 32 kk.val) (IntOp.addi (2048#32) (BitVec.ofNat 32 i.val)) = 1#1 :=
  (by decide +kernel : ∀ (i : Fin 32) (kk : Fin 2048),
    IntOp.cmpi CmpIPredicate.sle (BitVec.ofNat 32 kk.val) (IntOp.addi (2048#32) (BitVec.ofNat 32 i.val)) = 1#1) i ⟨kk.val, h⟩
theorem seen_new (i : Fin 32) (c : Fin 32) :
    IntOp.cmpi CmpIPredicate.sle (BitVec.ofNat 32 (2048 + c.val)) (IntOp.addi (2048#32) (BitVec.ofNat 32 i.val))
      = if c.val ≤ i.val then 1#1 else 0#1 :=
  (by decide +kernel : ∀ (i c : Fin 32),
    IntOp.cmpi CmpIPredicate.sle (BitVec.ofNat 32 (2048 + c.val)) (IntOp.addi (2048#32) (BitVec.ofNat 32 i.val))
      = if c.val ≤ i.val then 1#1 else 0#1) i c

theorem r2 (b i : Fin 32) (h : Fin 16) (kk : Fin 2080) :
    val_main_v35 (F := Ideal) q qa k ka ck kab (ix4 b h i kk)
      = Scalar.select (IntOp.cmpi CmpIPredicate.sle (BitVec.ofNat 32 ↑kk) (IntOp.addi (2048#32) (BitVec.ofNat 32 ↑i)))
        (val_main_v20 (F := Ideal) q k ck (ix4 b h i kk) + val_main_v21 (F := Ideal) qa ka kab (ix4 b h i kk))
        (⊥ : EReal) * ((Real.log 2 : ℝ) : EReal) := by
  rw [← neg_inf, ← log_two]
  pointwise [val_main_v35, val_main_v34, val_main_v33, val_main_cst_0, val_main_v32, val_main_call0_v2, val_main_call0_v1, val_main_call0_v0, val_main_cst, val_main_v31,
    val_main_v30, val_main_v29, val_main_v28, val_main_v27, val_main_v26, val_main_v25, val_main_v24, val_main_c, val_main_v23, val_main_v22]
  rfl
theorem r3 (b i : Fin 32) (h : Fin 16) (kk : Fin 2080) :
    val_main_v20 (F := Ideal) q k ck (ix4 b h i kk)
      = ∑ x, q (ix3 b (row i) (lane h x)) * join (fun o => ck (ix4 b o h x)) (fun c => k (ix3 b c (lane h x))) kk := by
  unfold row lane join
  pointwise [val_main_v20, val_main_v2, val_main_v1, val_main_v0, val_main_v8, val_main_v5, val_main_v4, val_main_v3]
theorem r4 (b i : Fin 32) (h : Fin 16) (kk : Fin 2080) :
    val_main_v21 (F := Ideal) qa ka kab (ix4 b h i kk)
      = ∑ x, qa (ix3 b (row i) (term h x)) * join (fun o => kab (ix3 b (term h x) o)) (fun c => ka (ix3 b c (term h x))) kk := by
  unfold row term join
  pointwise [val_main_v21, val_main_v12, val_main_v11, val_main_v10, val_main_v19, val_main_v18, val_main_v17, val_main_v16, val_main_v15, val_main_v14, val_main_v13]
theorem r5 (b : Fin 32) (d : Fin 64) (h : Fin 16) (kk : Fin 2080) :
    val_main_v9 (F := Ideal) v cv (ix4 b kk h d) = join (vOld cv b h d) (vNew v b h d) kk := by
  unfold join vOld vNew lane
  pointwise [val_main_v9, val_main_v7, val_main_v6]

theorem logit (b i : Fin 32) (h : Fin 16) (kk : Fin 2080) :
    val_main_v35 (F := Ideal) q qa k ka ck kab (ix4 b h i kk)
      = join (sOld q qa ck kab b i h) (sNew q qa k ka b i h) kk * ((Real.log 2 : ℝ) : EReal) := by
  rw [r2, r3, r4]
  refine congrArg (· * ((Real.log 2 : ℝ) : EReal)) ?_
  unfold join
  by_cases hk : kk.val < 2048
  · rw [seen_old i kk hk]
    simp only [dif_pos hk]
    rfl
  · have hs := seen_new i ⟨kk.val - 2048, by omega⟩
    rw [show 2048 + (⟨kk.val - 2048, by omega⟩ : Fin 32).val = kk.val by show 2048 + (kk.val - 2048) = _; omega] at hs
    rw [hs]
    simp only [dif_neg hk]
    unfold sNew score
    by_cases hc : kk.val - 2048 ≤ i.val
    · rw [if_pos hc, if_pos hc]; rfl
    · rw [if_neg hc, if_neg hc]; rfl

/-- **The reference at an entry**: the softmax of the joined scores, against the joined values. -/
theorem ref_out (b i : Fin 32) (h : Fin 16) (d : Fin 64) :
    val_main_v50 (F := Ideal) q qa k ka v ck kab cv (ix3 b i (lane h d))
      = softRow (join (sOld q qa ck kab b i h) (sNew q qa k ka b i h)) (join (vOld cv b h d) (vNew v b h d)) := by
  rw [r0, r1]
  simp only [m1, m2, m3, logit, r5]
  rfl

end Cert.Proof.DecRef
-- ==== Proof.DecPay.lean ====
/-
  The arithmetic of the decode attention kernel, read at one entry: the masked queries of a pair of heads, their
  scores against the cached and the new keys, and the row of outputs of each head.
-/
module

public import proofs.«01_k».proof.Proof.Gen.KernelIdeal.Value
public import proofs.«01_k».proof.Proof.Softmax
public import proofs.«01_k».proof.Proof.DecRef
public import Idealize.ShloMosaic.Lib.Pipeline.ValueKit

@[expose] public section

set_option maxRecDepth 16384

noncomputable section

namespace Cert.Proof.DecPay

open Idealize.ShloMosaic Idealize.SL.Sem Idealize.ShloMosaic.TcCoe
open Cert.KernelIdeal Cert.KernelIdeal.Gen
open Cert.Proof.Softmax
open Cert.Proof.DecRef (score term neg_inf)

abbrev lanes : IVec S1x128 32 := iota .tc S1x128 32 [1] iota_S1x128_d1_w32
abbrev head (g p hh : BitVec 32) : BitVec 32 := Scalar.addi (Scalar.muli 2#32 (Scalar.addi (Scalar.muli g 4#32) p)) hh

/-- Whether lane `c` of a pair belongs to its head `hh`, as the kernel computes it. -/
def qbit (c : Nat) (hh : BitVec 32) : BitVec 1 :=
  IntOp.cmpi CmpIPredicate.eq
    (Scalar.select
      (IntOp.andi
        (IntOp.cmpi CmpIPredicate.ne
          (IntOp.subi (BitVec.setWidth 32 (IntOp.cmpi CmpIPredicate.sgt (BitVec.ofNat 32 c) 0#32))
            (BitVec.setWidth 32 (IntOp.cmpi CmpIPredicate.slt (BitVec.ofNat 32 c) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 c) 64#32) 0#32))
      (IntOp.subi (IntOp.divsi ArithUnit.vector (BitVec.ofNat 32 c) 64#32) 1#32)
      (IntOp.divsi ArithUnit.vector (BitVec.ofNat 32 c) 64#32))
    hh

/-- Whether lane `c` of the bias terms belongs to head `hd`, as the kernel computes it. -/
def abit (c : Nat) (hd : BitVec 32) : BitVec 1 :=
  IntOp.andi
    (IntOp.cmpi CmpIPredicate.eq
      (Scalar.select
        (IntOp.andi
          (IntOp.xori
            (IntOp.cmpi CmpIPredicate.slt
              (IntOp.remsi ArithUnit.vector (BitVec.ofNat 32 c)
                (Scalar.select (Scalar.cmpi CmpIPredicate.eq 16#32 0#32) 1#32 16#32))
              0#32)
            (Scalar.cmpi CmpIPredicate.slt
              (Scalar.select (Scalar.cmpi CmpIPredicate.eq 16#32 0#32) 1#32 16#32) 0#32))
          (IntOp.cmpi CmpIPredicate.ne
            (IntOp.remsi ArithUnit.vector (BitVec.ofNat 32 c)
              (Scalar.select (Scalar.cmpi CmpIPredicate.eq 16#32 0#32) 1#32 16#32))
            0#32))
        (IntOp.addi
          (IntOp.remsi ArithUnit.vector (BitVec.ofNat 32 c)
            (Scalar.select (Scalar.cmpi CmpIPredicate.eq 16#32 0#32) 1#32 16#32))
          (Scalar.select (Scalar.cmpi CmpIPredicate.eq 16#32 0#32) 1#32 16#32))
        (IntOp.remsi ArithUnit.vector (BitVec.ofNat 32 c)
          (Scalar.select (Scalar.cmpi CmpIPredicate.eq 16#32 0#32) 1#32 16#32)))
      hd)
    (IntOp.cmpi CmpIPredicate.slt (BitVec.ofNat 32 c) 96#32)

theorem qbit_eq : ∀ (c : Fin 128) (hh : Fin 2), qbit c.val (BitVec.ofNat 32 hh.val) = if c.val / 64 = hh.val then 1#1 else 0#1 := by
  decide +kernel
theorem abit_eq : ∀ (c : Fin 128) (H : Fin 16), abit c.val (BitVec.ofNat 32 H.val) = if c.val % 16 = H.val ∧ c.val < 96 then 1#1 else 0#1 := by
  decide +kernel

/-- The head of pair `p` of half `g` of the heads. -/
def headOf (g : Fin 2) (p : Fin 4) (hh : Fin 2) : Fin 16 := ⟨g.val * 8 + p.val * 2 + hh.val, by omega⟩
theorem head_eq : ∀ (g : Fin 2) (p : Fin 4) (hh : Fin 2),
    head (BitVec.ofNat 32 g.val) (BitVec.ofNat 32 p.val) (BitVec.ofNat 32 hh.val) = BitVec.ofNat 32 (headOf g p hh).val := by
  decide +kernel

theorem sitofp_one : FloatOps.sitofp (F := Ideal) FTy.f32 (BitVec.setWidth 32 1#1) = (1 : EReal) := by
  show (((BitVec.setWidth 32 1#1).toInt : ℝ) : EReal) = 1
  rw [show (BitVec.setWidth 32 1#1).toInt = 1 by decide]; simp
theorem sitofp_zero : FloatOps.sitofp (F := Ideal) FTy.f32 (BitVec.setWidth 32 0#1) = (0 : EReal) := by
  show (((BitVec.setWidth 32 0#1).toInt : ℝ) : EReal) = 0
  rw [show (BitVec.setWidth 32 0#1).toInt = 0 by decide]; simp

/-- A query row of one head of a pair: its lanes and its bias terms, the other head's set to zero. -/
def masked (q qa : Vec Ideal S1x32x128 .bf16) (H : Fin 16) (hh : Fin 2) (i : Fin 32) (c : Fin 256) : EReal :=
  if h : c.val < 128 then q (ix3 0 i ⟨c.val, h⟩) * (if c.val / 64 = hh.val then 1 else 0)
  else qa (ix3 0 i ⟨c.val - 128, by omega⟩) * (if (c.val - 128) % 16 = H.val ∧ c.val - 128 < 96 then 1 else 0)

/-- The same, with the bits as the kernel computes them. -/
def bits (q qa : Vec Ideal S1x32x128 .bf16) (hd hh : BitVec 32) (i : Fin 32) (c : Fin 256) : EReal :=
  if h : c.val < 128 then q (ix3 0 i ⟨c.val, h⟩) * FloatOps.sitofp (F := Ideal) FTy.f32 (BitVec.setWidth 32 (qbit c.val hh))
  else qa (ix3 0 i ⟨c.val - 128, by omega⟩) * FloatOps.sitofp (F := Ideal) FTy.f32 (BitVec.setWidth 32 (abit (c.val - 128) hd))

theorem bits_eq (q qa : Vec Ideal S1x32x128 .bf16) (g : Fin 2) (p : Fin 4) (hh : Fin 2) (i : Fin 32) (c : Fin 256) :
    bits q qa (head (BitVec.ofNat 32 g.val) (BitVec.ofNat 32 p.val) (BitVec.ofNat 32 hh.val)) (BitVec.ofNat 32 hh.val) i c
      = masked q qa (headOf g p hh) hh i c := by
  rw [head_eq]
  unfold bits masked
  by_cases h : c.val < 128
  · rw [dif_pos h, dif_pos h, qbit_eq ⟨c.val, h⟩ hh]
    show _ * FloatOps.sitofp (F := Ideal) FTy.f32 (BitVec.setWidth 32 (if c.val / 64 = hh.val then 1#1 else 0#1)) = _
    by_cases e : c.val / 64 = hh.val
    · rw [if_pos e, if_pos e, sitofp_one]
    · rw [if_neg e, if_neg e, sitofp_zero]
  · rw [dif_neg h, dif_neg h, abit_eq ⟨c.val - 128, by omega⟩ (headOf g p hh)]
    show _ * FloatOps.sitofp (F := Ideal) FTy.f32 (BitVec.setWidth 32 (if (c.val - 128) % 16 = (headOf g p hh).val ∧ c.val - 128 < 96 then 1#1 else 0#1)) = _
    by_cases e : (c.val - 128) % 16 = (headOf g p hh).val ∧ c.val - 128 < 96
    · rw [if_pos e, if_pos e, sitofp_one]
    · rw [if_neg e, if_neg e, sitofp_zero]

/-- Lane `x` of head `hh` of a pair. -/
def half (hh : Fin 2) (x : Fin 64) : Fin 128 := ⟨hh.val * 64 + x.val, by omega⟩

theorem masked_score (q qa : Vec Ideal S1x32x128 .bf16) (H : Fin 16) (hh : Fin 2) (i : Fin 32) (kc kb : Fin 128 → EReal) :
    ∑ x : Fin 128, masked q qa H hh i ⟨x.val, by omega⟩ * kc x + ∑ x : Fin 128, masked q qa H hh i ⟨128 + x.val, by omega⟩ * kb x
      = score (fun x => q (ix3 0 i (half hh x))) (fun x => kc (half hh x)) (fun x => qa (ix3 0 i (term H x))) (fun x => kb (term H x)) := by
  unfold score
  refine congrArg₂ (· + ·) (Eq.symm ?_) (Eq.symm ?_)
  · refine Fintype.sum_of_injective (half hh) (fun a b e => ?_) _ _ (fun x hx => ?_) (fun x => ?_)
    · have := congrArg Fin.val e; unfold half at this; exact Fin.ext (by simpa using this)
    · unfold masked
      rw [dif_pos (show x.val < 128 from x.isLt), if_neg, mul_zero, zero_mul]
      intro e
      exact hx ⟨⟨x.val % 64, Nat.mod_lt _ (by omega)⟩, Fin.ext (by
        show hh.val * 64 + x.val % 64 = x.val
        have : x.val / 64 = hh.val := e
        omega)⟩
    · unfold masked
      rw [dif_pos (show (half hh x).val < 128 from (half hh x).isLt), if_pos, mul_one]
      show (hh.val * 64 + x.val) / 64 = hh.val
      omega
  · refine Fintype.sum_of_injective (term H) (fun a b e => ?_) _ _ (fun x hx => ?_) (fun x => ?_)
    · have := congrArg Fin.val e; unfold term at this; exact Fin.ext (by simpa using this)
    · unfold masked
      rw [dif_neg (show ¬ (128 + x.val < 128) by omega), if_neg, mul_zero, zero_mul]
      rintro ⟨e1, e2⟩
      replace e1 : (128 + x.val - 128) % 16 = H.val := e1
      replace e2 : 128 + x.val - 128 < 96 := e2
      exact hx ⟨⟨x.val / 16, by omega⟩, Fin.ext (by
        show x.val / 16 * 16 + H.val = x.val
        omega)⟩
    · unfold masked
      have ht : (term H x).val = x.val * 16 + H.val := rfl
      rw [dif_neg (show ¬ (128 + (term H x).val < 128) by omega), if_pos, mul_one]
      · exact congrArg (fun y => qa (ix3 0 i y) * kb (term H x)) (Fin.ext (show (term H x).val = 128 + (term H x).val - 128 by omega))
      · show (128 + (term H x).val - 128) % 16 = H.val ∧ 128 + (term H x).val - 128 < 96
        rw [ht]; omega

/-! ## The masked queries, as stored -/

section
variable (q qa : Vec Ideal S1x32x128 .bf16) (g : BitVec 32) (i : Fin 32) (c : Fin 256)
theorem w00 : (k0_pay9 (k0_pay8 lanes (k0_pay4 q) (k0_pay5 qa) (head g 0#32 0#32) 64#32 k0_pay6 k0_pay7 (Scalar.extui (Scalar.cmpi .sgt 64#32 0#32)) (Scalar.cmpi .slt 64#32 0#32))) (ix3 0 i c) = bits q qa (head g 0#32 0#32) 0#32 i c := by
  unfold bits qbit abit
  pointwise [k0_pay9, k0_pay8, k0_pay4, k0_pay5, k0_pay6, k0_pay7]
theorem w01 : (k0_pay14 lanes (k0_pay4 q) (k0_pay5 qa) (head g 0#32 1#32) (k0_pay10 lanes) (Scalar.select (Scalar.cmpi .eq 16#32 0#32) 1#32 16#32) (k0_pay11 lanes) (k0_pay12 lanes) k0_pay13) (ix3 0 i c) = bits q qa (head g 0#32 1#32) 1#32 i c := by
  unfold bits qbit abit
  pointwise [k0_pay14, k0_pay10, k0_pay11, k0_pay12, k0_pay13, k0_pay4, k0_pay5]
theorem w10 : (k0_pay22 lanes (k0_pay19 q) (k0_pay20 qa) (head g 1#32 0#32) (k0_pay21 (F := Ideal)) 16#32) (ix3 0 i c) = bits q qa (head g 1#32 0#32) 0#32 i c := by
  unfold bits qbit abit
  pointwise [k0_pay22, k0_pay19, k0_pay20, k0_pay21]
theorem w11 : (k0_pay27 (k0_pay20 qa) (k0_pay25 (F := Ideal) lanes (head g 1#32 1#32)) (k0_pay26 lanes (k0_pay19 q) 64#32 (k0_pay23 lanes) (k0_pay24 lanes) 0#32)) (ix3 0 i c) = bits q qa (head g 1#32 1#32) 1#32 i c := by
  unfold bits qbit abit
  pointwise [k0_pay27, k0_pay25, k0_pay26, k0_pay23, k0_pay24, k0_pay19, k0_pay20]
theorem w20 : (k0_pay37 lanes (k0_pay31 q) (k0_pay32 qa) (head g 2#32 0#32) (k0_pay33 (F := Ideal) lanes) (k0_pay34 lanes) (k0_pay35 lanes) (k0_pay36 lanes)) (ix3 0 i c) = bits q qa (head g 2#32 0#32) 0#32 i c := by
  unfold bits qbit abit
  pointwise [k0_pay37, k0_pay31, k0_pay32, k0_pay33, k0_pay34, k0_pay35, k0_pay36]
theorem w21 : (k0_pay40 lanes (k0_pay31 q) (k0_pay32 qa) (head g 2#32 1#32) (k0_pay38 lanes) (k0_pay39 lanes) 1#32) (ix3 0 i c) = bits q qa (head g 2#32 1#32) 1#32 i c := by
  unfold bits qbit abit
  pointwise [k0_pay40, k0_pay38, k0_pay39, k0_pay31, k0_pay32]
theorem w30 : (k0_pay49 (k0_pay48 lanes (k0_pay44 q) (k0_pay45 qa) (head g 3#32 0#32) 64#32 k0_pay46 k0_pay47 (Scalar.extui (Scalar.cmpi .sgt 64#32 0#32)) (Scalar.cmpi .slt 64#32 0#32))) (ix3 0 i c) = bits q qa (head g 3#32 0#32) 0#32 i c := by
  unfold bits qbit abit
  pointwise [k0_pay49, k0_pay48, k0_pay44, k0_pay45, k0_pay46, k0_pay47]
theorem w31 : (k0_pay54 lanes (k0_pay44 q) (k0_pay45 qa) (head g 3#32 1#32) (k0_pay50 lanes) (Scalar.select (Scalar.cmpi .eq 16#32 0#32) 1#32 16#32) (k0_pay51 lanes) (k0_pay52 lanes) k0_pay53) (ix3 0 i c) = bits q qa (head g 3#32 1#32) 1#32 i c := by
  unfold bits qbit abit
  pointwise [k0_pay54, k0_pay50, k0_pay51, k0_pay52, k0_pay53, k0_pay44, k0_pay45]
end

/-! ## Scores -/

theorem seen : ∀ (r : Fin 64) (c : Fin 128),
    IntOp.cmpi CmpIPredicate.sle (BitVec.ofNat 32 c.val)
      (Scalar.select (IntOp.cmpi CmpIPredicate.sge (BitVec.ofNat 32 r.val) 32#32) (IntOp.subi (BitVec.ofNat 32 r.val) 32#32) (BitVec.ofNat 32 r.val))
      = if c.val ≤ r.val % 32 then 1#1 else 0#1 := by decide +kernel

theorem mask_bot : Named.named (F := Ideal) (φ := .f32) κ "mask" 0xF149F2CA#32 = (⊥ : EReal) :=
  IdealRules.named_const.ideal_named_scalar _ _ _ _ rfl

section
variable (kab : Vec Ideal S1x128x2048 .bf16) (ka : Vec Ideal S1x128x128 .bf16) (qx : Vec Ideal S1x64x256 .bf16)
  (kc : Vec Ideal S1x128x2048 .f32) (k : Vec Ideal S1x128x128 .bf16) (r : Fin 64)

def rawOld (kk : Fin 2048) : EReal :=
  ∑ x : Fin 128, qx (ix3 0 r ⟨x.val, by omega⟩) * kc (ix3 0 x kk) + ∑ x : Fin 128, qx (ix3 0 r ⟨128 + x.val, by omega⟩) * kab (ix3 0 x kk)
def rawNew (c : Fin 128) : EReal :=
  if c.val ≤ r.val % 32 then
    ∑ x : Fin 128, qx (ix3 0 r ⟨x.val, by omega⟩) * k (ix3 0 c x) + ∑ x : Fin 128, qx (ix3 0 r ⟨128 + x.val, by omega⟩) * ka (ix3 0 c x)
  else ⊥
theorem old0 (kk : Fin 2048) : (k0_pay16 (k0_pay1 kab) qx kc) (ix2 r kk) = rawOld kab qx kc r kk := by
  unfold rawOld
  pointwise [k0_pay16, k0_pay1, k0_pay15]
theorem old1 (kk : Fin 2048) : (k0_pay29 (k0_pay1 kab) qx kc) (ix2 r kk) = rawOld kab qx kc r kk := by
  unfold rawOld
  pointwise [k0_pay29, k0_pay1, k0_pay28]
theorem old2 (kk : Fin 2048) : (k0_pay42 (k0_pay1 kab) qx kc) (ix2 r kk) = rawOld kab qx kc r kk := by
  unfold rawOld
  pointwise [k0_pay42, k0_pay1, k0_pay41]
theorem old3 (kk : Fin 2048) : (k0_pay56 (k0_pay1 kab) qx kc) (ix2 r kk) = rawOld kab qx kc r kk := by
  unfold rawOld
  pointwise [k0_pay56, k0_pay1, k0_pay55]
theorem new0 (c : Fin 128) : (k0_pay18 k0_pay3 (k0_pay17 (k0_pay2 ka) qx k) (Named.named κ "mask" 0xF149F2CA#32)) (ix2 r c) = rawNew ka qx k r c := by
  unfold rawNew
  pointwise [k0_pay18, k0_pay17, k0_pay15, k0_pay3, k0_pay2]
  rw [seen r c, mask_bot]
  by_cases hc : c.val ≤ r.val % 32
  · rw [if_pos hc, if_pos hc]; rfl
  · rw [if_neg hc, if_neg hc]; rfl
theorem new1 (c : Fin 128) : (k0_pay30 (k0_pay2 ka) k0_pay3 qx k) (ix2 r c) = rawNew ka qx k r c := by
  unfold rawNew
  pointwise [k0_pay30, k0_pay28, k0_pay3, k0_pay2]
  rw [seen r c, mask_bot]
  by_cases hc : c.val ≤ r.val % 32
  · rw [if_pos hc, if_pos hc]; rfl
  · rw [if_neg hc, if_neg hc]; rfl
theorem new2 (c : Fin 128) : (k0_pay43 (k0_pay2 ka) k0_pay3 qx k) (ix2 r c) = rawNew ka qx k r c := by
  unfold rawNew
  pointwise [k0_pay43, k0_pay41, k0_pay3, k0_pay2]
  rw [seen r c, mask_bot]
  by_cases hc : c.val ≤ r.val % 32
  · rw [if_pos hc, if_pos hc]; rfl
  · rw [if_neg hc, if_neg hc]; rfl
theorem new3 (c : Fin 128) : (k0_pay58 k0_pay3 (k0_pay57 (k0_pay2 ka) qx k) (Named.named κ "mask" 0xF149F2CA#32)) (ix2 r c) = rawNew ka qx k r c := by
  unfold rawNew
  pointwise [k0_pay58, k0_pay57, k0_pay55, k0_pay3, k0_pay2]
  rw [seen r c, mask_bot]
  by_cases hc : c.val ≤ r.val % 32
  · rw [if_pos hc, if_pos hc]; rfl
  · rw [if_neg hc, if_neg hc]; rfl
end

/-! ## The rows of outputs -/

/-- The row, among the two heads' 64, that lane `j` of a pair's output takes. -/
def pick (i : Fin 32) (j : Fin 128) : Fin 64 := ⟨j.val / 64 * 32 + i.val, by omega⟩
theorem left_lane : ∀ j : Fin 128, IntOp.cmpi CmpIPredicate.slt (BitVec.ofNat 32 j.val) 64#32 = if j.val < 64 then 1#1 else 0#1 := by
  decide +kernel

section
variable (a : Vec Ideal S64x2048 .f32) (b : Vec Ideal S64x128 .f32) (v : Vec Ideal S1x128x2048 .f32) (w : Vec Ideal S1x128x128 .f32)
  (i : Fin 32) (j : Fin 128)

def rowOut (r : Fin 64) : EReal :=
  outRow (fun x => a (ix2 r x)) (fun x => v (ix3 0 j x)) (fun x => b (ix2 r x)) (fun x => w (ix3 0 x j))

theorem chosen : Scalar.select (IntOp.cmpi CmpIPredicate.slt (BitVec.ofNat 32 j.val) 64#32)
    (rowOut a b v w j ⟨i.val, by omega⟩) (rowOut a b v w j ⟨32 + i.val, by omega⟩) = rowOut a b v w j (pick i j) := by
  rw [left_lane j]
  by_cases hj : j.val < 64
  · rw [if_pos hj]
    exact congrArg (rowOut a b v w j) (Fin.ext (show i.val = j.val / 64 * 32 + i.val by omega))
  · rw [if_neg hj]
    exact congrArg (rowOut a b v w j) (Fin.ext (show 32 + i.val = j.val / 64 * 32 + i.val by omega))
theorem out0 : (k0_pay59 a b v w) (ix3 0 i j) = rowOut a b v w j (pick i j) := by
  refine Eq.trans ?_ (chosen a b v w i j)
  pointwise [k0_pay59]
  simp only [neg_inf]
  rfl
theorem out1 : (k0_pay61 a b (iota .tc S32x128 32 [1] iota_S32x128_d1_w32) (k0_pay60 a) v w) (ix3 0 i j) = rowOut a b v w j (pick i j) := by
  refine Eq.trans ?_ (chosen a b v w i j)
  pointwise [k0_pay61, k0_pay60]
  simp only [neg_inf]
  rfl
theorem out2 : (k0_pay63 a b (iota .tc S32x128 32 [1] iota_S32x128_d1_w32) (k0_pay62 a b) v w) (ix3 0 i j) = rowOut a b v w j (pick i j) := by
  refine Eq.trans ?_ (chosen a b v w i j)
  pointwise [k0_pay63, k0_pay62]
  simp only [neg_inf]
  rfl
theorem out3 : (k0_pay67 (iota .tc S32x128 32 [1] iota_S32x128_d1_w32) (k0_pay65 a b) (k0_pay66 a b) v w) (ix3 0 i j) = rowOut a b v w j (pick i j) := by
  refine Eq.trans ?_ (chosen a b v w i j)
  pointwise [k0_pay67, k0_pay65, k0_pay66, k0_pay64]
  simp only [neg_inf]
  rfl
end

/-! ## One pair of heads -/

open Cert.Proof.DecRef in
/-- What lane `j` of a pair's output is, in terms of the whole arrays. -/
theorem pair (Q : Vec Ideal Cert.ReferenceIdeal.S32x128x1024 .bf16) (QA : Vec Ideal Cert.ReferenceIdeal.S32x128x128 .bf16)
    (K : Vec Ideal Cert.ReferenceIdeal.S32x128x1024 .bf16) (KA : Vec Ideal Cert.ReferenceIdeal.S32x128x128 .bf16)
    (V : Vec Ideal Cert.ReferenceIdeal.S32x128x1024 .f32) (CK : Vec Ideal Cert.ReferenceIdeal.S32x2048x16x64 .f32)
    (KAB : Vec Ideal Cert.ReferenceIdeal.S32x128x2048 .bf16) (CV : Vec Ideal Cert.ReferenceIdeal.S32x2048x16x64 .f32)
    (b : Fin 32) (g : Fin 2) (p : Fin 4)
    (q qa : Vec Ideal S1x32x128 .bf16) (k ka : Vec Ideal S1x128x128 .bf16) (v : Vec Ideal S1x128x128 .f32)
    (kc : Vec Ideal S1x128x2048 .f32) (kab : Vec Ideal S1x128x2048 .bf16) (vc : Vec Ideal S1x128x2048 .f32)
    (qx : Vec Ideal S1x64x256 .bf16) (a : Vec Ideal S64x2048 .f32) (bb : Vec Ideal S64x128 .f32)
    (hq : ∀ i l, q (ix3 0 i l) = Q (ix3 b (row i) ⟨g.val * 512 + p.val * 128 + l.val, by omega⟩))
    (hqa : ∀ i l, qa (ix3 0 i l) = QA (ix3 b (row i) l))
    (hk : ∀ c l, k (ix3 0 c l) = K (ix3 b c ⟨g.val * 512 + p.val * 128 + l.val, by omega⟩))
    (hka : ∀ c l, ka (ix3 0 c l) = KA (ix3 b c l))
    (hv : ∀ c l, v (ix3 0 c l) = V (ix3 b c ⟨g.val * 512 + p.val * 128 + l.val, by omega⟩))
    (hkc : ∀ hh d kk, kc (ix3 0 (half hh d) kk) = CK (ix4 b kk (headOf g p hh) d))
    (hkab : ∀ x kk, kab (ix3 0 x kk) = KAB (ix3 b x kk))
    (hvc : ∀ hh d kk, vc (ix3 0 (half hh d) kk) = CV (ix4 b kk (headOf g p hh) d))
    (hqx : ∀ (r : Fin 64) c, qx (ix3 0 r c) = masked q qa (headOf g p ⟨r.val / 32, by omega⟩) ⟨r.val / 32, by omega⟩ ⟨r.val % 32, by omega⟩ c)
    (ha : ∀ r kk, a (ix2 r kk) = rawOld kab qx kc r kk) (hb : ∀ r c, bb (ix2 r c) = rawNew ka qx k r c)
    (i : Fin 32) (j : Fin 128) :
    rowOut a bb vc v j (pick i j)
      = outRow (sOld Q QA CK KAB b i (headOf g p ⟨j.val / 64, by omega⟩)) (vOld CV b (headOf g p ⟨j.val / 64, by omega⟩) ⟨j.val % 64, by omega⟩)
          (sNew Q QA K KA b i (headOf g p ⟨j.val / 64, by omega⟩)) (vNew V b (headOf g p ⟨j.val / 64, by omega⟩) ⟨j.val % 64, by omega⟩) := by
  obtain ⟨hh, d, rfl⟩ : ∃ hh d, j = half hh d :=
    ⟨⟨j.val / 64, by omega⟩, ⟨j.val % 64, by omega⟩, Fin.ext (by show j.val = j.val / 64 * 64 + j.val % 64; omega)⟩
  have e1 : (⟨(half hh d).val / 64, by omega⟩ : Fin 2) = hh := Fin.ext (by show (hh.val * 64 + d.val) / 64 = hh.val; omega)
  have e2 : (⟨(half hh d).val % 64, by omega⟩ : Fin 64) = d := Fin.ext (by show (hh.val * 64 + d.val) % 64 = d.val; omega)
  rw [e1, e2]
  have hp1 : (pick i (half hh d)).val / 32 = hh.val := by
    show ((hh.val * 64 + d.val) / 64 * 32 + i.val) / 32 = hh.val; omega
  have hp2 : (pick i (half hh d)).val % 32 = i.val := by
    show ((hh.val * 64 + d.val) / 64 * 32 + i.val) % 32 = i.val; omega
  generalize pick i (half hh d) = r at hp1 hp2
  have f1 : (⟨r.val / 32, by omega⟩ : Fin 2) = hh := Fin.ext hp1
  have f2 : (⟨r.val % 32, by omega⟩ : Fin 32) = i := Fin.ext hp2
  have hx : ∀ c, qx (ix3 0 r c) = masked q qa (headOf g p hh) hh i c := fun c => by rw [hqx, f1, f2]
  have hl : ∀ x : Fin 64, (⟨g.val * 512 + p.val * 128 + (half hh x).val, by omega⟩ : Fin 1024) = lane (headOf g p hh) x := fun x =>
    Fin.ext (by show g.val * 512 + p.val * 128 + (hh.val * 64 + x.val) = (g.val * 8 + p.val * 2 + hh.val) * 64 + x.val; omega)
  have hq' : ∀ x : Fin 64, q (ix3 0 i (half hh x)) = Q (ix3 b (row i) (lane (headOf g p hh) x)) := fun x => by rw [hq, hl]
  unfold rowOut
  congr 1
  · funext kk
    rw [ha]; unfold rawOld sOld; simp only [hx]
    rw [masked_score]; simp only [hq', hqa, hkc, hkab]
  · funext kk
    exact hvc hh d kk
  · funext c
    rw [hb]; unfold rawNew sNew; simp only [hx]
    rw [masked_score, hp2]; simp only [hq', hqa, hk, hka, hl]
  · funext c
    unfold vNew
    rw [hv, hl]

end Cert.Proof.DecPay
-- ==== Proof.Decode.lean ====
/-
  The decode attention kernel writes what the reference computes.
-/
module

public import proofs.«01_k».proof.Proof.DecPay
public import Idealize.ShloMosaic.Lib.Pipeline.ReadBack

@[expose] public section

set_option maxRecDepth 16384

noncomputable section

namespace Cert.Proof.Decode

open Idealize.ShloMosaic Idealize.SL.Sem Idealize.ShloMosaic.TcCoe
open Idealize.ShloMosaic.Pipeline (Dat Cfg Window)
open Cert.KernelIdeal Cert.KernelIdeal.Gen
open Cert.Proof.Softmax Cert.Proof.DecPay
open Cert.Proof.DecRef (score term lane row sOld sNew vOld vNew ref_out)

variable (m : (ℓ : Loc nD τ sig) → Buf (Elt Ideal) ℓ)

/-! ## The host's operands -/

theorem V1 (c : Dev nD) (b : Fin 32) (r : Fin 1024) (kk : Fin 2048) :
    V m c main_v1 (ix3 b r kk) = m ((c : Thread nD τ).loc main_arg5) (ix4 b kk ⟨r.val / 64, by omega⟩ ⟨r.val % 64, by omega⟩) := by
  entry_read
  pointwise
theorem V3 (c : Dev nD) (b : Fin 32) (r : Fin 1024) (kk : Fin 2048) :
    V m c main_v3 (ix3 b r kk) = m ((c : Thread nD τ).loc main_arg7) (ix4 b kk ⟨r.val / 64, by omega⟩ ⟨r.val % 64, by omega⟩) := by
  entry_read
  pointwise

/-! ## The blocks -/

theorem t_lt (t : Fin cfg0.N) : t.val < 64 := by have := t.isLt; have : cfg0.N = 64 := N_0; omega
/-- The batch row of a grid point. -/
def bat (t : Fin cfg0.N) : Fin 32 := ⟨t.val / 2, by have := t_lt t; omega⟩
/-- The half of the heads of a grid point. -/
def grp (t : Fin cfg0.N) : Fin 2 := ⟨t.val % 2, by omega⟩

theorem places : ∀ t : Fin cfg0.N, win0_0.index t = ![t.val / 2, 0, t.val % 2] ∧ win0_1.index t = ![t.val / 2, 0, 0]
    ∧ win0_2.index t = ![t.val / 2, 0, t.val % 2] ∧ win0_3.index t = ![t.val / 2, 0, 0] ∧ win0_4.index t = ![t.val / 2, 0, t.val % 2]
    ∧ win0_5.index t = ![t.val / 2, t.val % 2, 0] ∧ win0_6.index t = ![t.val / 2, 0, 0] ∧ win0_7.index t = ![t.val / 2, t.val % 2, 0]
    ∧ win0_8.index t = ![t.val / 2, 0, t.val % 2] :=
  (by decide +kernel : ∀ t : Fin grid0.N, win0_0.index t = ![t.val / 2, 0, t.val % 2] ∧ win0_1.index t = ![t.val / 2, 0, 0]
    ∧ win0_2.index t = ![t.val / 2, 0, t.val % 2] ∧ win0_3.index t = ![t.val / 2, 0, 0] ∧ win0_4.index t = ![t.val / 2, 0, t.val % 2]
    ∧ win0_5.index t = ![t.val / 2, t.val % 2, 0] ∧ win0_6.index t = ![t.val / 2, 0, 0] ∧ win0_7.index t = ![t.val / 2, t.val % 2, 0]
    ∧ win0_8.index t = ![t.val / 2, 0, t.val % 2])
theorem half_of : ∀ t : Fin cfg0.N, BitVec.ofNat 32 (grid0.coords t 1) = BitVec.ofNat 32 (t.val % 2) :=
  (by decide +kernel : ∀ t : Fin grid0.N, BitVec.ofNat 32 (grid0.coords t 1) = BitVec.ofNat 32 (t.val % 2))

theorem b0 (c : Dev nD) (t : Fin cfg0.N) (i : Fin 32) (l : Fin 512) :
    iblk m c 0 t (ix3 0 i l) = m ((c : Thread nD τ).loc main_arg0) (ix3 (bat t) (row i) ⟨t.val % 2 * 512 + l.val, by omega⟩) := by
  have e := (places t).1
  unfold bat row
  blk_ext [iblk, V, e]
theorem b1 (c : Dev nD) (t : Fin cfg0.N) (i : Fin 32) (l : Fin 128) :
    iblk m c 1 t (ix3 0 i l) = m ((c : Thread nD τ).loc main_arg1) (ix3 (bat t) (row i) l) := by
  have e := (places t).2.1
  unfold bat row
  blk_ext [iblk, V, e]
theorem b2 (c : Dev nD) (t : Fin cfg0.N) (i : Fin 128) (l : Fin 512) :
    iblk m c 2 t (ix3 0 i l) = m ((c : Thread nD τ).loc main_arg2) (ix3 (bat t) i ⟨t.val % 2 * 512 + l.val, by omega⟩) := by
  have e := (places t).2.2.1
  unfold bat
  blk_ext [iblk, V, e]
theorem b3 (c : Dev nD) (t : Fin cfg0.N) (i : Fin 128) (l : Fin 128) :
    iblk m c 3 t (ix3 0 i l) = m ((c : Thread nD τ).loc main_arg3) (ix3 (bat t) i l) := by
  have e := (places t).2.2.2.1
  unfold bat
  blk_ext [iblk, V, e]
theorem b4 (c : Dev nD) (t : Fin cfg0.N) (i : Fin 128) (l : Fin 512) :
    iblk m c 4 t (ix3 0 i l) = m ((c : Thread nD τ).loc main_arg4) (ix3 (bat t) i ⟨t.val % 2 * 512 + l.val, by omega⟩) := by
  have e := (places t).2.2.2.2.1
  unfold bat
  blk_ext [iblk, V, e]
theorem b5 (c : Dev nD) (t : Fin cfg0.N) (r : Fin 512) (kk : Fin 2048) :
    iblk m c 5 t (ix3 0 r kk) = m ((c : Thread nD τ).loc main_arg5)
      (ix4 (bat t) kk ⟨(t.val % 2 * 512 + r.val) / 64, by omega⟩ ⟨(t.val % 2 * 512 + r.val) % 64, by omega⟩) := by
  refine Eq.trans ?_ (V1 m c (bat t) ⟨t.val % 2 * 512 + r.val, by omega⟩ kk)
  have e := (places t).2.2.2.2.2.1
  unfold bat
  blk_ext [iblk, e]
theorem b6 (c : Dev nD) (t : Fin cfg0.N) (r : Fin 128) (kk : Fin 2048) :
    iblk m c 6 t (ix3 0 r kk) = m ((c : Thread nD τ).loc main_arg6) (ix3 (bat t) r kk) := by
  have e := (places t).2.2.2.2.2.2.1
  unfold bat
  blk_ext [iblk, V, e]
theorem b7 (c : Dev nD) (t : Fin cfg0.N) (r : Fin 512) (kk : Fin 2048) :
    iblk m c 7 t (ix3 0 r kk) = m ((c : Thread nD τ).loc main_arg7)
      (ix4 (bat t) kk ⟨(t.val % 2 * 512 + r.val) / 64, by omega⟩ ⟨(t.val % 2 * 512 + r.val) % 64, by omega⟩) := by
  refine Eq.trans ?_ (V3 m c (bat t) ⟨t.val % 2 * 512 + r.val, by omega⟩ kk)
  have e := (places t).2.2.2.2.2.2.2.1
  unfold bat
  blk_ext [iblk, e]

/-! ## The stored queries, read back -/

theorem readback {kd : Kind} {sp : Space} (v : View sig kd sp S4x64x256 .bf16) (p : Nat)
    (i1 : ∀ a, (![p, 32, 0] : Fin 3 → Nat) a + (![1, 32, 256] : Fin 3 → Nat) a ≤ S4x64x256.size a)
    (i0 : ∀ a, (![p, 0, 0] : Fin 3 → Nat) a + (![1, 32, 256] : Fin 3 → Nat) a ≤ S4x64x256.size a)
    (ib : ∀ a, (![p, 0, 0] : Fin 3 → Nat) a + (![1, 64, 256] : Fin 3 → Nat) a ≤ S4x64x256.size a)
    (w1 w0 : Vec Ideal S1x32x256 .bf16) (L : List (View.Piece (Elt Ideal) S4x64x256 .bf16)) (r : Fin 64) (c : Fin 256) :
    v.readCov (Val := Elt Ideal) (⟨Rect.unit ![p, 32, 0] ![1, 32, 256] i1, w1⟩ :: ⟨Rect.unit ![p, 0, 0] ![1, 32, 256] i0, w0⟩ :: L)
        (Rect.unit (s := S4x64x256) ![p, 0, 0] ![1, 64, 256] ib).toLoadRect (ix3 0 r c)
      = if h : r.val < 32 then w0 (ix3 0 ⟨r.val, h⟩ c) else w1 (ix3 0 ⟨r.val - 32, by omega⟩ c) := by
  rw [View.readCov_eq_canon']
  by_cases h : r.val < 32
  · rw [dif_pos h]
    refine (View.canon_cons_of_not_mem (Val := Elt Ideal) _ _ ?_).trans ?_
    · intro hm
      obtain ⟨x, hx⟩ := (Rect.unit (s := S4x64x256) ![p, 32, 0] ![1, 32, 256] i1).exists_idx_of_mem hm
      have h1 : 32 + 1 * (x 1).val = 0 + 1 * r.val := congrArg Fin.val (congrFun hx 1)
      omega
    · have e : (Rect.unit (s := S4x64x256) ![p, 0, 0] ![1, 64, 256] ib).toLoadRect.idx (ix3 0 r c)
          = (Rect.unit (s := S4x64x256) ![p, 0, 0] ![1, 32, 256] i0).emb (ix3 0 ⟨r.val, h⟩ c) := by
        funext a
        exact Fin.ext (by match a with | ⟨0, _⟩ => rfl | ⟨1, _⟩ => rfl | ⟨2, _⟩ => rfl)
      show View.canon (Val := Elt Ideal) _ ((Rect.unit (s := S4x64x256) ![p, 0, 0] ![1, 64, 256] ib).toLoadRect.idx (ix3 0 r c)) = _
      rw [e]
      exact View.canon_cons_emb (Val := Elt Ideal) _ _ _ _
  · rw [dif_neg h]
    have e : (Rect.unit (s := S4x64x256) ![p, 0, 0] ![1, 64, 256] ib).toLoadRect.idx (ix3 0 r c)
        = (Rect.unit (s := S4x64x256) ![p, 32, 0] ![1, 32, 256] i1).emb (ix3 0 ⟨r.val - 32, by omega⟩ c) := by
      funext a
      exact Fin.ext (by
        match a with
        | ⟨0, _⟩ => rfl
        | ⟨1, _⟩ => show 0 + 1 * r.val = 32 + 1 * (r.val - 32); omega
        | ⟨2, _⟩ => rfl)
    show View.canon (Val := Elt Ideal) _ ((Rect.unit (s := S4x64x256) ![p, 0, 0] ![1, 64, 256] ib).toLoadRect.idx (ix3 0 r c)) = _
    rw [e]
    exact View.canon_cons_emb (Val := Elt Ideal) _ _ _ _

theorem two_heads (q qa : Vec Ideal S1x32x128 .bf16) (g : Fin 2) (p : Fin 4) (w0 w1 : Vec Ideal S1x32x256 .bf16)
    (h0 : ∀ i c, w0 (ix3 0 i c) = masked q qa (headOf g p 0) 0 i c) (h1 : ∀ i c, w1 (ix3 0 i c) = masked q qa (headOf g p 1) 1 i c)
    (r : Fin 64) (c : Fin 256) :
    (if h : r.val < 32 then w0 (ix3 0 ⟨r.val, h⟩ c) else w1 (ix3 0 ⟨r.val - 32, by omega⟩ c))
      = masked q qa (headOf g p ⟨r.val / 32, by omega⟩) ⟨r.val / 32, by omega⟩ ⟨r.val % 32, by omega⟩ c := by
  by_cases h : r.val < 32
  · rw [dif_pos h, h0]
    rw [show (⟨r.val / 32, by omega⟩ : Fin 2) = 0 from Fin.ext (by show r.val / 32 = 0; omega),
      show (⟨r.val % 32, by omega⟩ : Fin 32) = ⟨r.val, h⟩ from Fin.ext (by show r.val % 32 = r.val; omega)]
  · rw [dif_neg h, h1]
    rw [show (⟨r.val / 32, by omega⟩ : Fin 2) = 1 from Fin.ext (by show r.val / 32 = 1; omega),
      show (⟨r.val % 32, by omega⟩ : Fin 32) = ⟨r.val - 32, by omega⟩ from Fin.ext (by show r.val % 32 = r.val - 32; omega)]

theorem stored (q' qa' q qa : Vec Ideal S1x32x128 .bf16) (hq : ∀ i l, q' (ix3 0 i l) = q (ix3 0 i l)) (hqa : ∀ i l, qa' (ix3 0 i l) = qa (ix3 0 i l))
    (G : BitVec 32) (g : Fin 2) (hG : G = BitVec.ofNat 32 g.val) (p : Fin 4) (hh : Fin 2) (i : Fin 32) (c : Fin 256) :
    bits q' qa' (head G (BitVec.ofNat 32 p.val) (BitVec.ofNat 32 hh.val)) (BitVec.ofNat 32 hh.val) i c = masked q qa (headOf g p hh) hh i c := by
  rw [hG, ← bits_eq]
  unfold bits
  simp only [hq, hqa]

/-- The reference's row, from the pair's. -/
def gold (b i : Fin 32) (H : Fin 16) (d : Fin 64) (Q : Vec Ideal Cert.ReferenceIdeal.S32x128x1024 .bf16) (QA : Vec Ideal Cert.ReferenceIdeal.S32x128x128 .bf16)
    (K : Vec Ideal Cert.ReferenceIdeal.S32x128x1024 .bf16) (KA : Vec Ideal Cert.ReferenceIdeal.S32x128x128 .bf16)
    (V : Vec Ideal Cert.ReferenceIdeal.S32x128x1024 .f32) (CK : Vec Ideal Cert.ReferenceIdeal.S32x2048x16x64 .f32)
    (KAB : Vec Ideal Cert.ReferenceIdeal.S32x128x2048 .bf16) (CV : Vec Ideal Cert.ReferenceIdeal.S32x2048x16x64 .f32) : EReal :=
  outRow (sOld Q QA CK KAB b i H) (vOld CV b H d) (sNew Q QA K KA b i H) (vNew V b H d)

section
variable (Q : Vec Ideal Cert.ReferenceIdeal.S32x128x1024 .bf16) (QA : Vec Ideal Cert.ReferenceIdeal.S32x128x128 .bf16)
    (K : Vec Ideal Cert.ReferenceIdeal.S32x128x1024 .bf16) (KA : Vec Ideal Cert.ReferenceIdeal.S32x128x128 .bf16)
    (V : Vec Ideal Cert.ReferenceIdeal.S32x128x1024 .f32) (CK : Vec Ideal Cert.ReferenceIdeal.S32x2048x16x64 .f32)
    (KAB : Vec Ideal Cert.ReferenceIdeal.S32x128x2048 .bf16) (CV : Vec Ideal Cert.ReferenceIdeal.S32x2048x16x64 .f32)
    (b : Fin 32) (g : Fin 2)

/-- The slices of the queries a pair works on. -/
def qSlice (p : Fin 4) : Vec Ideal S1x32x128 .bf16 :=
  fun y => Q (ix3 b (row ⟨(y 1).val, (y 1).isLt⟩) ⟨g.val * 512 + p.val * 128 + (y 2).val, by have h : (y 2).val < 128 := (y 2).isLt; omega⟩)
def qaSlice : Vec Ideal S1x32x128 .bf16 := fun y => QA (ix3 b (row ⟨(y 1).val, (y 1).isLt⟩) ⟨(y 2).val, (y 2).isLt⟩)

variable (k ka : Vec Ideal S1x128x128 .bf16) (v : Vec Ideal S1x128x128 .f32)
    (kc : Vec Ideal S1x128x2048 .f32) (kab : Vec Ideal S1x128x2048 .bf16) (vc : Vec Ideal S1x128x2048 .f32) (qx : Vec Ideal S1x64x256 .bf16)

/-- What the slices a pair works on hold. -/
structure Slices (p : Fin 4) : Prop where
  hk : ∀ c l, k (ix3 0 c l) = K (ix3 b c ⟨g.val * 512 + p.val * 128 + l.val, by omega⟩)
  hka : ∀ c l, ka (ix3 0 c l) = KA (ix3 b c l)
  hv : ∀ c l, v (ix3 0 c l) = V (ix3 b c ⟨g.val * 512 + p.val * 128 + l.val, by omega⟩)
  hkc : ∀ hh d kk, kc (ix3 0 (half hh d) kk) = CK (ix4 b kk (headOf g p hh) d)
  hkab : ∀ x kk, kab (ix3 0 x kk) = KAB (ix3 b x kk)
  hvc : ∀ hh d kk, vc (ix3 0 (half hh d) kk) = CV (ix4 b kk (headOf g p hh) d)
  hqx : ∀ (r : Fin 64) c, qx (ix3 0 r c) = masked (qSlice Q b g p) (qaSlice QA b) (headOf g p ⟨r.val / 32, by omega⟩) ⟨r.val / 32, by omega⟩ ⟨r.val % 32, by omega⟩ c

variable (i : Fin 32) (j : Fin 128)

theorem pair0 (h : Slices Q QA K KA V CK KAB CV b g k ka v kc kab vc qx 0) :
    (k0_pay59 (k0_pay16 (k0_pay1 kab) qx kc) (k0_pay18 k0_pay3 (k0_pay17 (k0_pay2 ka) qx k) (Named.named κ "mask" 0xF149F2CA#32)) vc v) (ix3 0 i j)
      = gold b i (headOf g 0 ⟨j.val / 64, by omega⟩) ⟨j.val % 64, by omega⟩ Q QA K KA V CK KAB CV :=
  (out0 _ _ vc v i j).trans
    (pair Q QA K KA V CK KAB CV b g 0 (qSlice Q b g 0) (qaSlice QA b) k ka v kc kab vc qx _ _ (fun _ _ => rfl) (fun _ _ => rfl)
      h.hk h.hka h.hv h.hkc h.hkab h.hvc h.hqx (fun r kk => old0 kab qx kc r kk) (fun r c => new0 ka qx k r c) i j)

theorem pair1 (h : Slices Q QA K KA V CK KAB CV b g k ka v kc kab vc qx 1) :
    (k0_pay61 (k0_pay29 (k0_pay1 kab) qx kc) (k0_pay30 (k0_pay2 ka) k0_pay3 qx k) (iota .tc S32x128 32 [1] iota_S32x128_d1_w32) (k0_pay60 (k0_pay29 (k0_pay1 kab) qx kc)) vc v) (ix3 0 i j)
      = gold b i (headOf g 1 ⟨j.val / 64, by omega⟩) ⟨j.val % 64, by omega⟩ Q QA K KA V CK KAB CV :=
  (out1 _ _ vc v i j).trans
    (pair Q QA K KA V CK KAB CV b g 1 (qSlice Q b g 1) (qaSlice QA b) k ka v kc kab vc qx _ _ (fun _ _ => rfl) (fun _ _ => rfl)
      h.hk h.hka h.hv h.hkc h.hkab h.hvc h.hqx (fun r kk => old1 kab qx kc r kk) (fun r c => new1 ka qx k r c) i j)

theorem pair2 (h : Slices Q QA K KA V CK KAB CV b g k ka v kc kab vc qx 2) :
    (k0_pay63 (k0_pay42 (k0_pay1 kab) qx kc) (k0_pay43 (k0_pay2 ka) k0_pay3 qx k) (iota .tc S32x128 32 [1] iota_S32x128_d1_w32) (k0_pay62 (k0_pay42 (k0_pay1 kab) qx kc) (k0_pay43 (k0_pay2 ka) k0_pay3 qx k)) vc v) (ix3 0 i j)
      = gold b i (headOf g 2 ⟨j.val / 64, by omega⟩) ⟨j.val % 64, by omega⟩ Q QA K KA V CK KAB CV :=
  (out2 _ _ vc v i j).trans
    (pair Q QA K KA V CK KAB CV b g 2 (qSlice Q b g 2) (qaSlice QA b) k ka v kc kab vc qx _ _ (fun _ _ => rfl) (fun _ _ => rfl)
      h.hk h.hka h.hv h.hkc h.hkab h.hvc h.hqx (fun r kk => old2 kab qx kc r kk) (fun r c => new2 ka qx k r c) i j)

theorem pair3 (h : Slices Q QA K KA V CK KAB CV b g k ka v kc kab vc qx 3) :
    (k0_pay67 (iota .tc S32x128 32 [1] iota_S32x128_d1_w32) (k0_pay65 (k0_pay56 (k0_pay1 kab) qx kc) (k0_pay58 k0_pay3 (k0_pay57 (k0_pay2 ka) qx k) (Named.named κ "mask" 0xF149F2CA#32))) (k0_pay66 (k0_pay56 (k0_pay1 kab) qx kc) (k0_pay58 k0_pay3 (k0_pay57 (k0_pay2 ka) qx k) (Named.named κ "mask" 0xF149F2CA#32))) vc v) (ix3 0 i j)
      = gold b i (headOf g 3 ⟨j.val / 64, by omega⟩) ⟨j.val % 64, by omega⟩ Q QA K KA V CK KAB CV :=
  (out3 _ _ vc v i j).trans
    (pair Q QA K KA V CK KAB CV b g 3 (qSlice Q b g 3) (qaSlice QA b) k ka v kc kab vc qx _ _ (fun _ _ => rfl) (fun _ _ => rfl)
      h.hk h.hka h.hv h.hkc h.hkab h.hvc h.hqx (fun r kk => old3 kab qx kc r kk) (fun r c => new3 ka qx k r c) i j)
end

theorem b2' (c : Dev nD) (t : Fin cfg0.N) (i : Fin 128) (z : Fin 512) (p : Fin 4) (l : Fin 128) (hz : z.val = p.val * 128 + l.val) :
    iblk m c 2 t (ix3 0 i z) = m ((c : Thread nD τ).loc main_arg2) (ix3 (bat t) i ⟨(grp t).val * 512 + p.val * 128 + l.val, by omega⟩) :=
  (b2 m c t i z).trans (congrArg (fun w => m ((c : Thread nD τ).loc main_arg2) (ix3 (bat t) i w))
    (Fin.ext (by show t.val % 2 * 512 + z.val = t.val % 2 * 512 + p.val * 128 + l.val; omega)))
theorem b4' (c : Dev nD) (t : Fin cfg0.N) (i : Fin 128) (z : Fin 512) (p : Fin 4) (l : Fin 128) (hz : z.val = p.val * 128 + l.val) :
    iblk m c 4 t (ix3 0 i z) = m ((c : Thread nD τ).loc main_arg4) (ix3 (bat t) i ⟨(grp t).val * 512 + p.val * 128 + l.val, by omega⟩) :=
  (b4 m c t i z).trans (congrArg (fun w => m ((c : Thread nD τ).loc main_arg4) (ix3 (bat t) i w))
    (Fin.ext (by show t.val % 2 * 512 + z.val = t.val % 2 * 512 + p.val * 128 + l.val; omega)))
theorem b5' (c : Dev nD) (t : Fin cfg0.N) (z : Fin 512) (p : Fin 4) (hh : Fin 2) (d : Fin 64) (kk : Fin 2048) (hz : z.val = p.val * 128 + (half hh d).val) :
    iblk m c 5 t (ix3 0 z kk) = m ((c : Thread nD τ).loc main_arg5) (ix4 (bat t) kk (headOf (grp t) p hh) d) := by
  have hv : (half hh d).val = hh.val * 64 + d.val := rfl
  refine (b5 m c t z kk).trans (congrArg₂ (fun u w => m ((c : Thread nD τ).loc main_arg5) (ix4 (bat t) kk u w)) (Fin.ext ?_) (Fin.ext ?_))
  · show (t.val % 2 * 512 + z.val) / 64 = t.val % 2 * 8 + p.val * 2 + hh.val; omega
  · show (t.val % 2 * 512 + z.val) % 64 = d.val; omega
theorem b7' (c : Dev nD) (t : Fin cfg0.N) (z : Fin 512) (p : Fin 4) (hh : Fin 2) (d : Fin 64) (kk : Fin 2048) (hz : z.val = p.val * 128 + (half hh d).val) :
    iblk m c 7 t (ix3 0 z kk) = m ((c : Thread nD τ).loc main_arg7) (ix4 (bat t) kk (headOf (grp t) p hh) d) := by
  have hv : (half hh d).val = hh.val * 64 + d.val := rfl
  refine (b7 m c t z kk).trans (congrArg₂ (fun u w => m ((c : Thread nD τ).loc main_arg7) (ix4 (bat t) kk u w)) (Fin.ext ?_) (Fin.ext ?_))
  · show (t.val % 2 * 512 + z.val) / 64 = t.val % 2 * 8 + p.val * 2 + hh.val; omega
  · show (t.val % 2 * 512 + z.val) % 64 = d.val; omega
theorem b0' (c : Dev nD) (t : Fin cfg0.N) (i : Fin 32) (z : Fin 512) (p : Fin 4) (l : Fin 128) (hz : z.val = p.val * 128 + l.val) :
    iblk m c 0 t (ix3 0 i z) = qSlice (m ((c : Thread nD τ).loc main_arg0)) (bat t) (grp t) p (ix3 0 i l) :=
  (b0 m c t i z).trans (congrArg (fun w => m ((c : Thread nD τ).loc main_arg0) (ix3 (bat t) (row i) w))
    (Fin.ext (by show t.val % 2 * 512 + z.val = t.val % 2 * 512 + p.val * 128 + l.val; omega)))

/-- What the precondition says of the inputs. -/
def Fine (c : Dev nD) : Prop :=
  (∀ y, ∃ r : ℝ, m ((c : Thread nD τ).loc main_arg0) y = (r : EReal)) ∧ (∀ y, ∃ r : ℝ, m ((c : Thread nD τ).loc main_arg1) y = (r : EReal))
    ∧ (∀ y, ∃ r : ℝ, m ((c : Thread nD τ).loc main_arg2) y = (r : EReal)) ∧ (∀ y, ∃ r : ℝ, m ((c : Thread nD τ).loc main_arg3) y = (r : EReal))
    ∧ (∀ y, ∃ r : ℝ, m ((c : Thread nD τ).loc main_arg5) y = (r : EReal)) ∧ (∀ y, ∃ r : ℝ, m ((c : Thread nD τ).loc main_arg6) y = (r : EReal))

theorem score_real (a b : Fin 64 → EReal) (a' b' : Fin 6 → EReal) (ha : ∀ x, ∃ r : ℝ, a x = r) (hb : ∀ x, ∃ r : ℝ, b x = r)
    (ha' : ∀ x, ∃ r : ℝ, a' x = r) (hb' : ∀ x, ∃ r : ℝ, b' x = r) : ∃ r : ℝ, score a b a' b' = r := by
  have mul {n : Nat} (f g : Fin n → EReal) (hf : ∀ x, ∃ r : ℝ, f x = r) (hg : ∀ x, ∃ r : ℝ, g x = r) : ∀ x, ∃ r : ℝ, f x * g x = r := fun x => by
    obtain ⟨r, hr⟩ := hf x
    obtain ⟨s, hs⟩ := hg x
    exact ⟨r * s, by rw [hr, hs, EReal.coe_mul]⟩
  obtain ⟨r, hr⟩ := sum_real _ (mul a b ha hb)
  obtain ⟨s, hs⟩ := sum_real _ (mul a' b' ha' hb')
  exact ⟨r + s, by unfold score; rw [hr, hs, EReal.coe_add]⟩

open Cert.ReferenceIdeal.Read in
theorem row_eq (c : Dev nD) (hfin : Fine m c) (b i : Fin 32) (H : Fin 16) (d : Fin 64) :
    gold b i H d (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7))
      = val_main_v50 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (ix3 b i (lane H d)) := by
  obtain ⟨f0, f1, f2, f3, f5, f6⟩ := hfin
  rw [ref_out]
  refine out_eq_soft _ _ _ _ (fun kk => ?_) (fun kk => ?_) (fun kk hk => ?_)
  · obtain ⟨r, hr⟩ := score_real _ _ _ _ (fun x => f0 (ix3 b (row i) (lane H x))) (fun x => f5 (ix4 b kk H x)) (fun x => f1 (ix3 b (row i) (term H x)))
      (fun x => f6 (ix3 b (term H x) kk))
    unfold sOld
    rw [hr]
    exact ⟨EReal.coe_ne_bot r, EReal.coe_ne_top r⟩
  · obtain ⟨r, hr⟩ := score_real _ _ _ _ (fun x => f0 (ix3 b (row i) (lane H x))) (fun x => f2 (ix3 b kk (lane H x))) (fun x => f1 (ix3 b (row i) (term H x)))
      (fun x => f3 (ix3 b kk (term H x)))
    unfold sNew
    rw [hr]
    split
    · exact EReal.coe_ne_top r
    · exact bot_ne_top
  · exact if_neg (by omega)

set_option maxHeartbeats 2000000 in
open Cert.ReferenceIdeal.Read in
theorem final (c : Dev nD) (hfin : Fine m c) : (dats m 0 c).arrAt 8 cfg0.N = val_main_v50 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) := by
  refine (dats m 0 c).arrAt_eq_of_covers 8 _ (by decide +kernel) fun t hf y => ?_
  have e := (places t).2.2.2.2.2.2.2.2
  blk_simp
  rw [after0_8]
  unfold outsAt0
  frame_out
  obtain ⟨z, i, l, rfl⟩ : ∃ (z : Fin 1) (i : Fin 32) (l : Fin 512), y = ix3 z i l := ⟨y 0, y 1, y 2, eq_ix3 y⟩
  obtain rfl : z = 0 := Subsingleton.elim _ _
  have ei : (win0_8.blk t).view.emb (ix3 0 i l) = ix3 (bat t) i ⟨t.val % 2 * 512 + l.val, by omega⟩ := by
    unfold bat
    blk_ext [e]
  show _ = val_main_v50 (F := Ideal) _ _ _ _ _ _ _ _ ((win0_8.blk t).view.emb (ix3 0 i l))
  have el : (⟨t.val % 2 * 512 + l.val, by omega⟩ : Fin 1024)
      = lane ⟨(t.val % 2 * 512 + l.val) / 64, by omega⟩ ⟨l.val % 64, by omega⟩ :=
    Fin.ext (by show t.val % 2 * 512 + l.val = (t.val % 2 * 512 + l.val) / 64 * 64 + l.val % 64; omega)
  rw [ei, el]
  refine Eq.trans ?_ (row_eq m c hfin (bat t) i _ _)
  have hp : ∀ (p : Fin 4) (x : Fin 128), l.val = p.val * 128 + x.val →
      gold (bat t) i (headOf (grp t) p ⟨x.val / 64, by omega⟩) ⟨x.val % 64, by omega⟩ (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7))
      = gold (bat t) i ⟨(t.val % 2 * 512 + l.val) / 64, by omega⟩ ⟨l.val % 64, by omega⟩ (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
    intro p x hx
    rw [show headOf (grp t) p ⟨x.val / 64, by omega⟩ = ⟨(t.val % 2 * 512 + l.val) / 64, by omega⟩ from
        Fin.ext (by show t.val % 2 * 8 + p.val * 2 + x.val / 64 = (t.val % 2 * 512 + l.val) / 64; omega),
      show (⟨x.val % 64, by omega⟩ : Fin 64) = ⟨l.val % 64, by omega⟩ from Fin.ext (by show x.val % 64 = l.val % 64; omega)]
  canon_tiles x h
  · obtain ⟨z', i', j, rfl⟩ : ∃ (z : Fin 1) (i : Fin 32) (l : Fin 128), x = ix3 z i l := ⟨x 0, x 1, x 2, eq_ix3 x⟩
    obtain rfl : z' = 0 := Subsingleton.elim _ _
    obtain rfl : i = i' := Fin.ext h1
    refine Eq.trans ?_ (hp 3 j (by first | exact h2 | (have h2' : l.val = j.val := h2; show l.val = 0 * 128 + j.val; omega)))
    refine pair3 _ _ _ _ _ _ _ _ _ _ _ _ _ _ _ _ _ i j ⟨?_, ?_, ?_, ?_, ?_, ?_, ?_⟩
    · intro c' l'
      pointwise
      exact b2' m c t c' _ 3 l' (by first | (show 384 + l'.val = 3 * 128 + l'.val; omega) | (show l'.val = 3 * 128 + l'.val; omega))
    · exact fun c' l' => b3 m c t c' l'
    · intro c' l'
      pointwise
      exact b4' m c t c' _ 3 l' (by first | (show 384 + l'.val = 3 * 128 + l'.val; omega) | (show l'.val = 3 * 128 + l'.val; omega))
    · intro hh d kk
      pointwise
      exact b5' m c t _ 3 hh d kk (by first | (show 384 + (half hh d).val = 3 * 128 + (half hh d).val; omega) | (show (half hh d).val = 3 * 128 + (half hh d).val; omega))
    · exact fun x kk => b6 m c t x kk
    · intro hh d kk
      pointwise
      exact b7' m c t _ 3 hh d kk (by first | (show 384 + (half hh d).val = 3 * 128 + (half hh d).val; omega) | (show (half hh d).val = 3 * 128 + (half hh d).val; omega))
    · intro r c'
      refine (readback _ 3 _ _ _ _ _ _ r c').trans (two_heads _ _ (grp t) 3 _ _ (fun i c' => ?_) (fun i c' => ?_) r c')
      · refine (w30 _ _ _ i c').trans (stored _ _ _ _ (fun i l => ?_) (fun i l => ?_) _ (grp t) (half_of t) 3 0 i c')
        · first | rw [(hs0_0 t).read_unread] | skip
          pointwise
          exact b0' m c t i _ 3 l (by first | (show 384 + l.val = 3 * 128 + l.val; omega) | (show l.val = 3 * 128 + l.val; omega))
        · first | rw [(hs0_1 t).read_unread] | skip
          pointwise
          exact b1 m c t _ _
      · refine (w31 _ _ _ i c').trans (stored _ _ _ _ (fun i l => ?_) (fun i l => ?_) _ (grp t) (half_of t) 3 1 i c')
        · first | rw [(hs0_0 t).read_unread] | skip
          pointwise
          exact b0' m c t i _ 3 l (by first | (show 384 + l.val = 3 * 128 + l.val; omega) | (show l.val = 3 * 128 + l.val; omega))
        · first | rw [(hs0_1 t).read_unread] | skip
          pointwise
          exact b1 m c t _ _
  · obtain ⟨z', i', j, rfl⟩ : ∃ (z : Fin 1) (i : Fin 32) (l : Fin 128), x = ix3 z i l := ⟨x 0, x 1, x 2, eq_ix3 x⟩
    obtain rfl : z' = 0 := Subsingleton.elim _ _
    obtain rfl : i = i' := Fin.ext h1
    refine Eq.trans ?_ (hp 2 j (by first | exact h2 | (have h2' : l.val = j.val := h2; show l.val = 0 * 128 + j.val; omega)))
    refine pair2 _ _ _ _ _ _ _ _ _ _ _ _ _ _ _ _ _ i j ⟨?_, ?_, ?_, ?_, ?_, ?_, ?_⟩
    · intro c' l'
      pointwise
      exact b2' m c t c' _ 2 l' (by first | (show 256 + l'.val = 2 * 128 + l'.val; omega) | (show l'.val = 2 * 128 + l'.val; omega))
    · exact fun c' l' => b3 m c t c' l'
    · intro c' l'
      pointwise
      exact b4' m c t c' _ 2 l' (by first | (show 256 + l'.val = 2 * 128 + l'.val; omega) | (show l'.val = 2 * 128 + l'.val; omega))
    · intro hh d kk
      pointwise
      exact b5' m c t _ 2 hh d kk (by first | (show 256 + (half hh d).val = 2 * 128 + (half hh d).val; omega) | (show (half hh d).val = 2 * 128 + (half hh d).val; omega))
    · exact fun x kk => b6 m c t x kk
    · intro hh d kk
      pointwise
      exact b7' m c t _ 2 hh d kk (by first | (show 256 + (half hh d).val = 2 * 128 + (half hh d).val; omega) | (show (half hh d).val = 2 * 128 + (half hh d).val; omega))
    · intro r c'
      refine (readback _ 2 _ _ _ _ _ _ r c').trans (two_heads _ _ (grp t) 2 _ _ (fun i c' => ?_) (fun i c' => ?_) r c')
      · refine (w20 _ _ _ i c').trans (stored _ _ _ _ (fun i l => ?_) (fun i l => ?_) _ (grp t) (half_of t) 2 0 i c')
        · first | rw [(hs0_0 t).read_unread] | skip
          pointwise
          exact b0' m c t i _ 2 l (by first | (show 256 + l.val = 2 * 128 + l.val; omega) | (show l.val = 2 * 128 + l.val; omega))
        · first | rw [(hs0_1 t).read_unread] | skip
          pointwise
          exact b1 m c t _ _
      · refine (w21 _ _ _ i c').trans (stored _ _ _ _ (fun i l => ?_) (fun i l => ?_) _ (grp t) (half_of t) 2 1 i c')
        · first | rw [(hs0_0 t).read_unread] | skip
          pointwise
          exact b0' m c t i _ 2 l (by first | (show 256 + l.val = 2 * 128 + l.val; omega) | (show l.val = 2 * 128 + l.val; omega))
        · first | rw [(hs0_1 t).read_unread] | skip
          pointwise
          exact b1 m c t _ _
  · obtain ⟨z', i', j, rfl⟩ : ∃ (z : Fin 1) (i : Fin 32) (l : Fin 128), x = ix3 z i l := ⟨x 0, x 1, x 2, eq_ix3 x⟩
    obtain rfl : z' = 0 := Subsingleton.elim _ _
    obtain rfl : i = i' := Fin.ext h1
    refine Eq.trans ?_ (hp 1 j (by first | exact h2 | (have h2' : l.val = j.val := h2; show l.val = 0 * 128 + j.val; omega)))
    refine pair1 _ _ _ _ _ _ _ _ _ _ _ _ _ _ _ _ _ i j ⟨?_, ?_, ?_, ?_, ?_, ?_, ?_⟩
    · intro c' l'
      pointwise
      exact b2' m c t c' _ 1 l' (by first | (show 128 + l'.val = 1 * 128 + l'.val; omega) | (show l'.val = 1 * 128 + l'.val; omega))
    · exact fun c' l' => b3 m c t c' l'
    · intro c' l'
      pointwise
      exact b4' m c t c' _ 1 l' (by first | (show 128 + l'.val = 1 * 128 + l'.val; omega) | (show l'.val = 1 * 128 + l'.val; omega))
    · intro hh d kk
      pointwise
      exact b5' m c t _ 1 hh d kk (by first | (show 128 + (half hh d).val = 1 * 128 + (half hh d).val; omega) | (show (half hh d).val = 1 * 128 + (half hh d).val; omega))
    · exact fun x kk => b6 m c t x kk
    · intro hh d kk
      pointwise
      exact b7' m c t _ 1 hh d kk (by first | (show 128 + (half hh d).val = 1 * 128 + (half hh d).val; omega) | (show (half hh d).val = 1 * 128 + (half hh d).val; omega))
    · intro r c'
      refine (readback _ 1 _ _ _ _ _ _ r c').trans (two_heads _ _ (grp t) 1 _ _ (fun i c' => ?_) (fun i c' => ?_) r c')
      · refine (w10 _ _ _ i c').trans (stored _ _ _ _ (fun i l => ?_) (fun i l => ?_) _ (grp t) (half_of t) 1 0 i c')
        · first | rw [(hs0_0 t).read_unread] | skip
          pointwise
          exact b0' m c t i _ 1 l (by first | (show 128 + l.val = 1 * 128 + l.val; omega) | (show l.val = 1 * 128 + l.val; omega))
        · first | rw [(hs0_1 t).read_unread] | skip
          pointwise
          exact b1 m c t _ _
      · refine (w11 _ _ _ i c').trans (stored _ _ _ _ (fun i l => ?_) (fun i l => ?_) _ (grp t) (half_of t) 1 1 i c')
        · first | rw [(hs0_0 t).read_unread] | skip
          pointwise
          exact b0' m c t i _ 1 l (by first | (show 128 + l.val = 1 * 128 + l.val; omega) | (show l.val = 1 * 128 + l.val; omega))
        · first | rw [(hs0_1 t).read_unread] | skip
          pointwise
          exact b1 m c t _ _
  · obtain ⟨z', i', j, rfl⟩ : ∃ (z : Fin 1) (i : Fin 32) (l : Fin 128), x = ix3 z i l := ⟨x 0, x 1, x 2, eq_ix3 x⟩
    obtain rfl : z' = 0 := Subsingleton.elim _ _
    obtain rfl : i = i' := Fin.ext h1
    refine Eq.trans ?_ (hp 0 j (by first | exact h2 | (have h2' : l.val = j.val := h2; show l.val = 0 * 128 + j.val; omega)))
    refine pair0 _ _ _ _ _ _ _ _ _ _ _ _ _ _ _ _ _ i j ⟨?_, ?_, ?_, ?_, ?_, ?_, ?_⟩
    · intro c' l'
      pointwise
      exact b2' m c t c' _ 0 l' (by first | (show 0 + l'.val = 0 * 128 + l'.val; omega) | (show l'.val = 0 * 128 + l'.val; omega))
    · exact fun c' l' => b3 m c t c' l'
    · intro c' l'
      pointwise
      exact b4' m c t c' _ 0 l' (by first | (show 0 + l'.val = 0 * 128 + l'.val; omega) | (show l'.val = 0 * 128 + l'.val; omega))
    · intro hh d kk
      pointwise
      exact b5' m c t _ 0 hh d kk (by first | (show 0 + (half hh d).val = 0 * 128 + (half hh d).val; omega) | (show (half hh d).val = 0 * 128 + (half hh d).val; omega))
    · exact fun x kk => b6 m c t x kk
    · intro hh d kk
      pointwise
      exact b7' m c t _ 0 hh d kk (by first | (show 0 + (half hh d).val = 0 * 128 + (half hh d).val; omega) | (show (half hh d).val = 0 * 128 + (half hh d).val; omega))
    · intro r c'
      refine (readback _ 0 _ _ _ _ _ _ r c').trans (two_heads _ _ (grp t) 0 _ _ (fun i c' => ?_) (fun i c' => ?_) r c')
      · refine (w00 _ _ _ i c').trans (stored _ _ _ _ (fun i l => ?_) (fun i l => ?_) _ (grp t) (half_of t) 0 0 i c')
        · first | rw [(hs0_0 t).read_unread] | skip
          pointwise
          exact b0' m c t i _ 0 l (by first | (show 0 + l.val = 0 * 128 + l.val; omega) | (show l.val = 0 * 128 + l.val; omega))
        · first | rw [(hs0_1 t).read_unread] | skip
          pointwise
          exact b1 m c t _ _
      · refine (w01 _ _ _ i c').trans (stored _ _ _ _ (fun i l => ?_) (fun i l => ?_) _ (grp t) (half_of t) 0 1 i c')
        · first | rw [(hs0_0 t).read_unread] | skip
          pointwise
          exact b0' m c t i _ 0 l (by first | (show 0 + l.val = 0 * 128 + l.val; omega) | (show l.val = 0 * 128 + l.val; omega))
        · first | rw [(hs0_1 t).read_unread] | skip
          pointwise
          exact b1 m c t _ _

end Cert.Proof.Decode
-- ==== Proof.Finite.lean ====
/-
  What the stated precondition says of the arrays: every entry is a real number.
-/
module

public import proofs.«01_k».proof.Proof.Decode
public import proofs.«01_k».proof.Defs
public import proofs.«01_k».proof.Proof.Gen.Pre_finite_scores

@[expose] public section

noncomputable section

namespace Cert.Proof

open Idealize.ShloMosaic Idealize.SL.Sem

/-- A value whose magnitude compares below infinity is a real number. -/
theorem real_of_abs (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have top : FloatOps.ofBits (F := Ideal) .f32 0x7F800000#32 = (⊤ : EReal) := by
    show Ideal.ofBits .f32 0x7F800000#32 = ⊤
    simp [Ideal.ofBits, Ideal.ieee]
  rw [top] at h
  change Ideal.cmp .olt (max x (-x)) (⊤ : EReal) = 1#1 at h
  induction x with
  | bot => simp [Ideal.cmp] at h
  | top => simp [Ideal.cmp] at h
  | coe r => exact ⟨r, rfl⟩

/-- The precondition makes the score operands real. -/
theorem fine [Cert.Pre_finite_scores.Facts] (m : (ℓ : Loc Cert.KernelIdeal.nD Cert.KernelIdeal.τ Cert.KernelIdeal.sig) → Buf (Elt Ideal) ℓ)
    (h : Cert.Pre_KernelIdeal_finite_scores m) (c : Dev Cert.KernelIdeal.nD) : Decode.Fine m c := by
  obtain ⟨h0, h1, h2, h3, h5, h6⟩ := h c
  exact ⟨fun y => real_of_abs _ (congrFun h0 y), fun y => real_of_abs _ (congrFun h1 y), fun y => real_of_abs _ (congrFun h2 y),
    fun y => real_of_abs _ (congrFun h3 y), fun y => real_of_abs _ (congrFun h5 y), fun y => real_of_abs _ (congrFun h6 y)⟩

end Cert.Proof

end
-- ==== Proof.Mlp.lean ====
/-
  Hand-written, untrusted. One row of the layer's tail, over the extended reals: the root-mean-square norm with its gain, the
  feed-forward block with squared ReLU on top of the residual, and the hidden dimension summed in four runs of 1024.
-/
module

public import Idealize.ShloMosaic.Lib.Pipeline.ValueKit

@[expose] public section

noncomputable section

namespace Cert.Proof.Mlp
open Idealize.ShloMosaic

/-- The norm of a row with its gain. -/
def nrm (x g : Fin 1024 → EReal) (k : Fin 1024) : EReal :=
  x k * Ideal.rsqrt (Ideal.div (∑ k' : Fin 1024, x k' * x k') (Ideal.ofBits FTy.f32 0x44800000#32)
    + Ideal.ofBits FTy.f32 0x358637BD#32) * g k

/-- A hidden unit: the squared positive part of its projection. -/
def act (h : Fin 1024 → EReal) (w : Fin 1024 → EReal) : EReal :=
  max (∑ k : Fin 1024, h k * w k) 0 * max (∑ k : Fin 1024, h k * w k) 0

/-- The residual row after the feed-forward block. -/
def ffn (x g : Fin 1024 → EReal) (wu : Fin 1024 → Fin 4096 → EReal) (wd : Fin 4096 → Fin 1024 → EReal) (l : Fin 1024) : EReal :=
  x l + ∑ f : Fin 4096, act (nrm x g) (fun k => wu k f) * wd f l

/-- Unit `f` of run `c`. -/
def unitOf (c : Fin 4) (f : Fin 1024) : Fin 4096 := ⟨c.val * 1024 + f.val, by omega⟩

/-- A sum over the hidden dimension, run by run. -/
theorem sum_runs (F : Fin 4096 → EReal) :
    ∑ f : Fin 4096, F f = (∑ f : Fin 1024, F (unitOf 0 f)) + (∑ f : Fin 1024, F (unitOf 1 f))
      + (∑ f : Fin 1024, F (unitOf 2 f)) + ∑ f : Fin 1024, F (unitOf 3 f) := by
  have e : ∑ f : Fin (4 * 1024), F f = ∑ c : Fin 4, ∑ f : Fin 1024, F (unitOf c f) := by
    rw [← Fintype.sum_prod_type' (fun (c : Fin 4) (f : Fin 1024) => F (unitOf c f))]
    exact (Fintype.sum_equiv finProdFinEquiv _ _ fun p => congrArg F (Fin.ext (by
      show p.1.val * 1024 + p.2.val = p.2.val + 1024 * p.1.val; omega))).symm
  rw [show (∑ f : Fin 4096, F f) = ∑ c : Fin 4, ∑ f : Fin 1024, F (unitOf c f) from e, Fin.sum_univ_four]

/-- The block accumulated run by run onto the residual. -/
theorem ffn_runs (x g : Fin 1024 → EReal) (wu : Fin 1024 → Fin 4096 → EReal) (wd : Fin 4096 → Fin 1024 → EReal) (l : Fin 1024) :
    ffn x g wu wd l = x l + (∑ f : Fin 1024, act (nrm x g) (fun k => wu k (unitOf 0 f)) * wd (unitOf 0 f) l)
      + (∑ f : Fin 1024, act (nrm x g) (fun k => wu k (unitOf 1 f)) * wd (unitOf 1 f) l)
      + (∑ f : Fin 1024, act (nrm x g) (fun k => wu k (unitOf 2 f)) * wd (unitOf 2 f) l)
      + ∑ f : Fin 1024, act (nrm x g) (fun k => wu k (unitOf 3 f)) * wd (unitOf 3 f) l := by
  unfold ffn
  rw [sum_runs]
  simp only [add_assoc]

end Cert.Proof.Mlp
end
-- ==== Proof.Tail.lean ====
/-
  Hand-written, untrusted. `Kernel2Ideal`, the layer's tail for the prompt's tokens: its result array is the reference's.
-/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Mlp
public import Idealize.ShloMosaic.Lib.Pipeline.ValueKit

@[expose] public section

set_option maxRecDepth 16384

noncomputable section

namespace Cert.Proof.Tail
open Idealize.ShloMosaic Idealize.SL.Sem Idealize.ShloMosaic.TcCoe
open Idealize.ShloMosaic.Pipeline (Dat Cfg Window)
open Cert.Kernel2Ideal Cert.Kernel2Ideal.Gen
open Cert.Proof.Mlp (nrm act ffn unitOf ffn_runs)

variable (m : (ℓ : Loc nD τ sig) → Buf (Elt Ideal) ℓ)

/-! ## The region's operands -/

theorem V1 (c : Dev nD) (k l : Fin 1024) : V m c main_v1 (ix2 k l) = m ((c : Thread nD τ).loc main_arg2) (ix3 0 k l) := by
  entry_read
  pointwise
theorem V6 (c : Dev nD) (l : Fin 1024) : V m c main_v6 (ix2 0 l) = m ((c : Thread nD τ).loc main_arg3) (ix2 1 l) := by
  entry_read
  pointwise
theorem V8 (c : Dev nD) (k : Fin 1024) (f : Fin 4096) : V m c main_v8 (ix2 k f) = m ((c : Thread nD τ).loc main_arg4) (ix3 1 k f) := by
  entry_read
  pointwise
theorem V10 (c : Dev nD) (f : Fin 4096) (l : Fin 1024) : V m c main_v10 (ix2 f l) = m ((c : Thread nD τ).loc main_arg5) (ix3 1 f l) := by
  entry_read
  pointwise
theorem V11 (c : Dev nD) (l : Fin 1024) : V m c main_v11 (ix2 0 l) = m ((c : Thread nD τ).loc main_arg6) (ix1 l) := by
  entry_read
  pointwise

/-- The blocks' places: point `t` is batch `t / 8`, row tile `t % 8`; the second block of a pair is the sixteen rows after
    the first. -/
theorem places : ∀ t : Fin cfg0.N, win0_0.index t = ![t.val / 8, t.val % 8, 0] ∧ win0_1.index t = ![t.val / 8, (t.val % 8 + 1) * 32, 0]
    ∧ win0_2.index t = ![t.val / 8, t.val % 8, 0] ∧ win0_3.index t = ![t.val / 8, (t.val % 8 + 1) * 32, 0]
    ∧ win0_4.index t = ![0, 0] ∧ win0_5.index t = ![0, 0] ∧ win0_6.index t = ![0, 0] ∧ win0_7.index t = ![0, 0] ∧ win0_8.index t = ![0, 0]
    ∧ win0_9.index t = ![t.val / 8, t.val % 8, 0] :=
  (by decide +kernel : ∀ t : Fin grid0.N, win0_0.index t = ![t.val / 8, t.val % 8, 0] ∧ win0_1.index t = ![t.val / 8, (t.val % 8 + 1) * 32, 0]
    ∧ win0_2.index t = ![t.val / 8, t.val % 8, 0] ∧ win0_3.index t = ![t.val / 8, (t.val % 8 + 1) * 32, 0]
    ∧ win0_4.index t = ![0, 0] ∧ win0_5.index t = ![0, 0] ∧ win0_6.index t = ![0, 0] ∧ win0_7.index t = ![0, 0] ∧ win0_8.index t = ![0, 0]
    ∧ win0_9.index t = ![t.val / 8, t.val % 8, 0])

theorem t_lt (t : Fin cfg0.N) : t.val < 64 := by
  have := t.isLt; have : cfg0.N = 64 := N_0; omega

/-- The batch of a point. -/
def bat (t : Fin cfg0.N) : Fin 8 := ⟨t.val / 8, by have := t_lt t; omega⟩
/-- The row of the padded sequence that row `r` of a point's tile is. -/
def row (t : Fin cfg0.N) (r : Fin 512) : Fin 4224 := ⟨t.val % 8 * 512 + 16 + r.val, by have := t_lt t; omega⟩

theorem b0 (c : Dev nD) (t : Fin cfg0.N) (r : Fin 512) (l : Fin 1024) (h : 16 ≤ r.val) :
    X0_0 m c t (ix3 0 r l) = m ((c : Thread nD τ).loc main_arg0) (ix3 (bat t) (row t ⟨r.val - 16, by omega⟩) l) := by
  have e := (places t).1
  unfold X0_0 Pipeline.Window.fill
  rw [dif_pos (moved0_0 t _)]
  unfold bat row
  blk_ext [iblk, V, e]
theorem b2 (c : Dev nD) (t : Fin cfg0.N) (r : Fin 512) (l : Fin 1024) (h : 16 ≤ r.val) :
    X0_2 m c t (ix3 0 r l) = m ((c : Thread nD τ).loc main_arg1) (ix3 (bat t) (row t ⟨r.val - 16, by omega⟩) l) := by
  have e := (places t).2.2.1
  unfold X0_2 Pipeline.Window.fill
  rw [dif_pos (moved0_2 t _)]
  unfold bat row
  blk_ext [iblk, V, e]
theorem b1 (c : Dev nD) (t : Fin cfg0.N) (r : Fin 16) (l : Fin 1024) :
    iblk m c 1 t (ix3 0 r l) = m ((c : Thread nD τ).loc main_arg0) (ix3 (bat t) (row t ⟨r.val + 496, by omega⟩) l) := by
  have e := (places t).2.1
  unfold bat row
  blk_ext [iblk, V, e]
theorem b3 (c : Dev nD) (t : Fin cfg0.N) (r : Fin 16) (l : Fin 1024) :
    iblk m c 3 t (ix3 0 r l) = m ((c : Thread nD τ).loc main_arg1) (ix3 (bat t) (row t ⟨r.val + 496, by omega⟩) l) := by
  have e := (places t).2.2.2.1
  unfold bat row
  blk_ext [iblk, V, e]
theorem b4 (c : Dev nD) (t : Fin cfg0.N) (k l : Fin 1024) : iblk m c 4 t (ix2 k l) = m ((c : Thread nD τ).loc main_arg2) (ix3 0 k l) := by
  refine Eq.trans ?_ (V1 m c k l)
  have e := (places t).2.2.2.2.1
  blk_ext [iblk, e]
theorem b5 (c : Dev nD) (t : Fin cfg0.N) (l : Fin 1024) : iblk m c 5 t (ix2 0 l) = m ((c : Thread nD τ).loc main_arg3) (ix2 1 l) := by
  refine Eq.trans ?_ (V6 m c l)
  have e := (places t).2.2.2.2.2.1
  blk_ext [iblk, e]
theorem b6 (c : Dev nD) (t : Fin cfg0.N) (k : Fin 1024) (f : Fin 4096) : iblk m c 6 t (ix2 k f) = m ((c : Thread nD τ).loc main_arg4) (ix3 1 k f) := by
  refine Eq.trans ?_ (V8 m c k f)
  have e := (places t).2.2.2.2.2.2.1
  blk_ext [iblk, e]
theorem b7 (c : Dev nD) (t : Fin cfg0.N) (f : Fin 4096) (l : Fin 1024) : iblk m c 7 t (ix2 f l) = m ((c : Thread nD τ).loc main_arg5) (ix3 1 f l) := by
  refine Eq.trans ?_ (V10 m c f l)
  have e := (places t).2.2.2.2.2.2.2.1
  blk_ext [iblk, e]
theorem b8 (c : Dev nD) (t : Fin cfg0.N) (l : Fin 1024) : iblk m c 8 t (ix2 0 l) = m ((c : Thread nD τ).loc main_arg6) (ix1 l) := by
  refine Eq.trans ?_ (V11 m c l)
  have e := (places t).2.2.2.2.2.2.2.2.1
  blk_ext [iblk, e]

/-! ## The body's payloads, a row of the tile at a time -/

/-- The residual row `h` with the mixer's output projected onto it. -/
def res (a : Fin 1024 → EReal) (x : Fin 1024 → EReal) (w : Fin 1024 → Fin 1024 → EReal) (l : Fin 1024) : EReal :=
  x l + ∑ k : Fin 1024, a k * w k l

theorem pay2_row (v0 : Vec Ideal S1x496x1024 .bf16) (v2 : Vec Ideal S1x16x1024 .bf16) (v5 : Vec Ideal S1x496x1024 .f32)
    (v7 : Vec Ideal S1x16x1024 .f32) (v10 : Vec Ideal S1024x1024 .bf16) (r : Fin 512) (l : Fin 1024) :
    k0_pay2 v0 v2 v5 v7 v10 (ix2 r l) = res (fun k => if h : r.val < 496 then v0 (ix3 0 ⟨r.val, h⟩ k) else v2 (ix3 0 ⟨r.val - 496, by omega⟩ k))
      (fun k => if h : r.val < 496 then v5 (ix3 0 ⟨r.val, h⟩ k) else v7 (ix3 0 ⟨r.val - 496, by omega⟩ k)) (fun k l => v10 (ix2 k l)) l := by
  pointwise [k0_pay2, res]
theorem pay3_row (v0 : Vec Ideal S1x496x1024 .bf16) (v2 : Vec Ideal S1x16x1024 .bf16) (v5 : Vec Ideal S1x496x1024 .f32)
    (v7 : Vec Ideal S1x16x1024 .f32) (v10 : Vec Ideal S1024x1024 .bf16) (v14 : Vec Ideal S1x1024 .f32) (r : Fin 512) (l : Fin 1024) :
    k0_pay3 v0 v2 v5 v7 v10 v14 (ix2 r l) = nrm (fun k => k0_pay2 v0 v2 v5 v7 v10 (ix2 r k)) (fun k => v14 (ix2 0 k)) l := by
  pointwise [k0_pay3, nrm]
theorem pay4_row (v0 : Vec Ideal S1x496x1024 .bf16) (v2 : Vec Ideal S1x16x1024 .bf16) (v5 : Vec Ideal S1x496x1024 .f32)
    (v7 : Vec Ideal S1x16x1024 .f32) (v10 : Vec Ideal S1024x1024 .bf16) (v14 : Vec Ideal S1x1024 .f32) (v29 : Vec Ideal S1024x1024 .bf16) (r : Fin 512) (f : Fin 1024) :
    k0_pay4 v0 v2 v5 v7 v10 v14 v29 (ix2 r f) = max (∑ k : Fin 1024, k0_pay3 v0 v2 v5 v7 v10 v14 (ix2 r k) * v29 (ix2 k f)) 0 := by
  pointwise [k0_pay4]
theorem pay5_row (v13 : FVec Ideal S512x1024 .f32) (v28 : FVec Ideal S512x1024 .bf16) (v33 : FVec Ideal S512x1024 .f32)
    (v36 v40 v47 v51 v58 : Vec Ideal S1024x1024 .bf16) (r : Fin 512) (l : Fin 1024) :
    k0_pay5 v13 v28 v33 v36 v40 v47 v51 v58 (ix2 r l) = v13 (ix2 r l) + (∑ f : Fin 1024, v33 (ix2 r f) * v33 (ix2 r f) * v36 (ix2 f l))
      + (∑ f : Fin 1024, act (fun k => v28 (ix2 r k)) (fun k => v40 (ix2 k f)) * v47 (ix2 f l))
      + ∑ f : Fin 1024, act (fun k => v28 (ix2 r k)) (fun k => v51 (ix2 k f)) * v58 (ix2 f l) := by
  pointwise [k0_pay5, act]
theorem pay6_row (v28 : FVec Ideal S512x1024 .bf16) (v62 : Vec Ideal S1024x1024 .bf16) (r : Fin 512) (f : Fin 1024) :
    k0_pay6 v28 v62 (ix2 r f) = act (fun k => v28 (ix2 r k)) (fun k => v62 (ix2 k f)) := by
  pointwise [k0_pay6, act]
theorem pay1_row (v61 : FVec Ideal S512x1024 .f32) (v68 : FVec Ideal S512x1024 .bf16) (v70 : FVec Ideal S1024x1024 .bf16)
    (v73 : Vec Ideal S1x1024 .f32) (r : Fin 512) (l : Fin 1024) :
    k0_pay1 v61 v68 v70 v73 (ix3 0 r l) = nrm (fun l => v61 (ix2 r l) + ∑ f : Fin 1024, v68 (ix2 r f) * v70 (ix2 f l)) (fun k => v73 (ix2 0 k)) l := by
  pointwise [k0_pay1, nrm]

/-! ## The reference at an index -/

/-- The whole tail of one token. -/
def tail (a : Vec Ideal S8x4224x1024 .bf16) (x : Vec Ideal S8x4224x1024 .f32) (wo : Vec Ideal S1x1024x1024 .f32) (gf : Vec Ideal S2x1024 .f32)
    (wu : Vec Ideal S2x1024x4096 .f32) (wd : Vec Ideal S2x4096x1024 .f32) (b : Fin 8) (t : Fin 4224) : Fin 1024 → EReal :=
  ffn (res (fun k => a (ix3 b t k)) (fun k => x (ix3 b t k)) fun k l => wo (ix3 0 k l)) (fun k => gf (ix2 1 k))
    (fun k f => wu (ix3 1 k f)) (fun f l => wd (ix3 1 f l))

open Cert.Reference2Ideal.Read in
theorem ref_res (a : Vec Ideal S8x4224x1024 .bf16) (x : Vec Ideal S8x4224x1024 .f32) (wo : Vec Ideal S1x1024x1024 .f32)
    (b : Fin 8) (t : Fin 4224) (l : Fin 1024) : val_main_v3 (F := Ideal) a x wo (ix3 b t l)
      = res (fun k => a (ix3 b t k)) (fun k => x (ix3 b t k)) (fun k l => wo (ix3 0 k l)) l := by
  pointwise [val_main_v3, val_main_v2, val_main_v1, val_main_v0, res]
open Cert.Reference2Ideal.Read in
theorem ref_nrm (a : Vec Ideal S8x4224x1024 .bf16) (x : Vec Ideal S8x4224x1024 .f32) (wo : Vec Ideal S1x1024x1024 .f32) (gf : Vec Ideal S2x1024 .f32)
    (b : Fin 8) (t : Fin 4224) (l : Fin 1024) : val_main_v18 (F := Ideal) a x wo gf (ix3 b t l)
      = nrm (fun k => val_main_v3 (F := Ideal) a x wo (ix3 b t k)) (fun k => gf (ix2 1 k)) l := by
  pointwise [val_main_v18, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1, nrm]
open Cert.Reference2Ideal.Read in
theorem ref_tail (a : Vec Ideal S8x4224x1024 .bf16) (x : Vec Ideal S8x4224x1024 .f32) (wo : Vec Ideal S1x1024x1024 .f32) (gf : Vec Ideal S2x1024 .f32)
    (wu : Vec Ideal S2x1024x4096 .f32) (wd : Vec Ideal S2x4096x1024 .f32)
    (b : Fin 8) (t : Fin 4224) (l : Fin 1024) : val_main_v27 (F := Ideal) a x wo gf wu wd (ix3 b t l) = tail a x wo gf wu wd b t l := by
  pointwise [val_main_v27, val_main_v26, val_main_v25, val_main_v24, val_main_v23, val_main_v22, val_main_call0_v0, val_main_call0_cst]
  unfold tail ffn
  rw [ref_res]
  refine congrArg _ (Finset.sum_congr rfl fun f _ => ?_)
  pointwise [val_main_v21, val_main_v20, val_main_v19]
  simp only [ref_nrm, ref_res, act]
open Cert.Reference2Ideal.Read in
theorem ref_out (a : Vec Ideal S8x4224x1024 .bf16) (x : Vec Ideal S8x4224x1024 .f32) (wo : Vec Ideal S1x1024x1024 .f32) (gf : Vec Ideal S2x1024 .f32)
    (wu : Vec Ideal S2x1024x4096 .f32) (wd : Vec Ideal S2x4096x1024 .f32) (gl : Vec Ideal S1024 .f32)
    (b : Fin 8) (t : Fin 4096) (l : Fin 1024) : val_main_v41 (F := Ideal) a x wo gf wu wd gl (ix3 b t l)
      = nrm (tail a x wo gf wu wd b ⟨16 + t.val, by omega⟩) (fun k => gl (ix1 k)) l := by
  pointwise [val_main_v41, val_main_v40, val_main_v39, val_main_v38, val_main_v37, val_main_v36, val_main_v35, val_main_v34, val_main_v33,
    val_main_v32, val_main_v31, val_main_v30, val_main_v29, val_main_v28, val_main_cst_2, val_main_cst_3, val_main_cst_4, nrm]
  simp only [ref_tail]

/-- The body's row, its five loads of the token rows given as the residual row `X` and the chunks of the two feed-forward
    weights as runs of the whole ones. -/
theorem body_row (v0 : Vec Ideal S1x496x1024 .bf16) (v2 : Vec Ideal S1x16x1024 .bf16) (v5 : Vec Ideal S1x496x1024 .f32)
    (v7 : Vec Ideal S1x16x1024 .f32) (v10 : Vec Ideal S1024x1024 .bf16) (v14 : Vec Ideal S1x1024 .f32)
    (u0 u1 u2 u3 d0 d1 d2 d3 : Vec Ideal S1024x1024 .bf16) (v73 : Vec Ideal S1x1024 .f32) (r : Fin 512) (l : Fin 1024)
    (X g gl : Fin 1024 → EReal) (wu : Fin 1024 → Fin 4096 → EReal) (wd : Fin 4096 → Fin 1024 → EReal)
    (hx : ∀ l, k0_pay2 v0 v2 v5 v7 v10 (ix2 r l) = X l) (hg : ∀ k, v14 (ix2 0 k) = g k) (hgl : ∀ k, v73 (ix2 0 k) = gl k)
    (hu0 : ∀ k f, u0 (ix2 k f) = wu k (unitOf 0 f)) (hu1 : ∀ k f, u1 (ix2 k f) = wu k (unitOf 1 f))
    (hu2 : ∀ k f, u2 (ix2 k f) = wu k (unitOf 2 f)) (hu3 : ∀ k f, u3 (ix2 k f) = wu k (unitOf 3 f))
    (hd0 : ∀ f l, d0 (ix2 f l) = wd (unitOf 0 f) l) (hd1 : ∀ f l, d1 (ix2 f l) = wd (unitOf 1 f) l)
    (hd2 : ∀ f l, d2 (ix2 f l) = wd (unitOf 2 f) l) (hd3 : ∀ f l, d3 (ix2 f l) = wd (unitOf 3 f) l) :
    k0_pay1 (k0_pay5 (k0_pay2 v0 v2 v5 v7 v10) (k0_pay3 v0 v2 v5 v7 v10 v14) (k0_pay4 v0 v2 v5 v7 v10 v14 u0) d0 u1 d1 u2 d2)
      (k0_pay6 (k0_pay3 v0 v2 v5 v7 v10 v14) u3) (k0_pay7 d3) v73 (ix3 0 r l) = nrm (ffn X g wu wd) gl l := by
  have h3 : ∀ k, k0_pay3 v0 v2 v5 v7 v10 v14 (ix2 r k) = nrm X g k := fun k => by
    rw [pay3_row]; simp only [hx, hg]
  have h7 : ∀ f l, k0_pay7 d3 (ix2 f l) = wd (unitOf 3 f) l := fun f l => by
    pointwise [k0_pay7]
    exact hd3 f l
  rw [pay1_row]
  simp only [hgl]
  refine congrArg (fun x => nrm x gl l) (funext fun l => ?_)
  rw [pay5_row, ffn_runs]
  simp only [hx, pay4_row, pay6_row, h3, h7, hu0, hu1, hu2, hu3, hd0, hd1, hd2, hd3, act]

/-! ## The result array -/

open Cert.Reference2Ideal.Read in
theorem final (c : Dev nD) : (dats m 0 c).arrAt 9 cfg0.N
    = val_main_v41 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have e := (places t).2.2.2.2.2.2.2.2.2
  blk_simp
  rw [after0_9]
  unfold outsAt0
  frame_out
  obtain ⟨z, r, l, rfl⟩ : ∃ (z : Fin 1) (r : Fin 512) (l : Fin 1024), y = ix3 z r l := ⟨y 0, y 1, y 2, eq_ix3 y⟩
  obtain rfl : z = 0 := Subsingleton.elim _ _
  have ei : (win0_9.blk t).view.emb (ix3 0 r l) = ix3 (bat t) ⟨t.val % 8 * 512 + r.val, by omega⟩ l := by
    unfold bat
    blk_ext [e]
  show _ = val_main_v41 (F := Ideal) _ _ _ _ _ _ _ ((win0_9.blk t).view.emb (ix3 0 r l))
  rw [ei, ref_out]
  have hrow : (⟨16 + (t.val % 8 * 512 + r.val), by omega⟩ : Fin 4224) = row t r := Fin.ext (by unfold row; show 16 + (t.val % 8 * 512 + r.val) = t.val % 8 * 512 + 16 + r.val; omega)
  rw [hrow]
  have hx : ∀ l, k0_pay2 (View.ld (X0_0 m c t) (Rect.unit ![0, 16, 0] ![1, 496, 1024] inb_S1x512x1024_S1x496x1024_0_16_0)) (iblk m c 1 t)
      (View.ld (X0_2 m c t) (Rect.unit ![0, 16, 0] ![1, 496, 1024] inb_S1x512x1024_S1x496x1024_0_16_0)) (iblk m c 3 t) (iblk m c 4 t) (ix2 r l)
      = res (fun k => m ((c : Thread nD τ).loc main_arg0) (ix3 (bat t) (row t r) k)) (fun k => m ((c : Thread nD τ).loc main_arg1) (ix3 (bat t) (row t r) k))
          (fun k l => m ((c : Thread nD τ).loc main_arg2) (ix3 0 k l)) l := by
    intro l
    rw [pay2_row]
    by_cases h : r.val < 496
    · simp only [dif_pos h]
      pointwise
      simp only [b0 m c t ⟨16 + r.val, by omega⟩ _ (by show 16 ≤ 16 + r.val; omega), b2 m c t ⟨16 + r.val, by omega⟩ _ (by show 16 ≤ 16 + r.val; omega), b4]
      have hr : (⟨16 + r.val - 16, by omega⟩ : Fin 512) = r := Fin.ext (by show 16 + r.val - 16 = r.val; omega)
      simp only [hr]
    · simp only [dif_neg h, b1, b3, b4]
      have hr : (⟨r.val - 496 + 496, by omega⟩ : Fin 512) = r := Fin.ext (by show r.val - 496 + 496 = r.val; omega)
      simp only [hr]
  refine body_row _ _ _ _ _ _ _ _ _ _ _ _ _ _ _ r l _ _ _ _ _ hx (b5 m c t) (b8 m c t) ?_ ?_ ?_ ?_ ?_ ?_ ?_ ?_ <;> intro f l
  · pointwise
    exact (b6 m c t f _).trans (congrArg (fun x => m ((c : Thread nD τ).loc main_arg4) (ix3 1 f x)) (Fin.ext (by unfold unitOf; simp)))
  · pointwise
    exact (b6 m c t f _).trans (congrArg (fun x => m ((c : Thread nD τ).loc main_arg4) (ix3 1 f x)) (Fin.ext (by unfold unitOf; simp)))
  · pointwise
    exact (b6 m c t f _).trans (congrArg (fun x => m ((c : Thread nD τ).loc main_arg4) (ix3 1 f x)) (Fin.ext (by unfold unitOf; simp)))
  · pointwise
    exact (b6 m c t f _).trans (congrArg (fun x => m ((c : Thread nD τ).loc main_arg4) (ix3 1 f x)) (Fin.ext (by unfold unitOf; simp)))
  · pointwise
    exact (b7 m c t _ l).trans (congrArg (fun x => m ((c : Thread nD τ).loc main_arg5) (ix3 1 x l)) (Fin.ext (by unfold unitOf; simp)))
  · pointwise
    exact (b7 m c t _ l).trans (congrArg (fun x => m ((c : Thread nD τ).loc main_arg5) (ix3 1 x l)) (Fin.ext (by unfold unitOf; simp)))
  · pointwise
    exact (b7 m c t _ l).trans (congrArg (fun x => m ((c : Thread nD τ).loc main_arg5) (ix3 1 x l)) (Fin.ext (by unfold unitOf; simp)))
  · pointwise
    exact (b7 m c t _ l).trans (congrArg (fun x => m ((c : Thread nD τ).loc main_arg5) (ix3 1 x l)) (Fin.ext (by unfold unitOf; simp)))

end Cert.Proof.Tail
end
-- ==== Proof.Inproj1.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

namespace Cert.Proof.Inproj1
open Idealize.ShloMosaic Idealize.SL.Sem Idealize.ShloMosaic.TcCoe
open Idealize.ShloMosaic.Pipeline (Dat Cfg Window)
open Cert.Kernel3Ideal Cert.Kernel3Ideal.Gen

variable (m : (ℓ : Loc nD τ sig) → Buf (Elt Ideal) ℓ)

/-! ## The region's operands: the weight's column groups, the gain's second row -/

theorem V13 (c : Dev nD) (l : Fin 1024) : V m c main_v13 (ix2 0 l) = m ((c : Thread nD τ).loc main_arg1) (ix2 1 l) := by
  unfold V
  simp only [hostOps0, hostOps0_1, hostOps0_2, List.flatten_cons, List.flatten_nil, List.append_nil, List.cons_append, List.nil_append]
  entry_read
  pointwise
theorem V2 (c : Dev nD) (k : Fin 1024) (l : Fin 512) : V m c main_v2 (ix2 k l) = m ((c : Thread nD τ).loc main_arg2) (ix3 0 k ⟨512+l.val, by omega⟩) := by
  unfold V
  simp only [hostOps0, hostOps0_1, hostOps0_2, List.flatten_cons, List.flatten_nil, List.append_nil, List.cons_append, List.nil_append]
  entry_read
  pointwise
theorem V7 (c : Dev nD) (k : Fin 2560) (l : Fin 1024) : V m c main_v7 (ix2 k l) =
    if h : k.val < 512 then m ((c : Thread nD τ).loc main_arg2) (ix3 0 l ⟨k.val, by omega⟩)
    else m ((c : Thread nD τ).loc main_arg2) (ix3 0 l ⟨512 + k.val, by omega⟩) := by
  unfold V
  simp only [hostOps0, hostOps0_1, hostOps0_2, List.flatten_cons, List.flatten_nil, List.append_nil, List.cons_append, List.nil_append]
  entry_read
  pointwise
  split
  · rfl
  · blk_ext
theorem V10 (c : Dev nD) : V m c main_v10 = truncf .bf16 (pad S1024x128 ![0, 0] ![0, 120] ![0, 0] (extractStridedSlice S1024x8 ![0, 3072] (shapeCast S1024x3080 (m ((c : Thread nD τ).loc main_arg2)) shapeCasts_S1x1024x3080_S1024x3080) slices_S1024x3080_S1024x8_0_3072) (sitofp (F := Ideal) .f32 (constantI S_ 32 0#32)) pads_S1024x8_S1024x128_000_01200 h_S_) bitsLt_bf16_f32 := by
  unfold V
  simp only [hostOps0, hostOps0_1, hostOps0_2, List.flatten_cons, List.flatten_nil, List.append_nil, List.cons_append, List.nil_append]
  entry_read
  rfl
theorem zero_word : (FloatOps.sitofp (F := Ideal) FTy.f32 0#32 : EReal) = 0 := by
  show (((0#32 : BitVec 32).toInt : ℝ) : EReal) = 0
  norm_num
theorem V10' (c : Dev nD) (k : Fin 1024) (l : Fin 128) : V m c main_v10 (ix2 k l) = (if h : l.val < 8 then m ((c : Thread nD τ).loc main_arg2) (ix3 0 k ⟨3072+l.val, by omega⟩) else (0 : EReal) : EReal) := by
  rw [V10]
  pointwise
  rw [zero_word]

/-- The blocks' places: the rows move with the point, the weights are whole. -/
theorem places : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![0, t.val] ∧ win0_8.index t = ![0, t.val] ∧ win0_9.index t = ![0, t.val] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![0, t.val] ∧ win0_8.index t = ![0, t.val] ∧ win0_9.index t = ![0, t.val])

theorem row_lt (t : Fin cfg0.N) (r : Fin 512) : t.val * 512 + r.val < 33792 := by
  have := t.isLt; have : cfg0.N = 66 := N_0; omega

theorem b0 (c : Dev nD) (t : Fin cfg0.N) (r : Fin 512) (l : Fin 1024) :
    iblk m c 0 t (ix2 r l) = m ((c : Thread nD τ).loc main_arg0) (ix2 ⟨t.val * 512 + r.val, row_lt t r⟩ l) := by
  have e := (places t).1
  blk_ext [iblk, V, e]
theorem b1 (c : Dev nD) (t : Fin cfg0.N) (l : Fin 1024) : iblk m c 1 t (ix2 0 l) = m ((c : Thread nD τ).loc main_arg1) (ix2 1 l) := by
  refine Eq.trans ?_ (V13 m c l)
  have e := (places t).2.1
  blk_ext [iblk, e]
theorem b2 (c : Dev nD) (t : Fin cfg0.N) (k : Fin 1024) (l : Fin 512) : iblk m c 2 t (ix2 k l) = m ((c : Thread nD τ).loc main_arg2) (ix3 0 k ⟨512+l.val, by omega⟩) := by
  refine Eq.trans ?_ (V2 m c k l)
  have e := (places t).2.2.1
  blk_ext [iblk, e]
theorem b3 (c : Dev nD) (t : Fin cfg0.N) (k : Fin 1024) (l : Fin 128) : iblk m c 3 t (ix2 k l) = (if h : l.val < 8 then m ((c : Thread nD τ).loc main_arg2) (ix3 0 k ⟨3072+l.val, by omega⟩) else (0 : EReal) : EReal) := by
  refine Eq.trans ?_ (V10' m c k l)
  have e := (places t).2.2.2.1
  blk_ext [iblk, e]
theorem b4 (c : Dev nD) (t : Fin cfg0.N) (k : Fin 2560) (l : Fin 1024) : iblk m c 4 t (ix2 k l) =
    if h : k.val < 512 then m ((c : Thread nD τ).loc main_arg2) (ix3 0 l ⟨k.val, by omega⟩)
    else m ((c : Thread nD τ).loc main_arg2) (ix3 0 l ⟨512 + k.val, by omega⟩) := by
  refine Eq.trans ?_ (V7 m c k l)
  have e := (places t).2.2.2.2.1
  blk_ext [iblk, e]

/-! ## The reference's results at an index -/

/-- A row's element after the root-mean-square norm with its gain. -/
def nrm (x : Vec Ideal S33792x1024 .f32) (g : Vec Ideal S2x1024 .f32) (r : Fin 33792) (k : Fin 1024) : EReal :=
  x (ix2 r k) * Ideal.rsqrt (Ideal.div (∑ k' : Fin 1024, x (ix2 r k') * x (ix2 r k')) (Ideal.ofBits FTy.f32 0x44800000#32)
    + Ideal.ofBits FTy.f32 0x358637BD#32) * g (ix2 1 k)

open Cert.Reference3Ideal.Read

/-- Every column group of the projection. -/
theorem proj (x : Vec Ideal S33792x1024 .f32) (g : Vec Ideal S2x1024 .f32) (w : Vec Ideal S1x1024x3080 .f32) (r : Fin 33792) (l : Fin 3080) :
    val_main_v16 (F := Ideal) x g w (ix2 r l) = ∑ k : Fin 1024, nrm x g r k * w (ix3 0 k l) := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_v24, val_main_c, val_main_call0_v0, val_main_v25, val_main_v26, val_main_v27, val_main_v28, val_main_v29, val_main_v30, nrm]

theorem ref_k (x : Vec Ideal S33792x1024 .f32) (g : Vec Ideal S2x1024 .f32) (w : Vec Ideal S1x1024x3080 .f32) (r : Fin 33792) (l : Fin 512) :
    val_main_v24 (F := Ideal) x g w (ix2 r l) = (∑ k : Fin 1024, nrm x g r k * w (ix3 0 k ⟨512 + l.val, by omega⟩)) * Ideal.ofBits FTy.f32 0x3DB504F3#32 := by
  pointwise [val_main_v17, val_main_v18, val_main_v19, val_main_v20, val_main_v21, val_main_cst_2, val_main_v22, val_main_v23, val_main_v24, val_main_c, val_main_call0_v0, val_main_v25, val_main_v26, val_main_v27, val_main_v28, val_main_v29, val_main_v30, proj]
theorem ref_g (x : Vec Ideal S33792x1024 .f32) (g : Vec Ideal S2x1024 .f32) (w : Vec Ideal S1x1024x3080 .f32) (r : Fin 33792) (l : Fin 128) :
    val_main_v25 (F := Ideal) x g w (ix2 r l) = (if h : l.val < 8 then ∑ k : Fin 1024, nrm x g r k * w (ix3 0 k ⟨3072 + l.val, by omega⟩) else (0 : EReal) : EReal) := by
  pointwise [val_main_v17, val_main_v18, val_main_v19, val_main_v20, val_main_v21, val_main_cst_2, val_main_v22, val_main_v23, val_main_v24, val_main_c, val_main_call0_v0, val_main_v25, val_main_v26, val_main_v27, val_main_v28, val_main_v29, val_main_v30, proj]
  rw [zero_word]
theorem ref_q (x : Vec Ideal S33792x1024 .f32) (g : Vec Ideal S2x1024 .f32) (w : Vec Ideal S1x1024x3080 .f32) (r : Fin 33792) (l : Fin 512) :
    val_main_v27 (F := Ideal) x g w (ix2 l r) = ∑ k : Fin 1024, nrm x g r k * w (ix3 0 k ⟨l.val, by omega⟩) := by
  pointwise [val_main_v17, val_main_v18, val_main_v19, val_main_v20, val_main_v21, val_main_cst_2, val_main_v22, val_main_v23, val_main_v24, val_main_c, val_main_call0_v0, val_main_v25, val_main_v26, val_main_v27, val_main_v28, val_main_v29, val_main_v30, proj]
theorem ref_v (x : Vec Ideal S33792x1024 .f32) (g : Vec Ideal S2x1024 .f32) (w : Vec Ideal S1x1024x3080 .f32) (r : Fin 33792) (l : Fin 1024) :
    val_main_v29 (F := Ideal) x g w (ix2 l r) = ∑ k : Fin 1024, nrm x g r k * w (ix3 0 k ⟨1024 + l.val, by omega⟩) := by
  pointwise [val_main_v17, val_main_v18, val_main_v19, val_main_v20, val_main_v21, val_main_cst_2, val_main_v22, val_main_v23, val_main_v24, val_main_c, val_main_call0_v0, val_main_v25, val_main_v26, val_main_v27, val_main_v28, val_main_v29, val_main_v30, proj]
theorem ref_o (x : Vec Ideal S33792x1024 .f32) (g : Vec Ideal S2x1024 .f32) (w : Vec Ideal S1x1024x3080 .f32) (r : Fin 33792) (l : Fin 1024) :
    val_main_v30 (F := Ideal) x g w (ix2 l r) = ∑ k : Fin 1024, nrm x g r k * w (ix3 0 k ⟨2048 + l.val, by omega⟩) := by
  pointwise [val_main_v17, val_main_v18, val_main_v19, val_main_v20, val_main_v21, val_main_cst_2, val_main_v22, val_main_v23, val_main_v24, val_main_c, val_main_call0_v0, val_main_v25, val_main_v26, val_main_v27, val_main_v28, val_main_v29, val_main_v30, proj]

theorem final_k (c : Dev nD) : (dats m 0 c).arrAt 5 cfg0.N
    = val_main_v24 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have e := (places t).2.2.2.2.2.1
  blk_simp
  rw [after0_5]
  frame_out
  obtain ⟨a, b, rfl⟩ : ∃ (a : Fin 512) (b : Fin 512), y = ix2 a b := ⟨y 0, y 1, eq_ix2 y⟩
  have ei : (win0_5.blk t).view.emb (ix2 a b) = ix2 ⟨t.val * 512 + a.val, row_lt t a⟩ b := by
    blk_ext [e]
  show _ = val_main_v24 (F := Ideal) _ _ _ ((win0_5.blk t).view.emb (ix2 a b))
  rw [ei, ref_k]
  unfold_payloads
  pointwise
  simp only [b0, b1, b2, nrm]

theorem final_g (c : Dev nD) : (dats m 0 c).arrAt 6 cfg0.N
    = val_main_v25 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have e := (places t).2.2.2.2.2.2.1
  blk_simp
  rw [after0_6]
  frame_out
  obtain ⟨a, b, rfl⟩ : ∃ (a : Fin 512) (b : Fin 128), y = ix2 a b := ⟨y 0, y 1, eq_ix2 y⟩
  have ei : (win0_6.blk t).view.emb (ix2 a b) = ix2 ⟨t.val * 512 + a.val, row_lt t a⟩ b := by
    blk_ext [e]
  show _ = val_main_v25 (F := Ideal) _ _ _ ((win0_6.blk t).view.emb (ix2 a b))
  rw [ei, ref_g]
  unfold_payloads
  pointwise
  simp only [b0, b1, b3, nrm]
  split
  · rfl
  · simp only [mul_zero, Finset.sum_const_zero]

theorem final_q (c : Dev nD) : (dats m 0 c).arrAt 7 cfg0.N
    = val_main_v27 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have e := (places t).2.2.2.2.2.2.2.1
  blk_simp
  rw [after0_7]
  frame_out
  obtain ⟨a, b, rfl⟩ : ∃ (a : Fin 512) (b : Fin 512), y = ix2 a b := ⟨y 0, y 1, eq_ix2 y⟩
  have ei : (win0_7.blk t).view.emb (ix2 a b) = ix2 a ⟨t.val * 512 + b.val, row_lt t b⟩ := by
    blk_ext [e]
  show _ = val_main_v27 (F := Ideal) _ _ _ ((win0_7.blk t).view.emb (ix2 a b))
  rw [ei, ref_q]
  unfold_payloads
  pointwise
  simp only [b0, b1, b4, nrm]
  refine Finset.sum_congr rfl fun k _ => ?_
  rw [dif_pos (by omega), mul_comm]

theorem final_v (c : Dev nD) : (dats m 0 c).arrAt 8 cfg0.N
    = val_main_v29 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  have e := (places t).2.2.2.2.2.2.2.2.1
  blk_simp
  rw [after0_8]
  frame_out
  obtain ⟨a, b, rfl⟩ : ∃ (a : Fin 1024) (b : Fin 512), y = ix2 a b := ⟨y 0, y 1, eq_ix2 y⟩
  have ei : (win0_8.blk t).view.emb (ix2 a b) = ix2 a ⟨t.val * 512 + b.val, row_lt t b⟩ := by
    blk_ext [e]
  show _ = val_main_v29 (F := Ideal) _ _ _ ((win0_8.blk t).view.emb (ix2 a b))
  rw [ei, ref_v]
  unfold_payloads
  pointwise
  simp only [b0, b1, b4, nrm]
  refine Finset.sum_congr rfl fun k _ => ?_
  rw [dif_neg (by omega), mul_comm]
  refine congrArg _ (congrArg _ ?_)
  blk_ext

theorem final_o (c : Dev nD) : (dats m 0 c).arrAt 9 cfg0.N
    = val_main_v30 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  have e := (places t).2.2.2.2.2.2.2.2.2
  blk_simp
  rw [after0_9]
  frame_out
  obtain ⟨a, b, rfl⟩ : ∃ (a : Fin 1024) (b : Fin 512), y = ix2 a b := ⟨y 0, y 1, eq_ix2 y⟩
  have ei : (win0_9.blk t).view.emb (ix2 a b) = ix2 a ⟨t.val * 512 + b.val, row_lt t b⟩ := by
    blk_ext [e]
  show _ = val_main_v30 (F := Ideal) _ _ _ ((win0_9.blk t).view.emb (ix2 a b))
  rw [ei, ref_o]
  unfold_payloads
  pointwise
  simp only [b0, b1, b4, nrm]
  refine Finset.sum_congr rfl fun k _ => ?_
  rw [dif_neg (by omega), mul_comm]
  refine congrArg _ (congrArg _ ?_)
  blk_ext

end Cert.Proof.Inproj1
end
-- ==== Proof.PrefixedRun.lean ====
/-
  Hand-written, untrusted. `Kernel4Ideal`, the layer's tail behind the meta tokens: the body's run at any point.
-/
module

public import proofs.«01_k».proof.Proof.Gen.Kernel4Ideal.Frame
public import proofs.«01_k».proof.Proof.Gen.Kernel4Ideal.Skeleton
public import Idealize.ShloMosaic.Lib.Pipeline.ReadBack
public import Idealize.ShloMosaic.Lib.Pipeline.ValueKit

@[expose] public section

set_option maxRecDepth 16384

noncomputable section

namespace Cert.Proof.Prefixed
open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 9, through which its contents are stated (`View.read_writes_of_cover`: the
    choice does not matter). -/
abbrev VO0_9 : View sig .tc .vmem S1x384x1024 .f32 := (Memref.whole cc0_stg9_0 : Memref sig .tc .vmem S1x384x1024 .f32).view
/-- Each window's current staging memref at point `t`, spelled as the pipeline passes it (`bodyAt0`), and its wholeness. -/
abbrev ms0_0 (t : Fin cfg0.N) : Memref sig .tc .vmem S1x384x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x384x1024 .f32 := win0_9.stage (cfg0.slots t 9)
abbrev hs0_9 (t : Fin cfg0.N) : (ms0_9 t).IsWhole := hstage0_9 ((cfg0.slots t 9).cast nbuf0_9)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x384x1024 .bf16) (harg2 : arg2.IsWhole) (arg3 : Memref sig .tc .vmem S1x16x1024 .f32) (harg3 : arg3.IsWhole) (arg4 : Memref sig .tc .vmem S1x384x1024 .f32) (harg4 : arg4.IsWhole) (arg5 : Memref sig .tc .vmem S16x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1x384x1024 .f32) (harg11 : arg11.IsWhole)
    (x0 : Vec F S1x384x1024 .bf16) (x1 : Vec F S1x16x1024 .f32) (x2 : Vec F S1x384x1024 .f32) (x3 : Vec F S16x1024 .f32) (x4 : Vec F S1024x1024 .bf16) (x5 : Vec F S1x1024 .f32) (x6 : Vec F S1024x4096 .bf16) (x7 : Vec F S4096x1024 .bf16) (x8 : Vec F S1x1024 .f32) :
    { L9 : List (View.Piece (Elt F) S1x384x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc0_post_prefixed i arg2 harg2 arg3 harg3 arg4 harg4 arg5 harg5 arg6 harg6 arg7 harg7 arg8 harg8 arg9 harg9 arg10 harg10 arg11 harg11) K } := by
  refine ⟨?_, fun E K => ?run⟩
  case run =>
    simp only [cc0_post_prefixed_eq_skeleton]; unfold cc0_post_prefixed_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

/-- The run's pieces for output 9 tile its block (1 store of `S1x384x1024`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x384x1024 .bf16) (harg2 : arg2.IsWhole) (arg3 : Memref sig .tc .vmem S1x16x1024 .f32) (harg3 : arg3.IsWhole) (arg4 : Memref sig .tc .vmem S1x384x1024 .f32) (harg4 : arg4.IsWhole) (arg5 : Memref sig .tc .vmem S16x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1x384x1024 .f32) (harg11 : arg11.IsWhole)
    (x0 : Vec F S1x384x1024 .bf16) (x1 : Vec F S1x16x1024 .f32) (x2 : Vec F S1x384x1024 .f32) (x3 : Vec F S16x1024 .f32) (x4 : Vec F S1024x1024 .bf16) (x5 : Vec F S1x1024 .f32) (x6 : Vec F S1024x4096 .bf16) (x7 : Vec F S4096x1024 .bf16) (x8 : Vec F S1x1024 .f32) (y : S1x384x1024.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6 x7 x8).1 S1x384x1024.size (by sl_kernel_rfl) y

/-- What the run leaves in output 9's staging buffer: its pieces read back over junk. -/
def out0_A_9 (c : Dev nD) (i : grid0.Coords) (arg2 : Memref sig .tc .vmem S1x384x1024 .bf16) (harg2 : arg2.IsWhole) (arg3 : Memref sig .tc .vmem S1x16x1024 .f32) (harg3 : arg3.IsWhole) (arg4 : Memref sig .tc .vmem S1x384x1024 .f32) (harg4 : arg4.IsWhole) (arg5 : Memref sig .tc .vmem S16x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1x384x1024 .f32) (harg11 : arg11.IsWhole)
    (x0 : Vec F S1x384x1024 .bf16) (x1 : Vec F S1x16x1024 .f32) (x2 : Vec F S1x384x1024 .f32) (x3 : Vec F S16x1024 .f32) (x4 : Vec F S1024x1024 .bf16) (x5 : Vec F S1x1024 .f32) (x6 : Vec F S1024x4096 .bf16) (x7 : Vec F S4096x1024 .bf16) (x8 : Vec F S1x1024 .f32) : Vec F S1x384x1024 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 x0 x1 x2 x3 x4 x5 x6 x7 x8).1)

/-! ## The rows past the prompt's end -/

/-- The mask at row `r` of tile `j`: whether the row is one of the sequence's. -/
theorem mask_word (j r : ℕ) (hj : j < 11) (hr : r < 384) :
    IntOp.cmpi .slt (IntOp.addi (Scalar.muli (BitVec.ofNat 32 j) 384#32) (BitVec.ofNat 32 r)) 4112#32
      = if j * 384 + r < 4112 then 1#1 else 0#1 := by
  have e : IntOp.addi (Scalar.muli (BitVec.ofNat 32 j) 384#32) (BitVec.ofNat 32 r) = BitVec.ofNat 32 (j * 384 + r) := by
    show BitVec.ofNat 32 j * BitVec.ofNat 32 384 + BitVec.ofNat 32 r = _
    rw [BitVec.ofNat_add, BitVec.ofNat_mul]
  rw [e, WordCmp.cmpi_slt_ofNat (by omega) (by omega)]
  by_cases h : j * 384 + r < 4112
  · rw [if_pos h, decide_eq_true h]; rfl
  · rw [if_neg h, decide_eq_false h]; rfl

/-- The token rows enter the body through a mask: two loads of the second block that agree on the rows of the sequence
    give the same residual rows. -/
theorem pay2_masked (i : grid0.Coords) (v1 : Vec F S16x1024 .f32) (v2 : Vec F S1x16x1024 .f32) (v5 v5' : Vec F S1x368x1024 .f32)
    (v18 : Vec F S1x384x1024 .bf16) (v20 : Vec F S1024x1024 .bf16)
    (h : ∀ (r : Fin 368) (l : Fin 1024), (i 1).val * 384 + 16 + r.val < 4112 → v5 (ix3 0 r l) = v5' (ix3 0 r l)) :
    k0_pay2 i v1 v2 v5 v18 v20 = k0_pay2 i v1 v2 v5' v18 v20 := by
  funext y
  obtain ⟨r, l, rfl⟩ : ∃ (r : Fin 384) (l : Fin 1024), y = ix2 r l := ⟨y 0, y 1, eq_ix2 y⟩
  pointwise [k0_pay2]
  rw [mask_word _ _ (i 1).isLt r.isLt]
  by_cases hr : r.val < 16
  · simp only [dif_pos hr]
  · simp only [dif_neg hr]
    by_cases hm : (i 1).val * 384 + r.val < 4112
    · rw [if_pos hm, h ⟨r.val - 16, by omega⟩ l (by show (i 1).val * 384 + 16 + (r.val - 16) < 4112; omega)]
    · rw [if_neg hm]; rfl

theorem pay4_masked (i : grid0.Coords) (v1 : Vec F S16x1024 .f32) (v2 : Vec F S1x16x1024 .f32) (v5 v5' : Vec F S1x368x1024 .f32)
    (v18 : Vec F S1x384x1024 .bf16) (v20 : Vec F S1024x1024 .bf16)
    (h : ∀ (r : Fin 368) (l : Fin 1024), (i 1).val * 384 + 16 + r.val < 4112 → v5 (ix3 0 r l) = v5' (ix3 0 r l)) :
    k0_pay4 i v1 v2 v5 v18 v20 = k0_pay4 i v1 v2 v5' v18 v20 := by
  unfold k0_pay4
  rw [pay2_masked i v1 v2 v5 v5' v18 v20 h]

set_option maxHeartbeats 2000000 in
/-- So the body leaves the same block whatever the second block's buffer holds past the sequence's end. -/
theorem out_masked (c : Dev nD) (i : grid0.Coords) (arg2 : Memref sig .tc .vmem S1x384x1024 .bf16) (harg2 : arg2.IsWhole) (arg3 : Memref sig .tc .vmem S1x16x1024 .f32) (harg3 : arg3.IsWhole) (arg4 : Memref sig .tc .vmem S1x384x1024 .f32) (harg4 : arg4.IsWhole) (arg5 : Memref sig .tc .vmem S16x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1x384x1024 .f32) (harg11 : arg11.IsWhole)
    (x0 : Vec F S1x384x1024 .bf16) (x1 : Vec F S1x16x1024 .f32) (x2 x2' : Vec F S1x384x1024 .f32) (x3 : Vec F S16x1024 .f32) (x4 : Vec F S1024x1024 .bf16) (x5 : Vec F S1x1024 .f32) (x6 : Vec F S1024x4096 .bf16) (x7 : Vec F S4096x1024 .bf16) (x8 : Vec F S1x1024 .f32)
    (h : ∀ (r : Fin 384) (l : Fin 1024), (i 1).val * 384 + 16 + r.val < 4112 → x2 (ix3 0 r l) = x2' (ix3 0 r l)) :
    out0_A_9 c i arg2 harg2 arg3 harg3 arg4 harg4 arg5 harg5 arg6 harg6 arg7 harg7 arg8 harg8 arg9 harg9 arg10 harg10 arg11 harg11 x0 x1 x2 x3 x4 x5 x6 x7 x8
      = out0_A_9 c i arg2 harg2 arg3 harg3 arg4 harg4 arg5 harg5 arg6 harg6 arg7 harg7 arg8 harg8 arg9 harg9 arg10 harg10 arg11 harg11 x0 x1 x2' x3 x4 x5 x6 x7 x8 := by
  unfold out0_A_9
  frame_out
  have hv : ∀ (r : Fin 368) (l : Fin 1024), (i 1).val * 384 + 16 + r.val < 4112 →
      View.ld x2 (Rect.unit ![0, 0, 0] ![1, 368, 1024] inb_S1x384x1024_S1x368x1024_0_0_0) (ix3 0 r l)
        = View.ld x2' (Rect.unit ![0, 0, 0] ![1, 368, 1024] inb_S1x384x1024_S1x368x1024_0_0_0) (ix3 0 r l) := by
    intro r l hr
    pointwise
    exact h ⟨r.val, by omega⟩ l hr
  rw [pay2_masked i _ _ _ _ _ _ hv, pay4_masked i _ _ _ _ _ _ hv]

end Cert.Proof.Prefixed

end
-- ==== Proof.PrefixedFrame.lean ====
/-
  Hand-written, untrusted. `Kernel4Ideal`, the layer's tail behind the meta tokens: the frame, and the run with the result array named.
-/
module

public import proofs.«01_k».proof.Proof.Gen.Kernel4Ideal.Frame
public import proofs.«01_k».proof.Proof.PrefixedRun
public import Idealize.ShloMosaic.Lib.Pipeline.ReadBack
public import Idealize.ShloMosaic.Lib.Pipeline.ValueKit

@[expose] public section

set_option maxRecDepth 16384

noncomputable section

namespace Cert.Proof.Prefixed
open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The second block's buffer -/

/-- What fills the second block's buffer past the array's end; nothing reads it. -/
def dflt0_2 : (cfg0.win 2).block.Idx → Elt F (cfg0.win 2).elt := fun _ => Classical.choice inferInstance
/-- The second block at `t`, filled out to the buffer's size. -/
def X0_2 (c : Dev nD) (t : Fin cfg0.N) : (cfg0.win 2).block.Idx → Elt F (cfg0.win 2).elt :=
  (cfg0.win 2).fill (cfg0.grid.coords t) dflt0_2 (iblk m c 2 t)
/-- A fetch of the second block moves every row it has inside the array. -/
theorem xsize0_2 : ∀ t : Fin cfg0.N, (cfg0.win 2).xsize (cfg0.grid.coords t) 0 = 1 ∧ (cfg0.win 2).xsize (cfg0.grid.coords t) 2 = 1024
    ∧ ((cfg0.win 2).xsize (cfg0.grid.coords t) 1 = 384 ∨ (grid0.coords t 1).val * 384 + (cfg0.win 2).xsize (cfg0.grid.coords t) 1 = 4096) := by decide +kernel
theorem moved0_2 (t : Fin cfg0.N) (r : Fin 384) (l : Fin 1024) (h : (grid0.coords t 1).val * 384 + 16 + r.val < 4112) :
    (cfg0.win 2).moved (cfg0.grid.coords t) (ix3 0 r l) = true :=
  ((cfg0.win 2).moved_iff _ _).mpr fun a => by
    obtain ⟨h0, h2, h1⟩ := xsize0_2 t
    match a with
    | ⟨0, _⟩ => exact lt_of_lt_of_eq (by show 0 < 1; omega) h0.symm
    | ⟨1, _⟩ =>
      show r.val < (cfg0.win 2).xsize (cfg0.grid.coords t) 1
      have := r.isLt
      omega
    | ⟨2, _⟩ => exact lt_of_lt_of_eq l.isLt h2.symm

/-! ## What the outputs hold after each point -/

/-- What the outputs' staging buffers hold after the body at point `t`: the run's contents at
    the point's memrefs and input blocks. -/
def outsAt0 (c : Dev nD) (t : Fin cfg0.N) : Vec F S1x384x1024 .f32 :=
  out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (X0_2 m c t) (iblk m c 3 t) (iblk m c 4 t) (iblk m c 5 t) (iblk m c 6 t) (iblk m c 7 t) (iblk m c 8 t)

/-- The block left is the same whatever the second block's buffer holds past the array's end. -/
theorem outs_any (c : Dev nD) (t : Fin cfg0.N) (d : (cfg0.win 2).block.Idx → Elt F (cfg0.win 2).elt) :
    outsAt0 m c t = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) ((cfg0.win 2).fill (cfg0.grid.coords t) d (iblk m c 2 t)) (iblk m c 3 t) (iblk m c 4 t) (iblk m c 5 t) (iblk m c 6 t) (iblk m c 7 t) (iblk m c 8 t) := by
  unfold outsAt0
  refine out_masked c (grid0.coords t) _ _ _ _ _ _ _ _ _ _ _ _ _ _ _ _ _ _ _ _ _ _ _ _ _ _ _ _ _ _ fun r l h => ?_
  unfold X0_2 Pipeline.Window.fill
  rw [dif_pos (moved0_2 t r l h), dif_pos (moved0_2 t r l h)]

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = (cfg0.win 2).fill (cfg0.grid.coords t) d (iblk m c 2 t) := by
  unfold Dat.before; rw [if_pos (fetch0_2 t)]; rfl
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare ((cfg0.win 2).fill (cfg0.grid.coords t) d ((cfg0.win 2).cut (cfg0.grid.coords t) ((dats m 0 c).after 2 t))))
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [outs_any m c t d2]
  unfold out0_A_9
  iapply ((kernelRun0_A c (grid0.coords t) _ _ _ _ _ _ _ _ _ _ _ _ _ _ _ _ _ _ _ _ (iblk m c 0 t) (iblk m c 1 t) ((cfg0.win 2).fill (cfg0.grid.coords t) d2 (iblk m c 2 t)) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]
  · iexists d2
    have hx : (cfg0.win 2).cut (cfg0.grid.coords t) (X0_2 m c t) = iblk m c 2 t := (cfg0.win 2).cut_fill _ _ _
    rw [hx]; try iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, the second block's buffer stated on the rows inside the array. -/
theorem body_obligation (c : Dev nD) : BodyObligationLoose (dats (F := F) m 0 c) (defs₀ (F := F)) Variants.none () Set.univ := fun t => by
  rw [bigSep_W0, bigSep_W0, defs₀_row]
  simp only
  exact sound_body m c t

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame, at any instance of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-- The run with the result array named, the arguments unchanged. -/
theorem run_blocks : θ_run defs (onTc (τ := τ) (main (F := F))) ⟨m, fun _ => 0, ρ⟩ fun r =>
      (∀ c : Dev nD, r.2.mem ((c : Thread nD τ).loc main_v12) = (dats m 0 c).arrAt 9 cfg0.N)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_and ((θ_run defs _ _).mono (fun _ h c => (h c).1 9) (run_main m ρ)) (unchanged m ρ)

end Cert.Proof.Prefixed

end
-- ==== Proof.Prefixed.lean ====
/-
  Hand-written, untrusted. `Kernel4Ideal`, the layer's tail for the prompts, their rows built on the way: its result
  array is the reference's.
-/
module

public import proofs.«01_k».proof.Proof.PrefixedFrame
public import proofs.«01_k».proof.Proof.Gen.Reference4Ideal.Run
public import proofs.«01_k».proof.Proof.Gen.Reference4Ideal.Read
public import proofs.«01_k».proof.Proof.Mlp
public import Idealize.ShloMosaic.Lib.Pipeline.ValueKit

@[expose] public section

set_option maxRecDepth 16384

noncomputable section

namespace Cert.Proof.Prefixed
open Idealize.ShloMosaic Idealize.SL.Sem Idealize.ShloMosaic.TcCoe
open Idealize.ShloMosaic.Pipeline (Dat Cfg Window)
open Cert.Kernel4Ideal Cert.Kernel4Ideal.Gen
open Cert.Proof.Mlp (nrm act ffn unitOf ffn_runs)

variable (m : (ℓ : Loc nD τ sig) → Buf (Elt Ideal) ℓ)

/-! ## The region's operands -/

theorem V1 (c : Dev nD) (k l : Fin 1024) : V m c main_v1 (ix2 k l) = m ((c : Thread nD τ).loc main_arg3) (ix3 0 k l) := by
  entry_read
  pointwise
theorem V6 (c : Dev nD) (l : Fin 1024) : V m c main_v6 (ix2 0 l) = m ((c : Thread nD τ).loc main_arg4) (ix2 0 l) := by
  entry_read
  pointwise
theorem V8 (c : Dev nD) (k : Fin 1024) (f : Fin 4096) : V m c main_v8 (ix2 k f) = m ((c : Thread nD τ).loc main_arg5) (ix3 0 k f) := by
  entry_read
  pointwise
theorem V10 (c : Dev nD) (f : Fin 4096) (l : Fin 1024) : V m c main_v10 (ix2 f l) = m ((c : Thread nD τ).loc main_arg6) (ix3 0 f l) := by
  entry_read
  pointwise

/-- The blocks' places: point `t` is tile `t % 11` of batch element `t / 11`. -/
theorem places : ∀ t : Fin cfg0.N, win0_0.index t = ![t.val / 11, t.val % 11, 0] ∧ win0_1.index t = ![t.val / 11, t.val % 11 * 24 - 1, 0]
    ∧ win0_2.index t = ![t.val / 11, t.val % 11, 0] ∧ win0_3.index t = ![0, 0] ∧ win0_4.index t = ![0, 0] ∧ win0_5.index t = ![0, 0]
    ∧ win0_6.index t = ![0, 0] ∧ win0_7.index t = ![0, 0] ∧ win0_9.index t = ![t.val / 11, t.val % 11, 0] ∧ (grid0.coords t 1).val = t.val % 11 :=
  (by decide +kernel : ∀ t : Fin grid0.N, win0_0.index t = ![t.val / 11, t.val % 11, 0] ∧ win0_1.index t = ![t.val / 11, t.val % 11 * 24 - 1, 0]
    ∧ win0_2.index t = ![t.val / 11, t.val % 11, 0] ∧ win0_3.index t = ![0, 0] ∧ win0_4.index t = ![0, 0] ∧ win0_5.index t = ![0, 0]
    ∧ win0_6.index t = ![0, 0] ∧ win0_7.index t = ![0, 0] ∧ win0_9.index t = ![t.val / 11, t.val % 11, 0] ∧ (grid0.coords t 1).val = t.val % 11)

theorem bat_lt (t : Fin cfg0.N) : t.val / 11 < 8 := by
  have := t.isLt; have : cfg0.N = 88 := N_0; omega

/-- The batch element of a point. -/
def bat (t : Fin cfg0.N) : Fin 8 := ⟨t.val / 11, bat_lt t⟩
/-- The row of the padded sequence that row `r` of a point's tile is. -/
def row (t : Fin cfg0.N) (r : Fin 384) : Fin 4224 := ⟨t.val % 11 * 384 + r.val, by omega⟩

theorem b0 (c : Dev nD) (t : Fin cfg0.N) (r : Fin 384) (l : Fin 1024) :
    iblk m c 0 t (ix3 0 r l) = m ((c : Thread nD τ).loc main_arg0) (ix3 (bat t) (row t r) l) := by
  have e := (places t).1
  unfold row bat
  blk_ext [iblk, V, e]
theorem b1 (c : Dev nD) (t : Fin cfg0.N) (r : Fin 16) (l : Fin 1024) :
    iblk m c 1 t (ix3 0 r l) = m ((c : Thread nD τ).loc main_arg1) (ix3 (bat t) ⟨(t.val % 11 * 24 - 1) * 16 + r.val, by omega⟩ l) := by
  have e := (places t).2.1
  unfold bat
  blk_ext [iblk, V, e]
theorem b2 (c : Dev nD) (t : Fin cfg0.N) (r : Fin 384) (l : Fin 1024) (h : t.val % 11 * 384 + 16 + r.val < 4112) :
    X0_2 m c t (ix3 0 r l) = m ((c : Thread nD τ).loc main_arg1) (ix3 (bat t) ⟨t.val % 11 * 384 + r.val, by omega⟩ l) := by
  have e := (places t).2.2.1
  unfold X0_2 Pipeline.Window.fill bat
  rw [dif_pos (moved0_2 t r l (by rw [(places t).2.2.2.2.2.2.2.2.2]; exact h))]
  blk_ext [iblk, V, e]
theorem b3 (c : Dev nD) (t : Fin cfg0.N) (r : Fin 16) (l : Fin 1024) : iblk m c 3 t (ix2 r l) = m ((c : Thread nD τ).loc main_arg2) (ix2 r l) := by
  have e := (places t).2.2.2.1
  blk_ext [iblk, V, e]
theorem b4 (c : Dev nD) (t : Fin cfg0.N) (k l : Fin 1024) : iblk m c 4 t (ix2 k l) = m ((c : Thread nD τ).loc main_arg3) (ix3 0 k l) := by
  refine Eq.trans ?_ (V1 m c k l)
  have e := (places t).2.2.2.2.1
  blk_ext [iblk, e]
theorem b5 (c : Dev nD) (t : Fin cfg0.N) (l : Fin 1024) : iblk m c 5 t (ix2 0 l) = m ((c : Thread nD τ).loc main_arg4) (ix2 0 l) := by
  refine Eq.trans ?_ (V6 m c l)
  have e := (places t).2.2.2.2.2.1
  blk_ext [iblk, e]
theorem b6 (c : Dev nD) (t : Fin cfg0.N) (k : Fin 1024) (f : Fin 4096) : iblk m c 6 t (ix2 k f) = m ((c : Thread nD τ).loc main_arg5) (ix3 0 k f) := by
  refine Eq.trans ?_ (V8 m c k f)
  have e := (places t).2.2.2.2.2.2.1
  blk_ext [iblk, e]
theorem b7 (c : Dev nD) (t : Fin cfg0.N) (f : Fin 4096) (l : Fin 1024) : iblk m c 7 t (ix2 f l) = m ((c : Thread nD τ).loc main_arg6) (ix3 0 f l) := by
  refine Eq.trans ?_ (V10 m c f l)
  have e := (places t).2.2.2.2.2.2.2.1
  blk_ext [iblk, e]

/-! ## The body's payloads, a row of the tile at a time -/

/-- The residual row with the mixer's output projected onto it. -/
def res (a : Fin 1024 → EReal) (x : Fin 1024 → EReal) (w : Fin 1024 → Fin 1024 → EReal) (l : Fin 1024) : EReal :=
  x l + ∑ k : Fin 1024, a k * w k l

section
variable (i : grid0.Coords) (v1 : Vec Ideal S16x1024 .f32) (v2 : Vec Ideal S1x16x1024 .f32) (v5 : Vec Ideal S1x368x1024 .f32)
  (v18 : Vec Ideal S1x384x1024 .bf16) (v20 : Vec Ideal S1024x1024 .bf16) (v24 : Vec Ideal S1x1024 .f32)
  (u0 u1 u2 u3 d0 d1 d2 d3 : Vec Ideal S1024x1024 .bf16) (r : Fin 384)

theorem pay2_row (l : Fin 1024) : k0_pay2 i v1 v2 v5 v18 v20 (ix2 r l)
    = (if (i 1).val * 384 + r.val < 4112 then
        (if h : r.val < 16 then (if (i 1).val = 0 then v1 (ix2 ⟨r.val, h⟩ l) else v2 (ix3 0 ⟨r.val, h⟩ l)) else v5 (ix3 0 ⟨r.val - 16, by omega⟩ l))
      else 0) + ∑ k : Fin 1024, v18 (ix3 0 r k) * v20 (ix2 k l) := by
  pointwise [k0_pay2]
  rw [mask_word _ _ (i 1).isLt r.isLt]
  have hj : (Scalar.cmpi .eq (BitVec.ofNat 32 (i 1).val) 0#32 : BitVec 1) = if (i 1).val = 0 then 1#1 else 0#1 :=
    (by decide : ∀ j : Fin 11, (Scalar.cmpi .eq (BitVec.ofNat 32 j.val) 0#32 : BitVec 1) = if j.val = 0 then 1#1 else 0#1) (i 1)
  rw [hj]
  by_cases hm : (i 1).val * 384 + r.val < 4112 <;> by_cases hr : r.val < 16 <;> by_cases h0 : (i 1).val = 0 <;>
    simp only [hm, hr, ↓reduceIte, ↓reduceDIte] <;> (try simp only [h0, ↓reduceIte]) <;> rfl

theorem pay5_row (l : Fin 1024) : k0_pay5 (k0_pay2 i v1 v2 v5 v18 v20) (k0_pay3 v24) (k0_pay4 i v1 v2 v5 v18 v20) (ix2 r l)
    = nrm (fun k => k0_pay2 i v1 v2 v5 v18 v20 (ix2 r k)) (fun k => v24 (ix2 0 k)) l := by
  pointwise [k0_pay5, k0_pay3, k0_pay4, nrm]
theorem pay6_row (v23 : FVec Ideal S384x1024 .f32) (v32 : FVec Ideal S1x1024 .f32) (v33 : FVec Ideal S384x1024 .f32) (l : Fin 1024) :
    k0_pay6 v23 v32 v33 u0 d0 u1 d1 u2 d2 (ix2 r l) = v23 (ix2 r l)
      + (∑ f : Fin 1024, act (fun k => k0_pay5 v23 v32 v33 (ix2 r k)) (fun k => u0 (ix2 k f)) * d0 (ix2 f l))
      + (∑ f : Fin 1024, act (fun k => k0_pay5 v23 v32 v33 (ix2 r k)) (fun k => u1 (ix2 k f)) * d1 (ix2 f l))
      + (∑ f : Fin 1024, act (fun k => k0_pay5 v23 v32 v33 (ix2 r k)) (fun k => u2 (ix2 k f)) * d2 (ix2 f l)) := by
  pointwise [k0_pay6, k0_pay5, act]
theorem pay1_row (v38 : FVec Ideal S384x1024 .bf16) (v71 : FVec Ideal S384x1024 .f32) (l : Fin 1024) :
    k0_pay1 v38 v71 u3 d3 (ix3 0 r l) = v71 (ix2 r l)
      + ∑ f : Fin 1024, act (fun k => v38 (ix2 r k)) (fun k => u3 (ix2 k f)) * d3 (ix2 f l) := by
  pointwise [k0_pay1, act]

/-- The body's row, its loads of the sequence rows given as the residual row `X` and the chunks of the two feed-forward
    weights as runs of the whole ones. -/
theorem body_row (l : Fin 1024) (X g : Fin 1024 → EReal) (wu : Fin 1024 → Fin 4096 → EReal) (wd : Fin 4096 → Fin 1024 → EReal)
    (hx : ∀ l, k0_pay2 i v1 v2 v5 v18 v20 (ix2 r l) = X l) (hg : ∀ k, v24 (ix2 0 k) = g k)
    (hu0 : ∀ k f, u0 (ix2 k f) = wu k (unitOf 0 f)) (hu1 : ∀ k f, u1 (ix2 k f) = wu k (unitOf 1 f))
    (hu2 : ∀ k f, u2 (ix2 k f) = wu k (unitOf 2 f)) (hu3 : ∀ k f, u3 (ix2 k f) = wu k (unitOf 3 f))
    (hd0 : ∀ f l, d0 (ix2 f l) = wd (unitOf 0 f) l) (hd1 : ∀ f l, d1 (ix2 f l) = wd (unitOf 1 f) l)
    (hd2 : ∀ f l, d2 (ix2 f l) = wd (unitOf 2 f) l) (hd3 : ∀ f l, d3 (ix2 f l) = wd (unitOf 3 f) l) :
    k0_pay1 (k0_pay5 (k0_pay2 i v1 v2 v5 v18 v20) (k0_pay3 v24) (k0_pay4 i v1 v2 v5 v18 v20))
      (k0_pay6 (k0_pay2 i v1 v2 v5 v18 v20) (k0_pay3 v24) (k0_pay4 i v1 v2 v5 v18 v20) u0 d0 u1 d1 u2 d2) u3 d3 (ix3 0 r l)
      = ffn X g wu wd l := by
  rw [pay1_row, pay6_row, ffn_runs]
  simp only [pay5_row, hx, hg, hu0, hu1, hu2, hu3, hd0, hd1, hd2, hd3]

end

/-! ## The reference at an index -/

section
variable (a : Vec Ideal S8x4224x1024 .bf16) (x : Vec Ideal S8x4096x1024 .f32) (pre : Vec Ideal S16x1024 .f32) (wo : Vec Ideal S1x1024x1024 .f32)
  (gf : Vec Ideal S2x1024 .f32) (wu : Vec Ideal S2x1024x4096 .f32) (wd : Vec Ideal S2x4096x1024 .f32) (b : Fin 8) (t : Fin 4224)

/-- A row of the padded sequence: the prefix, then the prompt, then zeros. -/
def seq (l : Fin 1024) : EReal :=
  if h : t.val < 16 then pre (ix2 ⟨t.val, h⟩ l) else if h' : t.val < 4112 then x (ix3 b ⟨t.val - 16, by omega⟩ l) else 0

/-- The whole tail of one row. -/
def tail : Fin 1024 → EReal :=
  ffn (res (fun k => a (ix3 b t k)) (seq x pre b t) fun k l => wo (ix3 0 k l)) (fun k => gf (ix2 0 k))
    (fun k f => wu (ix3 0 k f)) (fun f l => wd (ix3 0 f l))

open Cert.Reference4Ideal.Read in
theorem ref_seq (l : Fin 1024) : val_main_v3 (F := Ideal) x pre (ix3 b t l) = seq x pre b t l := by
  unfold seq
  pointwise [val_main_v3, val_main_v2, val_main_v1, val_main_v0, val_main_call0_v0, val_main_c]
  by_cases h : t.val < 16
  · rw [dif_pos h, dif_pos (show t.val < 4112 by omega), dif_pos h]
  · rw [dif_neg h]
    by_cases h' : t.val < 4112
    · rw [dif_pos h', dif_pos h', dif_neg h]
    · rw [dif_neg h', dif_neg h']
      show ((((0#32 : BitVec 32).toInt : ℝ)) : EReal) = 0
      simp
open Cert.Reference4Ideal.Read in
theorem ref_res (l : Fin 1024) : val_main_v7 (F := Ideal) a x pre wo (ix3 b t l)
      = res (fun k => a (ix3 b t k)) (seq x pre b t) (fun k l => wo (ix3 0 k l)) l := by
  pointwise [val_main_v7, val_main_v6, val_main_v5, val_main_v4, res]
  rw [ref_seq]
open Cert.Reference4Ideal.Read in
theorem ref_nrm (l : Fin 1024) : val_main_v22 (F := Ideal) a x pre wo gf (ix3 b t l)
      = nrm (fun k => val_main_v7 (F := Ideal) a x pre wo (ix3 b t k)) (fun k => gf (ix2 0 k)) l := by
  pointwise [val_main_v22, val_main_v21, val_main_v20, val_main_v19, val_main_v18, val_main_v17, val_main_v16, val_main_v15, val_main_v14, val_main_v13, val_main_v12, val_main_v11, val_main_v10,
    val_main_v9, val_main_v8, val_main_cst, val_main_cst_0, val_main_cst_1, nrm]
open Cert.Reference4Ideal.Read in
theorem ref_tail (l : Fin 1024) : val_main_v31 (F := Ideal) a x pre wo gf wu wd (ix3 b t l) = tail a x pre wo gf wu wd b t l := by
  pointwise [val_main_v31, val_main_v30, val_main_v29, val_main_v28, val_main_v27, val_main_v26, val_main_call1_v0, val_main_call1_cst]
  unfold tail ffn
  rw [ref_res]
  refine congrArg _ (Finset.sum_congr rfl fun f _ => ?_)
  pointwise [val_main_v25, val_main_v24, val_main_v23]
  simp only [ref_nrm, ref_res, act]

end

/-! ## The result array -/

set_option maxHeartbeats 2000000 in
open Cert.Reference4Ideal.Read in
theorem final (c : Dev nD) : (dats m 0 c).arrAt 9 cfg0.N
    = val_main_v31 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have e := (places t).2.2.2.2.2.2.2.2.1
  have ej := (places t).2.2.2.2.2.2.2.2.2
  blk_simp
  rw [after0_9]
  unfold outsAt0 out0_A_9
  frame_out
  obtain ⟨z, r, l, rfl⟩ : ∃ (z : Fin 1) (r : Fin 384) (l : Fin 1024), y = ix3 z r l := ⟨y 0, y 1, y 2, eq_ix3 y⟩
  obtain rfl : z = 0 := Subsingleton.elim _ _
  have ei : (win0_9.blk t).view.emb (ix3 0 r l) = ix3 (bat t) (row t r) l := by
    unfold bat row
    blk_ext [e]
  show _ = val_main_v31 (F := Ideal) _ _ _ _ _ _ _ ((win0_9.blk t).view.emb (ix3 0 r l))
  rw [ei, ref_tail]
  have hx : ∀ l, k0_pay2 (grid0.coords t) (iblk m c 3 t) (iblk m c 1 t)
      (View.ld (X0_2 m c t) (Rect.unit ![0, 0, 0] ![1, 368, 1024] inb_S1x384x1024_S1x368x1024_0_0_0)) (iblk m c 0 t) (iblk m c 4 t) (ix2 r l)
      = res (fun k => m ((c : Thread nD τ).loc main_arg0) (ix3 (bat t) (row t r) k))
          (seq (m ((c : Thread nD τ).loc main_arg1)) (m ((c : Thread nD τ).loc main_arg2)) (bat t) (row t r))
          (fun k l => m ((c : Thread nD τ).loc main_arg3) (ix3 0 k l)) l := by
    intro l
    rw [pay2_row]
    unfold res
    simp only [ej, b0, b4]
    refine congrArg (· + _) ?_
    unfold seq
    by_cases hm : t.val % 11 * 384 + r.val < 4112
    · rw [if_pos hm]
      by_cases hr : r.val < 16
      · rw [dif_pos hr]
        by_cases h0 : t.val % 11 = 0
        · rw [if_pos h0, b3, dif_pos (show (row t r).val < 16 by show t.val % 11 * 384 + r.val < 16; omega)]
          exact congrArg (fun x => m ((c : Thread nD τ).loc main_arg2) (ix2 x l)) (Fin.ext (by show r.val = t.val % 11 * 384 + r.val; omega))
        · rw [if_neg h0, b1, dif_neg (show ¬ (row t r).val < 16 by show ¬ t.val % 11 * 384 + r.val < 16; omega), dif_pos (show (row t r).val < 4112 from hm)]
          exact congrArg (fun x => m ((c : Thread nD τ).loc main_arg1) (ix3 (bat t) x l))
            (Fin.ext (by show (t.val % 11 * 24 - 1) * 16 + r.val = t.val % 11 * 384 + r.val - 16; omega))
      · rw [dif_neg hr, dif_neg (show ¬ (row t r).val < 16 by show ¬ t.val % 11 * 384 + r.val < 16; omega), dif_pos (show (row t r).val < 4112 from hm)]
        pointwise
        refine (b2 m c t ⟨r.val - 16, by omega⟩ l (by show t.val % 11 * 384 + 16 + (r.val - 16) < 4112; omega)).trans ?_
        exact congrArg (fun x => m ((c : Thread nD τ).loc main_arg1) (ix3 (bat t) x l))
          (Fin.ext (by show t.val % 11 * 384 + (r.val - 16) = t.val % 11 * 384 + r.val - 16; omega))
    · rw [if_neg hm, dif_neg (show ¬ (row t r).val < 16 by show ¬ t.val % 11 * 384 + r.val < 16; omega), dif_neg (show ¬ (row t r).val < 4112 from hm)]
  refine body_row _ _ _ _ _ _ _ _ _ _ _ _ _ _ _ r l _ _ _ _ hx (b5 m c t) ?_ ?_ ?_ ?_ ?_ ?_ ?_ ?_ <;> intro f l <;> pointwise
  iterate 4 exact (b6 m c t f _).trans (congrArg (fun x => m ((c : Thread nD τ).loc main_arg5) (ix3 0 f x)) (Fin.ext (by unfold unitOf; simp)))
  iterate 4 exact (b7 m c t _ l).trans (congrArg (fun x => m ((c : Thread nD τ).loc main_arg6) (ix3 0 x l)) (Fin.ext (by unfold unitOf; simp)))

end Cert.Proof.Prefixed
end
-- ==== Proof.Post.lean ====
/-
  Hand-written, untrusted. `Kernel5Ideal`, the layer's tail for the sampled tokens: its result array is the reference's.
-/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Mlp
public import Idealize.ShloMosaic.Lib.Pipeline.ValueKit

@[expose] public section

set_option maxRecDepth 16384

noncomputable section

namespace Cert.Proof.Post
open Idealize.ShloMosaic Idealize.SL.Sem Idealize.ShloMosaic.TcCoe
open Idealize.ShloMosaic.Pipeline (Dat Cfg Window)
open Cert.Kernel5Ideal Cert.Kernel5Ideal.Gen
open Cert.Proof.Mlp (nrm act ffn unitOf ffn_runs)

variable (m : (ℓ : Loc nD τ sig) → Buf (Elt Ideal) ℓ)

/-! ## The region's operands -/

theorem V1 (c : Dev nD) (k l : Fin 1024) : V m c main_v1 (ix2 k l) = m ((c : Thread nD τ).loc main_arg2) (ix3 0 k l) := by
  entry_read
  pointwise
theorem V6 (c : Dev nD) (l : Fin 1024) : V m c main_v6 (ix2 0 l) = m ((c : Thread nD τ).loc main_arg3) (ix2 1 l) := by
  entry_read
  pointwise
theorem V8 (c : Dev nD) (k : Fin 1024) (f : Fin 4096) : V m c main_v8 (ix2 k f) = m ((c : Thread nD τ).loc main_arg4) (ix3 1 k f) := by
  entry_read
  pointwise
theorem V10 (c : Dev nD) (f : Fin 4096) (l : Fin 1024) : V m c main_v10 (ix2 f l) = m ((c : Thread nD τ).loc main_arg5) (ix3 1 f l) := by
  entry_read
  pointwise
theorem V11 (c : Dev nD) (l : Fin 1024) : V m c main_v11 (ix2 0 l) = m ((c : Thread nD τ).loc main_arg6) (ix1 l) := by
  entry_read
  pointwise

/-- The blocks' places: point `t` is row tile `t`. -/
theorem places : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, win0_0.index t = ![t.val, 0] ∧ win0_1.index t = ![t.val, 0]
    ∧ win0_2.index t = ![0, 0] ∧ win0_3.index t = ![0, 0] ∧ win0_4.index t = ![0, 0] ∧ win0_5.index t = ![0, 0] ∧ win0_6.index t = ![0, 0]
    ∧ win0_7.index t = ![t.val, 0])

theorem row_lt (t : Fin cfg0.N) (r : Fin 512) : t.val * 512 + r.val < 1024 := by
  have := t.isLt; have : cfg0.N = 2 := N_0; omega

/-- The token that row `r` of a point's tile is. -/
def row (t : Fin cfg0.N) (r : Fin 512) : Fin 1024 := ⟨t.val * 512 + r.val, row_lt t r⟩

theorem b0 (c : Dev nD) (t : Fin cfg0.N) (r : Fin 512) (l : Fin 1024) :
    iblk m c 0 t (ix2 r l) = m ((c : Thread nD τ).loc main_arg0) (ix2 (row t r) l) := by
  have e := (places t).1
  unfold row
  blk_ext [iblk, V, e]
theorem b1 (c : Dev nD) (t : Fin cfg0.N) (r : Fin 512) (l : Fin 1024) :
    iblk m c 1 t (ix2 r l) = m ((c : Thread nD τ).loc main_arg1) (ix2 (row t r) l) := by
  have e := (places t).2.1
  unfold row
  blk_ext [iblk, V, e]
theorem b2 (c : Dev nD) (t : Fin cfg0.N) (k l : Fin 1024) : iblk m c 2 t (ix2 k l) = m ((c : Thread nD τ).loc main_arg2) (ix3 0 k l) := by
  refine Eq.trans ?_ (V1 m c k l)
  have e := (places t).2.2.1
  blk_ext [iblk, e]
theorem b3 (c : Dev nD) (t : Fin cfg0.N) (l : Fin 1024) : iblk m c 3 t (ix2 0 l) = m ((c : Thread nD τ).loc main_arg3) (ix2 1 l) := by
  refine Eq.trans ?_ (V6 m c l)
  have e := (places t).2.2.2.1
  blk_ext [iblk, e]
theorem b4 (c : Dev nD) (t : Fin cfg0.N) (k : Fin 1024) (f : Fin 4096) : iblk m c 4 t (ix2 k f) = m ((c : Thread nD τ).loc main_arg4) (ix3 1 k f) := by
  refine Eq.trans ?_ (V8 m c k f)
  have e := (places t).2.2.2.2.1
  blk_ext [iblk, e]
theorem b5 (c : Dev nD) (t : Fin cfg0.N) (f : Fin 4096) (l : Fin 1024) : iblk m c 5 t (ix2 f l) = m ((c : Thread nD τ).loc main_arg5) (ix3 1 f l) := by
  refine Eq.trans ?_ (V10 m c f l)
  have e := (places t).2.2.2.2.2.1
  blk_ext [iblk, e]
theorem b6 (c : Dev nD) (t : Fin cfg0.N) (l : Fin 1024) : iblk m c 6 t (ix2 0 l) = m ((c : Thread nD τ).loc main_arg6) (ix1 l) := by
  refine Eq.trans ?_ (V11 m c l)
  have e := (places t).2.2.2.2.2.2.1
  blk_ext [iblk, e]

/-! ## The body's payloads, a row of the tile at a time -/

/-- The residual row with the mixer's output projected onto it. -/
def res (a : Fin 1024 → EReal) (x : Fin 1024 → EReal) (w : Fin 1024 → Fin 1024 → EReal) (l : Fin 1024) : EReal :=
  x l + ∑ k : Fin 1024, a k * w k l

section
variable (v0 : Vec Ideal S512x1024 .bf16) (v1 : Vec Ideal S512x1024 .f32) (v2 : Vec Ideal S1024x1024 .bf16) (v6 v65 : Vec Ideal S1x1024 .f32)
  (u0 u1 u2 u3 d0 d1 d2 d3 : Vec Ideal S1024x1024 .bf16) (r : Fin 512)

theorem pay2_row (l : Fin 1024) : k0_pay2 v0 v1 v2 (ix2 r l) = res (fun k => v0 (ix2 r k)) (fun k => v1 (ix2 r k)) (fun k l => v2 (ix2 k l)) l := by
  pointwise [k0_pay2, res]
theorem pay3_row (l : Fin 1024) : k0_pay3 v0 v1 v2 v6 (ix2 r l) = nrm (fun k => k0_pay2 v0 v1 v2 (ix2 r k)) (fun k => v6 (ix2 0 k)) l := by
  pointwise [k0_pay3, nrm]
theorem pay4_row (l : Fin 1024) : k0_pay4 v0 v1 v2 v6 u0 d0 (ix2 r l) = k0_pay2 v0 v1 v2 (ix2 r l)
    + ∑ f : Fin 1024, act (fun k => k0_pay3 v0 v1 v2 v6 (ix2 r k)) (fun k => u0 (ix2 k f)) * d0 (ix2 f l) := by
  pointwise [k0_pay4, act]
theorem pay5_row (f : Fin 1024) : k0_pay5 v0 v1 v2 v6 u1 (ix2 r f) = ∑ k : Fin 1024, k0_pay3 v0 v1 v2 v6 (ix2 r k) * u1 (ix2 k f) := by
  pointwise [k0_pay5]
theorem pay7_row (v20 : FVec Ideal S512x1024 .bf16) (v31 v34 : FVec Ideal S512x1024 .f32) (l : Fin 1024) :
    k0_pay7 v20 v31 v34 (k0_pay6 (F := Ideal)) d1 u2 d2 u3 d3 (ix2 r l) = v31 (ix2 r l)
      + (∑ f : Fin 1024, max (v34 (ix2 r f)) 0 * max (v34 (ix2 r f)) 0 * d1 (ix2 f l))
      + (∑ f : Fin 1024, act (fun k => v20 (ix2 r k)) (fun k => u2 (ix2 k f)) * d2 (ix2 f l))
      + ∑ f : Fin 1024, act (fun k => v20 (ix2 r k)) (fun k => u3 (ix2 k f)) * d3 (ix2 f l) := by
  pointwise [k0_pay7, k0_pay6, act]
theorem pay1_row (v20 : FVec Ideal S512x1024 .bf16) (v31 v34 v35 : FVec Ideal S512x1024 .f32) (l : Fin 1024) :
    k0_pay1 (k0_pay7 v20 v31 v34 v35 d1 u2 d2 u3 d3) (k0_pay8 v65) (k0_pay9 v20 v31 v34 v35 d1 u2 d2 u3 d3) (ix2 r l)
      = nrm (fun k => k0_pay7 v20 v31 v34 v35 d1 u2 d2 u3 d3 (ix2 r k)) (fun k => v65 (ix2 0 k)) l := by
  pointwise [k0_pay1, k0_pay8, k0_pay9, nrm]

/-- The body's row, its loads of the token rows given as the residual row `X` and the chunks of the two feed-forward
    weights as runs of the whole ones. -/
theorem body_row (l : Fin 1024) (X g gl : Fin 1024 → EReal) (wu : Fin 1024 → Fin 4096 → EReal) (wd : Fin 4096 → Fin 1024 → EReal)
    (hx : ∀ l, k0_pay2 v0 v1 v2 (ix2 r l) = X l) (hg : ∀ k, v6 (ix2 0 k) = g k) (hgl : ∀ k, v65 (ix2 0 k) = gl k)
    (hu0 : ∀ k f, u0 (ix2 k f) = wu k (unitOf 0 f)) (hu1 : ∀ k f, u1 (ix2 k f) = wu k (unitOf 1 f))
    (hu2 : ∀ k f, u2 (ix2 k f) = wu k (unitOf 2 f)) (hu3 : ∀ k f, u3 (ix2 k f) = wu k (unitOf 3 f))
    (hd0 : ∀ f l, d0 (ix2 f l) = wd (unitOf 0 f) l) (hd1 : ∀ f l, d1 (ix2 f l) = wd (unitOf 1 f) l)
    (hd2 : ∀ f l, d2 (ix2 f l) = wd (unitOf 2 f) l) (hd3 : ∀ f l, d3 (ix2 f l) = wd (unitOf 3 f) l) :
    k0_pay1 (k0_pay7 (k0_pay3 v0 v1 v2 v6) (k0_pay4 v0 v1 v2 v6 u0 d0) (k0_pay5 v0 v1 v2 v6 u1) (k0_pay6 (F := Ideal)) d1 u2 d2 u3 d3) (k0_pay8 v65)
      (k0_pay9 (k0_pay3 v0 v1 v2 v6) (k0_pay4 v0 v1 v2 v6 u0 d0) (k0_pay5 v0 v1 v2 v6 u1) (k0_pay6 (F := Ideal)) d1 u2 d2 u3 d3) (ix2 r l)
      = nrm (ffn X g wu wd) gl l := by
  have h3 : ∀ k, k0_pay3 v0 v1 v2 v6 (ix2 r k) = nrm X g k := fun k => by
    rw [pay3_row]; simp only [hx, hg]
  rw [pay1_row]
  simp only [hgl]
  refine congrArg (fun x => nrm x gl l) (funext fun l => ?_)
  rw [pay7_row, pay4_row, ffn_runs]
  simp only [hx, pay5_row, h3, hu0, hu1, hu2, hu3, hd0, hd1, hd2, hd3, act]

end

/-! ## The reference at an index -/

section
variable (a : Vec Ideal S1024x1024 .bf16) (x : Vec Ideal S1024x1024 .f32) (wo : Vec Ideal S1x1024x1024 .f32) (gf : Vec Ideal S2x1024 .f32)
  (wu : Vec Ideal S2x1024x4096 .f32) (wd : Vec Ideal S2x4096x1024 .f32) (gl : Vec Ideal S1024 .f32) (t : Fin 1024)

/-- The whole tail of one token. -/
def tail : Fin 1024 → EReal :=
  ffn (res (fun k => a (ix2 t k)) (fun k => x (ix2 t k)) fun k l => wo (ix3 0 k l)) (fun k => gf (ix2 1 k))
    (fun k f => wu (ix3 1 k f)) (fun f l => wd (ix3 1 f l))

open Cert.Reference5Ideal.Read in
theorem ref_res (l : Fin 1024) : val_main_v3 (F := Ideal) a x wo (ix2 t l)
      = res (fun k => a (ix2 t k)) (fun k => x (ix2 t k)) (fun k l => wo (ix3 0 k l)) l := by
  pointwise [val_main_v3, val_main_v2, val_main_v1, val_main_v0, res]
open Cert.Reference5Ideal.Read in
theorem ref_nrm (l : Fin 1024) : val_main_v18 (F := Ideal) a x wo gf (ix2 t l)
      = nrm (fun k => val_main_v3 (F := Ideal) a x wo (ix2 t k)) (fun k => gf (ix2 1 k)) l := by
  pointwise [val_main_v18, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1, nrm]
open Cert.Reference5Ideal.Read in
theorem ref_tail (l : Fin 1024) : val_main_v27 (F := Ideal) a x wo gf wu wd (ix2 t l) = tail a x wo gf wu wd t l := by
  pointwise [val_main_v27, val_main_v26, val_main_v25, val_main_v24, val_main_v23, val_main_v22, val_main_call0_v0, val_main_call0_cst]
  unfold tail ffn
  rw [ref_res]
  refine congrArg _ (Finset.sum_congr rfl fun f _ => ?_)
  pointwise [val_main_v21, val_main_v20, val_main_v19]
  simp only [ref_nrm, ref_res, act]
open Cert.Reference5Ideal.Read in
theorem ref_out (l : Fin 1024) : val_main_v40 (F := Ideal) a x wo gf wu wd gl (ix2 t l) = nrm (tail a x wo gf wu wd t) (fun k => gl (ix1 k)) l := by
  pointwise [val_main_v40, val_main_v39, val_main_v38, val_main_v37, val_main_v36, val_main_v35, val_main_v34, val_main_v33,
    val_main_v32, val_main_v31, val_main_v30, val_main_v29, val_main_v28, val_main_cst_2, val_main_cst_3, val_main_cst_4, nrm]
  simp only [ref_tail]

end

/-! ## The result array -/

open Cert.Reference5Ideal.Read in
theorem final (c : Dev nD) : (dats m 0 c).arrAt 7 cfg0.N
    = val_main_v40 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  have e := (places t).2.2.2.2.2.2.2
  blk_simp
  rw [after0_7]
  unfold out0_7 k0_pay13 k0_pay12 k0_pay11 k0_pay10
  frame_out
  obtain ⟨r, l, rfl⟩ : ∃ (r : Fin 512) (l : Fin 1024), y = ix2 r l := ⟨y 0, y 1, eq_ix2 y⟩
  have ei : (win0_7.blk t).view.emb (ix2 r l) = ix2 (row t r) l := by
    unfold row
    blk_ext [e]
  show _ = val_main_v40 (F := Ideal) _ _ _ _ _ _ _ ((win0_7.blk t).view.emb (ix2 r l))
  rw [ei, ref_out]
  have hx : ∀ l, k0_pay2 (iblk m c 0 t) (iblk m c 1 t) (iblk m c 2 t) (ix2 r l)
      = res (fun k => m ((c : Thread nD τ).loc main_arg0) (ix2 (row t r) k)) (fun k => m ((c : Thread nD τ).loc main_arg1) (ix2 (row t r) k))
          (fun k l => m ((c : Thread nD τ).loc main_arg2) (ix3 0 k l)) l := fun l => by
    rw [pay2_row]
    simp only [b0, b1, b2]
  refine body_row _ _ _ _ _ _ _ _ _ _ _ _ _ r l _ _ _ _ _ hx (b3 m c t) (b6 m c t) ?_ ?_ ?_ ?_ ?_ ?_ ?_ ?_ <;> intro f l <;> pointwise
  iterate 4 exact (b4 m c t f _).trans (congrArg (fun x => m ((c : Thread nD τ).loc main_arg4) (ix3 1 f x)) (Fin.ext (by unfold unitOf; simp)))
  iterate 4 exact (b5 m c t _ l).trans (congrArg (fun x => m ((c : Thread nD τ).loc main_arg5) (ix3 1 x l)) (Fin.ext (by unfold unitOf; simp)))

end Cert.Proof.Post
end
-- ==== Proof.Foxin.lean ====
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.Proof.Foxin
open Idealize.ShloMosaic Idealize.SL.Sem Idealize.ShloMosaic.TcCoe
open Idealize.ShloMosaic.Pipeline (Dat Cfg Window)
open Cert.Kernel6Ideal Cert.Kernel6Ideal.Gen

variable (m : (ℓ : Loc nD τ sig) → Buf (Elt Ideal) ℓ)

/-! ## The region's operands -/

theorem V35 (c : Dev nD) (l : Fin 1024) : V m c main_v35 (ix2 0 l) = m ((c : Thread nD τ).loc main_arg1) (ix2 0 l) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise
theorem V2 (c : Dev nD) (k : Fin 1024) (l : Fin 3072) : V m c main_v2 (ix2 k l) = m ((c : Thread nD τ).loc main_arg2) (ix3 0 k ⟨l.val, by omega⟩) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise
theorem V5e (c : Dev nD) : V m c main_v5 = truncf .bf16 (pad S1024x128 ![0, 0] ![0, 112] ![0, 0] (extractStridedSlice S1024x16 ![0, 3072] (shapeCast S1024x3088 (m ((c : Thread nD τ).loc main_arg2)) shapeCasts_S1x1024x3088_S1024x3088) slices_S1024x3088_S1024x16_0_3072) (sitofp (F := Ideal) .f32 (constantI S_ 32 0#32)) pads_S1024x16_S1024x128_000_01120 h_S_) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl
theorem V5 (c : Dev nD) (k : Fin 1024) (l : Fin 128) (h : l.val < 16) : V m c main_v5 (ix2 k l) = m ((c : Thread nD τ).loc main_arg2) (ix3 0 k ⟨3072+l.val, by omega⟩) := by
  rw [V5e]
  pointwise
  simp only [h, ↓reduceDIte]
theorem V8e (c : Dev nD) : V m c main_v8 = shapeCast S1x128 (pad S128 ![0] ![112] ![0] (shapeCast S16 (m ((c : Thread nD τ).loc main_arg3)) shapeCasts_S1x16_S16) (sitofp (F := Ideal) .f32 (constantI S_ 32 0#32)) pads_S16_S128_01120 h_S_) shapeCasts_S128_S1x128 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl
theorem V8 (c : Dev nD) (l : Fin 128) (h : l.val < 16) : V m c main_v8 (ix2 0 l) = m ((c : Thread nD τ).loc main_arg3) (ix2 0 ⟨l.val, h⟩) := by
  rw [V8e]
  pointwise
  simp only [h, ↓reduceDIte]
theorem V20 (c : Dev nD) (l : Fin 1024) : V m c main_v20 (ix2 0 l) = m ((c : Thread nD τ).loc main_arg5) (ix2 0 ⟨l.val % 64, by omega⟩) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise
/-- The head a lane belongs to, as the host works it out from the lane's number: the floor of its division by 64. -/
def headWord : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))
theorem headWord_apply : ∀ k : Fin 1024, headWord (ix1 k) = BitVec.ofNat 32 (k.val / 64) := by
  decide +kernel
/-- The heads' one-hot: lanes against heads. -/
def oneHot : FVec Ideal S1024x128 .bf16 :=
  uitofp .bf16 (cmpi .eq (broadcastInDim S1024x128 ![0, 1] bcast_S1024x1_S1024x128_0_1 (broadcastInDim S1024x1 ![0] bcast_S1024_S1024x1_0 headWord))
    (broadcastInDim S1024x128 ![0, 1] bcast_S1x128_S1024x128_0_1 (broadcastInDim S1x128 ![1] bcast_S128_S1x128_1 (iotaInDim S128 32 0))))
theorem oneHot_apply (k : Fin 1024) (h : Fin 128) : oneHot (ix2 k h) = (if k.val / 64 = h.val then 1 else 0 : EReal) := by
  pointwise [oneHot]
  rw [headWord_apply, WordCmp.cmpi_eq_ofNat (by omega) (by omega)]
  show (((BitVec.ofBool (decide (k.val / 64 = h.val))).toNat : ℝ) : EReal) = _
  by_cases e : k.val / 64 = h.val <;> simp [e]
theorem V29e (c : Dev nD) : V m c main_v29 = oneHot := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl
theorem V32e (c : Dev nD) : V m c main_v32 = concatenate S256x1024 0 [⟨S128x1024, transpose S128x1024 [1, 0] oneHot transposes_S1024x128_S128x1024_1_0⟩,
    ⟨S128x1024, transpose S128x1024 [1, 0] oneHot transposes_S1024x128_S128x1024_1_0⟩] concatenates_S128x1024_S128x1024_S256x1024_d0 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl
theorem V32 (c : Dev nD) (h : Fin 256) (k : Fin 1024) : V m c main_v32 (ix2 h k) = (if k.val / 64 = h.val % 128 then 1 else 0 : EReal) := by
  rw [V32e]
  pointwise [oneHot_apply]
  by_cases e : h.val < 128
  · rw [dif_pos e, Nat.mod_eq_of_lt e]
  · rw [dif_neg e, show h.val % 128 = h.val - 128 by omega]

/-- The blocks' places: the rows move with the point, the weights are whole. -/
theorem places : ∀ t : Fin cfg0.N, win0_0.index t = ![t.val, 0, 0] ∧ win0_1.index t = ![0, 0] ∧ win0_2.index t = ![0, 0]
    ∧ win0_3.index t = ![0, 0] ∧ win0_4.index t = ![0, 0] ∧ win0_6.index t = ![0, 0] ∧ win0_7.index t = ![0, 0]
    ∧ win0_8.index t = ![0, 0] ∧ win0_13.index t = ![t.val, 0, 0] ∧ win0_14.index t = ![t.val, 0, 0] ∧ win0_18.index t = ![t.val, 0, 0] :=
  (by decide +kernel : ∀ t : Fin grid0.N, win0_0.index t = ![t.val, 0, 0] ∧ win0_1.index t = ![0, 0] ∧ win0_2.index t = ![0, 0]
    ∧ win0_3.index t = ![0, 0] ∧ win0_4.index t = ![0, 0] ∧ win0_6.index t = ![0, 0] ∧ win0_7.index t = ![0, 0]
    ∧ win0_8.index t = ![0, 0] ∧ win0_13.index t = ![t.val, 0, 0] ∧ win0_14.index t = ![t.val, 0, 0] ∧ win0_18.index t = ![t.val, 0, 0])

theorem grp_lt (t : Fin cfg0.N) : t.val < 8 := by
  have := t.isLt; have : cfg0.N = 8 := N_0; omega
/-- A point's group of streams. -/
def grp (t : Fin cfg0.N) : Fin 8 := ⟨t.val, grp_lt t⟩

theorem b0 (c : Dev nD) (t : Fin cfg0.N) (r : Fin 512) (l : Fin 1024) :
    iblk m c 0 t (ix3 0 r l) = m ((c : Thread nD τ).loc main_arg0) (ix3 (grp t) r l) := by
  have e := (places t).1
  blk_ext [iblk, V, grp, e]
theorem b1 (c : Dev nD) (t : Fin cfg0.N) (l : Fin 1024) : iblk m c 1 t (ix2 0 l) = m ((c : Thread nD τ).loc main_arg1) (ix2 0 l) := by
  refine Eq.trans ?_ (V35 m c l)
  have e := (places t).2.1
  blk_ext [iblk, e]
theorem b2 (c : Dev nD) (t : Fin cfg0.N) (k : Fin 1024) (l : Fin 3072) : iblk m c 2 t (ix2 k l) = m ((c : Thread nD τ).loc main_arg2) (ix3 0 k ⟨l.val, by omega⟩) := by
  refine Eq.trans ?_ (V2 m c k l)
  have e := (places t).2.2.1
  blk_ext [iblk, e]
theorem b3 (c : Dev nD) (t : Fin cfg0.N) (k : Fin 1024) (l : Fin 128) (h : l.val < 16) : iblk m c 3 t (ix2 k l) = m ((c : Thread nD τ).loc main_arg2) (ix3 0 k ⟨3072+l.val, by omega⟩) := by
  refine Eq.trans ?_ (V5 m c k l h)
  have e := (places t).2.2.2.1
  blk_ext [iblk, e]
theorem b4 (c : Dev nD) (t : Fin cfg0.N) (l : Fin 128) (h : l.val < 16) : iblk m c 4 t (ix2 0 l) = m ((c : Thread nD τ).loc main_arg3) (ix2 0 ⟨l.val, h⟩) := by
  refine Eq.trans ?_ (V8 m c l h)
  have e := (places t).2.2.2.2.1
  blk_ext [iblk, e]
theorem b6 (c : Dev nD) (t : Fin cfg0.N) (l : Fin 1024) : iblk m c 6 t (ix2 0 l) = m ((c : Thread nD τ).loc main_arg5) (ix2 0 ⟨l.val % 64, by omega⟩) := by
  refine Eq.trans ?_ (V20 m c l)
  have e := (places t).2.2.2.2.2.1
  blk_ext [iblk, e]
theorem b7 (c : Dev nD) (t : Fin cfg0.N) (k : Fin 1024) (h : Fin 128) : iblk m c 7 t (ix2 k h) = (if k.val / 64 = h.val then 1 else 0 : EReal) := by
  refine Eq.trans ?_ ((congrFun (V29e m c) (ix2 k h)).trans (oneHot_apply k h))
  have e := (places t).2.2.2.2.2.2.1
  blk_ext [iblk, e]
theorem b8 (c : Dev nD) (t : Fin cfg0.N) (h : Fin 256) (k : Fin 1024) : iblk m c 8 t (ix2 h k) = (if k.val / 64 = h.val % 128 then 1 else 0 : EReal) := by
  refine Eq.trans ?_ (V32 m c h k)
  have e := (places t).2.2.2.2.2.2.2.1
  blk_ext [iblk, e]

/-! ## The reference's results at an index -/

/-- A row's element after the root-mean-square norm with its gain. -/
def nrm (x : Vec Ideal S8x512x1024 .f32) (g : Vec Ideal S2x1024 .f32) (b : Fin 8) (r : Fin 512) (k : Fin 1024) : EReal :=
  x (ix3 b r k) * Ideal.rsqrt (Ideal.div (∑ k' : Fin 1024, x (ix3 b r k') * x (ix3 b r k')) (Ideal.ofBits FTy.f32 0x44800000#32)
    + Ideal.ofBits FTy.f32 0x358637BD#32) * g (ix2 0 k)

/-- An element of the projection. -/
def proj (x : Vec Ideal S8x512x1024 .f32) (g : Vec Ideal S2x1024 .f32) (w : Vec Ideal S1x1024x3088 .f32) (b : Fin 8) (r : Fin 512) (l : Fin 3088) : EReal :=
  ∑ k : Fin 1024, nrm x g b r k * w (ix3 0 k l)

open Cert.Reference6Ideal.Read

theorem ref_proj (x : Vec Ideal S8x512x1024 .f32) (g : Vec Ideal S2x1024 .f32) (w : Vec Ideal S1x1024x3088 .f32) (b : Fin 8) (r : Fin 512) (l : Fin 3088) :
    val_main_v16 (F := Ideal) x g w (ix3 b r l) = proj x g w b r l := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, nrm, proj]

theorem ref_v (x : Vec Ideal S8x512x1024 .f32) (g : Vec Ideal S2x1024 .f32) (w : Vec Ideal S1x1024x3088 .f32) (b : Fin 8) (r : Fin 512) (l : Fin 1024) :
    val_main_v19 (F := Ideal) x g w (ix3 b r l) = proj x g w b r ⟨2048 + l.val, by omega⟩ := by
  pointwise [val_main_v19, ref_proj]

/-- A key element before its head's norm. -/
def key (x : Vec Ideal S8x512x1024 .f32) (g : Vec Ideal S2x1024 .f32) (w : Vec Ideal S1x1024x3088 .f32) (b : Fin 8) (r : Fin 512) (l : Fin 1024) : EReal :=
  proj x g w b r ⟨1024 + l.val, by omega⟩

theorem ref_heads (x : Vec Ideal S8x512x1024 .f32) (g : Vec Ideal S2x1024 .f32) (w : Vec Ideal S1x1024x3088 .f32) (b : Fin 8) (r : Fin 512) (h : Fin 16) (j : Fin 64) :
    val_main_v21 (F := Ideal) x g w (ix4 b r h j) = key x g w b r ⟨h.val * 64 + j.val, by omega⟩ := by
  pointwise [val_main_v21, val_main_v18, ref_proj]
  rfl

/-- A head's reciprocal root mean square. -/
def rec (x : Vec Ideal S8x512x1024 .f32) (g : Vec Ideal S2x1024 .f32) (w : Vec Ideal S1x1024x3088 .f32) (b : Fin 8) (r : Fin 512) (h : Fin 16) : EReal :=
  Ideal.rsqrt (Ideal.div (∑ j : Fin 64, key x g w b r ⟨h.val * 64 + j.val, by omega⟩ * key x g w b r ⟨h.val * 64 + j.val, by omega⟩) (Ideal.ofBits FTy.f32 0x42800000#32)
    + Ideal.ofBits FTy.f32 0x358637BD#32)

theorem ref_k4 (x : Vec Ideal S8x512x1024 .f32) (g : Vec Ideal S2x1024 .f32) (w : Vec Ideal S1x1024x3088 .f32) (gk : Vec Ideal S1x64 .f32) (b : Fin 8) (r : Fin 512) (h : Fin 16) (j : Fin 64) :
    val_main_v35 (F := Ideal) x g w gk (ix4 b r h j) = key x g w b r ⟨h.val * 64 + j.val, by omega⟩ * rec x g w b r h * gk (ix2 0 j) := by
  pointwise [val_main_v22, val_main_v23, val_main_cst_2, val_main_v24, val_main_v25, val_main_cst_3, val_main_v26, val_main_v27, val_main_cst_4, val_main_v28, val_main_v29, val_main_v30, val_main_v31, val_main_v32, val_main_v33, val_main_v34, val_main_v35, ref_heads, rec]

theorem ref_k (x : Vec Ideal S8x512x1024 .f32) (g : Vec Ideal S2x1024 .f32) (w : Vec Ideal S1x1024x3088 .f32) (gk : Vec Ideal S1x64 .f32) (b : Fin 8) (r : Fin 512) (l : Fin 1024) :
    val_main_v43 (F := Ideal) x g w gk (ix3 b r l) = key x g w b r l * rec x g w b r ⟨l.val / 64, by omega⟩ * gk (ix2 0 ⟨l.val % 64, by omega⟩) := by
  pointwise [val_main_v43, ref_k4]
  refine congrArg (fun l' => key x g w b r l' * rec x g w b r ⟨l.val / 64, by omega⟩ * gk (ix2 0 ⟨l.val % 64, by omega⟩)) (Fin.ext ?_)
  show l.val / 64 * 64 + l.val % 64 = l.val
  omega

/-- The forget gate before its logarithm. -/
def gate (x : Vec Ideal S8x512x1024 .f32) (g : Vec Ideal S2x1024 .f32) (w : Vec Ideal S1x1024x3088 .f32) (bf : Vec Ideal S1x16 .f32) (b : Fin 8) (r : Fin 512) (h : Fin 16) : EReal :=
  proj x g w b r ⟨3072 + h.val, by omega⟩ + bf (ix2 0 h)

theorem ref_gate (x : Vec Ideal S8x512x1024 .f32) (g : Vec Ideal S2x1024 .f32) (w : Vec Ideal S1x1024x3088 .f32) (bf : Vec Ideal S1x16 .f32) (b : Fin 8) (r : Fin 512) (h : Fin 16) :
    val_main_v39 (F := Ideal) x g w bf (ix3 b r h) = gate x g w bf b r h := by
  pointwise [val_main_v20, val_main_v36, val_main_v37, val_main_v38, val_main_v39, ref_proj, gate]

/-- The logarithm of the gate's sigmoid, as the kernel writes it. -/
def lsg (f : EReal) : EReal := min f 0 - Ideal.log1p (Ideal.exp (0 - FloatOps.absf (F := Ideal) (φ := .f32) f))

theorem softplus_eq (f : EReal) : -(max (-f) 0 + Ideal.log1p (Ideal.exp (-FloatOps.absf (F := Ideal) (φ := .f32) (-f)))) = lsg f := by
  have ha : FloatOps.absf (F := Ideal) (φ := .f32) (-f) = FloatOps.absf (F := Ideal) (φ := .f32) f := by
    show max (-f) (- -f) = max f (-f)
    rw [neg_neg, max_comm]
  have hb : ∃ b : ℝ, Ideal.log1p (Ideal.exp (-FloatOps.absf (F := Ideal) (φ := .f32) f)) = (b : EReal) := by
    have hz : ∃ b : ℝ, Ideal.log1p (0 : EReal) = (b : EReal) := ⟨0, by
      unfold Ideal.log1p
      rw [add_zero, ← EReal.coe_one, Ideal.log_coe]
      simp⟩
    induction f with
    | bot => exact hz
    | top => exact hz
    | coe f =>
      have : FloatOps.absf (F := Ideal) (φ := .f32) (f : EReal) = ((max f (-f) : ℝ) : EReal) := by
        show max (f : EReal) (-(f : EReal)) = _
        rw [← EReal.coe_neg]; exact (EReal.coe_strictMono.monotone.map_max).symm
      rw [this, ← EReal.coe_neg]
      refine ⟨Real.log (1 + Real.exp (-max f (-f))), ?_⟩
      have hp : ¬ (1 + Real.exp (-max f (-f)) ≤ 0) := not_le.2 (by positivity)
      show Ideal.log (1 + ((Real.exp (-max f (-f)) : ℝ) : EReal)) = _
      rw [← EReal.coe_one, ← EReal.coe_add, Ideal.log_coe, if_neg hp]
  rw [ha]
  unfold lsg
  rw [zero_sub]
  obtain ⟨b, hb⟩ := hb
  rw [hb, EReal.neg_add (.inr (EReal.coe_ne_top b)) (.inr (EReal.coe_ne_bot b))]
  refine congrArg (· - (b : EReal)) ?_
  rcases le_total f 0 with h | h
  · rw [max_eq_left (EReal.neg_nonneg.2 h), min_eq_left h, neg_neg]
  · rw [max_eq_right (by simpa using h), min_eq_right h, neg_zero]

theorem ref_ls (x : Vec Ideal S8x512x1024 .f32) (g : Vec Ideal S2x1024 .f32) (w : Vec Ideal S1x1024x3088 .f32) (bf : Vec Ideal S1x16 .f32) (b : Fin 8) (r : Fin 512) (h : Fin 16) :
    val_main_v40 (F := Ideal) x g w bf (ix3 b r h) = lsg (gate x g w bf b r h) := by
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v40, ref_gate]
  rw [if_neg (by simp)]
  exact softplus_eq _

theorem ref_f (x : Vec Ideal S8x512x1024 .f32) (g : Vec Ideal S2x1024 .f32) (w : Vec Ideal S1x1024x3088 .f32) (bf : Vec Ideal S1x16 .f32) (s : Fin 32) (h : Fin 16) (i : Fin 32) :
    val_main_v44 (F := Ideal) x g w bf (ix3 s h i) = val_main_v40 (F := Ideal) x g w bf (ix3 ⟨s.val / 4, by omega⟩ ⟨s.val % 4 * 128 + i.val, by omega⟩ h) := by
  pointwise [val_main_v44, val_main_v42, val_main_v41]

/-! ## The key's head norm in the kernel -/

theorem sq_nonneg' (y : EReal) : 0 ≤ y * y := by
  rcases le_total 0 y with h | h
  · exact mul_nonneg h h
  · rw [← neg_mul_neg]
    exact mul_nonneg (EReal.neg_nonneg.2 h) (EReal.neg_nonneg.2 h)

theorem eps_pos : ∃ e : ℝ, 0 < e ∧ Ideal.ofBits FTy.f32 0x358637BD#32 = (e : EReal) := by
  refine ⟨_, ?_, by simp [Ideal.ofBits, Ideal.ieee]; rfl⟩
  norm_num

theorem inv64 : Ideal.ofBits FTy.f32 0x3C800000#32 = ((1 / 64 : ℝ) : EReal) := by
  simp [Ideal.ofBits, Ideal.ieee]
  rw [← EReal.coe_mul]
  norm_num
theorem c64 : Ideal.ofBits FTy.f32 0x42800000#32 = ((64 : ℝ) : EReal) := by
  simp [Ideal.ofBits, Ideal.ieee]
  rw [← EReal.coe_mul]
  norm_num

/-- The mean over a head's lanes, by a division and by a product. -/
theorem mean64 (x : EReal) : x * Ideal.ofBits FTy.f32 0x3C800000#32 = Ideal.div x (Ideal.ofBits FTy.f32 0x42800000#32) := by
  rw [inv64, c64]
  unfold Ideal.div
  rw [if_neg (by norm_num [EReal.coe_eq_zero]), ← EReal.coe_inv, one_div]

/-- The reciprocal root is finite, so the part its rounding leaves is zero. -/
theorem rest_zero (x : EReal) (hx : 0 ≤ x) : Ideal.rsqrt (x * Ideal.ofBits FTy.f32 0x3C800000#32 + Ideal.ofBits FTy.f32 0x358637BD#32)
    - Ideal.rsqrt (x * Ideal.ofBits FTy.f32 0x3C800000#32 + Ideal.ofBits FTy.f32 0x358637BD#32) = 0 := by
  obtain ⟨e, he, hE⟩ := eps_pos
  rw [hE, inv64]
  induction x with
  | bot => exact absurd hx (by simp)
  | top =>
    rw [EReal.top_mul_coe_of_pos (by norm_num), EReal.top_add_coe, Ideal.rsqrt_top, sub_zero]
  | coe x =>
    have hx' : 0 ≤ x := EReal.coe_nonneg.1 hx
    have hp : 0 < x * (1 / 64) + e := by positivity
    rw [← EReal.coe_mul, ← EReal.coe_add, Ideal.rsqrt_coe, if_neg (not_lt.2 hp.le), if_neg hp.ne', ← EReal.coe_sub, sub_self, EReal.coe_zero]

/-- The sum over all lanes against a head's one-hot is the sum over the head's lanes. -/
theorem head_sum (y : Fin 1024 → EReal) (h : Fin 16) :
    ∑ k : Fin 1024, y k * (if k.val / 64 = h.val then 1 else 0) = ∑ j : Fin 64, y ⟨h.val * 64 + j.val, by omega⟩ := by
  refine Eq.symm (Fintype.sum_of_injective (fun j : Fin 64 => (⟨h.val * 64 + j.val, by omega⟩ : Fin 1024)) (fun a b e => ?_) _ _ (fun k hk => ?_) (fun j => ?_))
  · have := congrArg Fin.val e
    exact Fin.ext (by simpa using this)
  · rw [if_neg, mul_zero]
    intro e
    refine hk ⟨⟨k.val % 64, by omega⟩, Fin.ext ?_⟩
    show h.val * 64 + k.val % 64 = k.val
    omega
  · rw [if_pos (by show (h.val * 64 + j.val) / 64 = h.val; omega), mul_one]

/-- The two halves' sum against the lanes' one-hot is the head's own reciprocal root. -/
theorem pick (R : Fin 128 → EReal) (hR : ∀ h, R h - R h = 0) (l : Fin 1024) :
    ∑ h : Fin 128, R h * (if l.val / 64 = h.val % 128 then 1 else 0)
      + ∑ h : Fin 128, (R h - R h) * (if l.val / 64 = (128 + h.val) % 128 then 1 else 0) = R ⟨l.val / 64, by omega⟩ := by
  rw [Finset.sum_eq_single ⟨l.val / 64, by omega⟩]
  · rw [if_pos (show l.val / 64 = l.val / 64 % 128 by omega), mul_one]
    simp only [hR, zero_mul, Finset.sum_const_zero, add_zero]
  · intro h _ hne
    rw [if_neg, mul_zero]
    intro e
    exact hne (Fin.ext (by show h.val = l.val / 64; omega))
  · intro hn
    exact absurd (Finset.mem_univ _) hn

theorem normed (v25 : FVec Ideal S512x1024 .f32) (v60 : FVec Ideal S1x1024 .f32) (v63 : Vec Ideal S1024x128 .bf16) (v76 : Vec Ideal S256x1024 .bf16)
    (hs : ∀ (k : Fin 1024) (h : Fin 128), v63 (ix2 k h) = (if k.val / 64 = h.val then 1 else 0 : EReal))
    (ht : ∀ (h : Fin 256) (k : Fin 1024), v76 (ix2 h k) = (if k.val / 64 = h.val % 128 then 1 else 0 : EReal)) (r : Fin 512) (l : Fin 1024) :
    k0_pay18 v25 v60 (k0_pay17 v25 v63) v76 (ix2 r l)
      = v25 (ix2 r l) * Ideal.rsqrt (Ideal.div (∑ j : Fin 64, v25 (ix2 r ⟨l.val / 64 * 64 + j.val, by omega⟩) * v25 (ix2 r ⟨l.val / 64 * 64 + j.val, by omega⟩)) (Ideal.ofBits FTy.f32 0x42800000#32)
        + Ideal.ofBits FTy.f32 0x358637BD#32) * v60 (ix2 0 l) := by
  pointwise [k0_pay18, k0_pay17]
  simp only [hs, ht]
  rw [pick (fun h => Ideal.rsqrt ((∑ k : Fin 1024, v25 (ix2 r k) * v25 (ix2 r k) * (if k.val / 64 = h.val then 1 else 0)) * Ideal.ofBits FTy.f32 0x3C800000#32
    + Ideal.ofBits FTy.f32 0x358637BD#32)) (fun h => rest_zero _ (Finset.sum_nonneg fun k _ => ?_)) l]
  · show v25 (ix2 r l) * Ideal.rsqrt ((∑ k : Fin 1024, v25 (ix2 r k) * v25 (ix2 r k) * (if k.val / 64 = (⟨l.val / 64, by omega⟩ : Fin 16).val then 1 else 0)) * Ideal.ofBits FTy.f32 0x3C800000#32
      + Ideal.ofBits FTy.f32 0x358637BD#32) * v60 (ix2 0 l) = _
    rw [head_sum (fun k => v25 (ix2 r k) * v25 (ix2 r k)), mean64]
  · refine mul_nonneg (sq_nonneg' _) ?_
    split <;> simp

/-- The same over the row's own elements. -/
theorem normed_of (v25 : FVec Ideal S512x1024 .f32) (v60 : FVec Ideal S1x1024 .f32) (v63 : Vec Ideal S1024x128 .bf16) (v76 : Vec Ideal S256x1024 .bf16)
    (hs : ∀ (k : Fin 1024) (h : Fin 128), v63 (ix2 k h) = (if k.val / 64 = h.val then 1 else 0 : EReal))
    (ht : ∀ (h : Fin 256) (k : Fin 1024), v76 (ix2 h k) = (if k.val / 64 = h.val % 128 then 1 else 0 : EReal)) (r : Fin 512) (l : Fin 1024)
    (y : Fin 1024 → EReal) (hy : ∀ l, v25 (ix2 r l) = y l) (g : EReal) (hg : v60 (ix2 0 l) = g) :
    k0_pay18 v25 v60 (k0_pay17 v25 v63) v76 (ix2 r l)
      = y l * Ideal.rsqrt (Ideal.div (∑ j : Fin 64, y ⟨l.val / 64 * 64 + j.val, by omega⟩ * y ⟨l.val / 64 * 64 + j.val, by omega⟩) (Ideal.ofBits FTy.f32 0x42800000#32)
        + Ideal.ofBits FTy.f32 0x358637BD#32) * g := by
  rw [normed v25 v60 v63 v76 hs ht r l, hg]
  simp only [hy]

/-! ## The results -/

open Cert.Reference6Ideal.Read

theorem final_v (c : Dev nD) : (dats m 0 c).arrAt 14 cfg0.N
    = val_main_v19 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  have e := (places t).2.2.2.2.2.2.2.2.2.1
  blk_simp
  rw [after0_14]
  frame_out
  obtain ⟨a, b, rfl⟩ : ∃ (a : Fin 512) (b : Fin 1024), y = ix3 0 a b := ⟨y 1, y 2, by blk_ext⟩
  have ei : (win0_14.blk t).view.emb (ix3 0 a b) = ix3 (grp t) a b := by
    blk_ext [grp, e]
  show _ = val_main_v19 (F := Ideal) _ _ _ ((win0_14.blk t).view.emb (ix3 0 a b))
  rw [ei, ref_v]
  unfold_payloads
  pointwise
  simp only [b0, b1, b2, nrm, proj]

/-- A key element of a point's block. -/
theorem key_row (c : Dev nD) (t : Fin cfg0.N) (r : Fin 512) (l : Fin 1024) :
    k0_pay11 (iblk m c 0 t) (iblk m c 1 t) (View.ld (iblk m c 2 t) (Rect.unit (s := S1024x3072) ![0, 1024] ![1024, 1024] inb_S1024x3072_S1024x1024_0_1024)) (ix2 r l)
      = key (m ((c : Thread nD τ).loc main_arg0)) (m ((c : Thread nD τ).loc main_arg1)) (m ((c : Thread nD τ).loc main_arg2)) (grp t) r l := by
  unfold_payloads
  pointwise
  simp only [b0, b1, b2, nrm, proj, key]

set_option maxHeartbeats 1000000 in
theorem final_k (c : Dev nD) : (dats m 0 c).arrAt 13 cfg0.N
    = val_main_v43 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 13 _ (by decide +kernel) fun t hf y => ?_
  have e := (places t).2.2.2.2.2.2.2.2.1
  blk_simp
  rw [after0_13]
  frame_out
  obtain ⟨a, b, rfl⟩ : ∃ (a : Fin 512) (b : Fin 1024), y = ix3 0 a b := ⟨y 1, y 2, by blk_ext⟩
  have ei : (win0_13.blk t).view.emb (ix3 0 a b) = ix3 (grp t) a b := by
    blk_ext [grp, e]
  show _ = val_main_v43 (F := Ideal) _ _ _ _ ((win0_13.blk t).view.emb (ix3 0 a b))
  rw [ei, ref_k]
  pointwise [k0_pay6]
  have hk := key_row m c t a
  have hg : k0_pay16 (iblk m c 6 t) (ix2 0 b) = m ((c : Thread nD τ).loc main_arg5) (ix2 0 ⟨b.val % 64, by omega⟩) := by
    pointwise [k0_pay16]
    exact b6 m c t b
  exact normed_of _ _ _ _ (b7 m c t) (b8 m c t) a b _ hk _ hg

/-- The gate's logarithm of a point's block. -/
theorem gate_row (c : Dev nD) (t : Fin cfg0.N) (r : Fin 512) (h : Fin 16) :
    k0_pay19 (k0_pay14 (k0_pay13 (iblk m c 0 t) (iblk m c 1 t) (iblk m c 3 t)) (iblk m c 4 t)) (ix2 r ⟨h.val, by omega⟩)
      = lsg (gate (m ((c : Thread nD τ).loc main_arg0)) (m ((c : Thread nD τ).loc main_arg1)) (m ((c : Thread nD τ).loc main_arg2)) (m ((c : Thread nD τ).loc main_arg3)) (grp t) r h) := by
  unfold_payloads
  pointwise
  simp only [b0, b1, fun k => b3 m c t k ⟨h.val, by omega⟩ h.isLt, b4 m c t ⟨h.val, by omega⟩ h.isLt]
  simp only [lsg, gate, proj, nrm]

theorem final_f (c : Dev nD) : (dats m 0 c).arrAt 18 cfg0.N
    = val_main_v44 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 18 _ (by decide +kernel) fun t hf y => ?_
  have e := (places t).2.2.2.2.2.2.2.2.2.2
  have := grp_lt t
  blk_simp
  rw [after0_18]
  frame_out
  obtain ⟨s, a, b, rfl⟩ : ∃ (s : Fin 4) (a : Fin 16) (b : Fin 32), y = ix3 s a b := ⟨y 0, y 1, y 2, eq_ix3 y⟩
  have ei : (win0_18.blk t).view.emb (ix3 s a b) = ix3 ⟨t.val * 4 + s.val, by omega⟩ a b := by
    blk_ext [e]
  show _ = val_main_v44 (F := Ideal) _ _ _ _ ((win0_18.blk t).view.emb (ix3 s a b))
  rw [ei, ref_f, ref_ls, show (⟨(t.val * 4 + s.val) / 4, by omega⟩ : Fin 8) = grp t from Fin.ext (by show (t.val * 4 + s.val) / 4 = t.val; omega),
    show (⟨(t.val * 4 + s.val) % 4 * 128 + b.val, by omega⟩ : Fin 512) = ⟨s.val * 128 + b.val, by omega⟩ from Fin.ext (by show (t.val * 4 + s.val) % 4 * 128 + b.val = s.val * 128 + b.val; omega), ← gate_row]
  clear e ei
  canon_tiles x q
  all_goals
    obtain ⟨z, a', b', rfl⟩ : ∃ (z : Fin 1) (a : Fin 16) (b : Fin 32), x = ix3 z a b := ⟨x 0, x 1, x 2, eq_ix3 x⟩
    obtain rfl : z = 0 := Subsingleton.elim _ _
    obtain rfl : a = a' := Fin.ext q1
    obtain rfl : b = b' := Fin.ext q2
  case piece0 =>
    obtain rfl : s = 3 := Fin.ext q0
    pointwise [k0_pay5, k0_pay1]
  case piece1 =>
    obtain rfl : s = 2 := Fin.ext q0
    pointwise [k0_pay4, k0_pay1]
  case piece2 =>
    obtain rfl : s = 1 := Fin.ext q0
    pointwise [k0_pay3, k0_pay1]
  case piece3 =>
    obtain rfl : s = 0 := Fin.ext q0
    pointwise [k0_pay2, k0_pay1]

end Cert.Proof.Foxin
-- ==== Proof.PromptRun.lean ====
/-
  Hand-written, untrusted. `Kernel7Ideal`, the attention layer's projections of the prompt: the body's run at any point.
-/
module

public import proofs.«01_k».proof.Proof.Gen.Kernel7Ideal.Frame
public import proofs.«01_k».proof.Proof.Gen.Kernel7Ideal.Skeleton
public import Idealize.ShloMosaic.Lib.Pipeline.ReadBack
public import Idealize.ShloMosaic.Lib.Pipeline.ValueKit

@[expose] public section

set_option maxRecDepth 16384

noncomputable section

namespace Cert.Proof.Prompt
open Cert.Kernel7Ideal Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-! ## The kernel body on any staging memrefs: a subtype the run finds -/

/-- One staging buffer of each output, through which its contents are stated. -/
abbrev VO0_12 : View sig .tc .vmem S1x384x1024 .bf16 := (Memref.whole cc0_stg12_0 : Memref sig .tc .vmem S1x384x1024 .bf16).view
abbrev VO0_13 : View sig .tc .vmem S1x384x1024 .bf16 := (Memref.whole cc0_stg13_0 : Memref sig .tc .vmem S1x384x1024 .bf16).view
abbrev VO0_14 : View sig .tc .vmem S1x3x1024x128 .bf16 := (Memref.whole cc0_stg14_0 : Memref sig .tc .vmem S1x3x1024x128 .bf16).view
abbrev VO0_15 : View sig .tc .vmem S1x1024x384 .f32 := (Memref.whole cc0_stg15_0 : Memref sig .tc .vmem S1x1024x384 .f32).view
abbrev VO0_16 : View sig .tc .vmem S1x1024x384 .f32 := (Memref.whole cc0_stg16_0 : Memref sig .tc .vmem S1x1024x384 .f32).view
abbrev VO0_17 : View sig .tc .vmem S1x384x128 .bf16 := (Memref.whole cc0_stg17_0 : Memref sig .tc .vmem S1x384x128 .bf16).view
abbrev VO0_18 : View sig .tc .vmem S1x384x128 .bf16 := (Memref.whole cc0_stg18_0 : Memref sig .tc .vmem S1x384x128 .bf16).view
abbrev VO0_19 : View sig .tc .vmem S1x128x384 .bf16 := (Memref.whole cc0_stg19_0 : Memref sig .tc .vmem S1x128x384 .bf16).view
abbrev VO0_20 : View sig .tc .vmem S1x16x384 .f32 := (Memref.whole cc0_stg20_0 : Memref sig .tc .vmem S1x16x384 .f32).view
/-- Each window's current staging memref at point `t`, spelled as the pipeline passes it (`bodyAt0`), and its wholeness. -/
abbrev ms0_0 (t : Fin cfg0.N) : Memref sig .tc .vmem S1x16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x3072 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S384x384 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x384x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x384x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x3x1024x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024x384 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1024x384 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x384x128 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x384x128 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x128x384 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x16x384 .f32 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S1x128 .f32 := Memref.whole cc0_scratch0
/-- The scratch `arg23` the kernel carries between points, as a view: what it holds is stated through it. -/
abbrev VS0_0 : View sig .tc .vmem S1x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 2000000 in
/-- The body's run at the first block of a sequence: what its stores leave in each output and in the carried row, as pieces. -/
noncomputable def kernelRun0_A (c : Dev nD) (i : grid0.Coords) (arg2 : Memref sig .tc .vmem S1x16x1024 .f32) (harg2 : arg2.IsWhole) (arg3 : Memref sig .tc .vmem S1x384x1024 .f32) (harg3 : arg3.IsWhole) (arg4 : Memref sig .tc .vmem S16x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S256x1024 .bf16) (harg12 : arg12.IsWhole) (arg13 : Memref sig .tc .vmem S384x384 .bf16) (harg13 : arg13.IsWhole) (arg14 : Memref sig .tc .vmem S1x384x1024 .bf16) (harg14 : arg14.IsWhole) (arg15 : Memref sig .tc .vmem S1x384x1024 .bf16) (harg15 : arg15.IsWhole) (arg16 : Memref sig .tc .vmem S1x3x1024x128 .bf16) (harg16 : arg16.IsWhole) (arg17 : Memref sig .tc .vmem S1x1024x384 .f32) (harg17 : arg17.IsWhole) (arg18 : Memref sig .tc .vmem S1x1024x384 .f32) (harg18 : arg18.IsWhole) (arg19 : Memref sig .tc .vmem S1x384x128 .bf16) (harg19 : arg19.IsWhole) (arg20 : Memref sig .tc .vmem S1x384x128 .bf16) (harg20 : arg20.IsWhole) (arg21 : Memref sig .tc .vmem S1x128x384 .bf16) (harg21 : arg21.IsWhole) (arg22 : Memref sig .tc .vmem S1x16x384 .f32) (harg22 : arg22.IsWhole) (arg23 : Memref sig .tc .vmem S1x128 .f32) (harg23 : arg23.IsWhole) (hc0 : cond0_0 i)
    (x0 : Vec F S1x16x1024 .f32) (x1 : Vec F S1x384x1024 .f32) (x2 : Vec F S16x1024 .f32) (x3 : Vec F S1x1024 .f32) (x4 : Vec F S1024x3072 .bf16) (x5 : Vec F S1024x128 .bf16) (x6 : Vec F S1x128 .f32) (x7 : Vec F S1x1024 .f32) (x8 : Vec F S1x1024 .f32) (x9 : Vec F S1024x128 .bf16) (x10 : Vec F S256x1024 .bf16) (x11 : Vec F S384x384 .bf16) :
    Σ' (L12 : List (View.Piece (Elt F) S1x384x1024 .bf16)), Σ' (L13 : List (View.Piece (Elt F) S1x384x1024 .bf16)), Σ' (L14 : List (View.Piece (Elt F) S1x3x1024x128 .bf16)), Σ' (L15 : List (View.Piece (Elt F) S1x1024x384 .f32)), Σ' (L16 : List (View.Piece (Elt F) S1x1024x384 .f32)), Σ' (L17 : List (View.Piece (Elt F) S1x384x128 .bf16)), Σ' (L18 : List (View.Piece (Elt F) S1x384x128 .bf16)), Σ' (L19 : List (View.Piece (Elt F) S1x128x384 .bf16)), Σ' (L20 : List (View.Piece (Elt F) S1x16x384 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f LS0)) -∗ K ⟨⟩))
          ⊢ wp frame (wpE (defs₀ (F := F)) Variants.none c none) E (cc0_fox_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun E K => ?run⟩
  case run =>
    simp only [cc0_fox_inproj_eq_skeleton]; unfold cc0_fox_inproj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS0

set_option maxHeartbeats 2000000 in
/-- The body's run at a later block, the carried row as the block before left it. -/
noncomputable def kernelRun0_B (c : Dev nD) (i : grid0.Coords) (arg2 : Memref sig .tc .vmem S1x16x1024 .f32) (harg2 : arg2.IsWhole) (arg3 : Memref sig .tc .vmem S1x384x1024 .f32) (harg3 : arg3.IsWhole) (arg4 : Memref sig .tc .vmem S16x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S256x1024 .bf16) (harg12 : arg12.IsWhole) (arg13 : Memref sig .tc .vmem S384x384 .bf16) (harg13 : arg13.IsWhole) (arg14 : Memref sig .tc .vmem S1x384x1024 .bf16) (harg14 : arg14.IsWhole) (arg15 : Memref sig .tc .vmem S1x384x1024 .bf16) (harg15 : arg15.IsWhole) (arg16 : Memref sig .tc .vmem S1x3x1024x128 .bf16) (harg16 : arg16.IsWhole) (arg17 : Memref sig .tc .vmem S1x1024x384 .f32) (harg17 : arg17.IsWhole) (arg18 : Memref sig .tc .vmem S1x1024x384 .f32) (harg18 : arg18.IsWhole) (arg19 : Memref sig .tc .vmem S1x384x128 .bf16) (harg19 : arg19.IsWhole) (arg20 : Memref sig .tc .vmem S1x384x128 .bf16) (harg20 : arg20.IsWhole) (arg21 : Memref sig .tc .vmem S1x128x384 .bf16) (harg21 : arg21.IsWhole) (arg22 : Memref sig .tc .vmem S1x16x384 .f32) (harg22 : arg22.IsWhole) (arg23 : Memref sig .tc .vmem S1x128 .f32) (harg23 : arg23.IsWhole) (hc0 : ¬cond0_0 i)
    (x0 : Vec F S1x16x1024 .f32) (x1 : Vec F S1x384x1024 .f32) (x2 : Vec F S16x1024 .f32) (x3 : Vec F S1x1024 .f32) (x4 : Vec F S1024x3072 .bf16) (x5 : Vec F S1024x128 .bf16) (x6 : Vec F S1x128 .f32) (x7 : Vec F S1x1024 .f32) (x8 : Vec F S1x1024 .f32) (x9 : Vec F S1024x128 .bf16) (x10 : Vec F S256x1024 .bf16) (x11 : Vec F S384x384 .bf16) (xs0 : Vec F S1x128 .f32) :
    Σ' (L12 : List (View.Piece (Elt F) S1x384x1024 .bf16)), Σ' (L13 : List (View.Piece (Elt F) S1x384x1024 .bf16)), Σ' (L14 : List (View.Piece (Elt F) S1x3x1024x128 .bf16)), Σ' (L15 : List (View.Piece (Elt F) S1x1024x384 .f32)), Σ' (L16 : List (View.Piece (Elt F) S1x1024x384 .f32)), Σ' (L17 : List (View.Piece (Elt F) S1x384x128 .bf16)), Σ' (L18 : List (View.Piece (Elt F) S1x384x128 .bf16)), Σ' (L19 : List (View.Piece (Elt F) S1x128x384 .bf16)), Σ' (L20 : List (View.Piece (Elt F) S1x16x384 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f LS0)) -∗ K ⟨⟩))
          ⊢ wp frame (wpE (defs₀ (F := F)) Variants.none c none) E (cc0_fox_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun E K => ?run⟩
  case run =>
    simp only [cc0_fox_inproj_eq_skeleton]; unfold cc0_fox_inproj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg23.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS0

end Cert.Proof.Prompt

end
-- ==== Proof.PromptLeft.lean ====
/-
  Hand-written, untrusted. `Kernel7Ideal`: what the body leaves in each output and in the carried row, and that nothing of it
  depends on what the second block's buffer holds past the prompt's end.
-/
module

public import proofs.«01_k».proof.Proof.PromptRun

@[expose] public section

set_option maxRecDepth 16384

noncomputable section

namespace Cert.Proof.Prompt
open Cert.Kernel7Ideal Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' blocks and the carried row after a point. -/
abbrev Left (F : FTy → Type) [FloatOps F] : Type :=
  Vec F S1x384x1024 .bf16 × Vec F S1x384x1024 .bf16 × Vec F S1x3x1024x128 .bf16 × Vec F S1x1024x384 .f32 × Vec F S1x1024x384 .f32 × Vec F S1x384x128 .bf16 × Vec F S1x384x128 .bf16 × Vec F S1x128x384 .bf16 × Vec F S1x16x384 .f32 × Vec F S1x128 .f32

/-! ## The rows past the prompt's end -/

/-- The mask at row `r` of tile `j`: whether the row is one of the sequence's. -/
theorem mask_word (j r : ℕ) (hj : j < 11) (hr : r < 384) :
    IntOp.cmpi .slt (IntOp.addi (Scalar.muli (BitVec.ofNat 32 j) 384#32) (BitVec.ofNat 32 r)) 4112#32
      = if j * 384 + r < 4112 then 1#1 else 0#1 := by
  have e : IntOp.addi (Scalar.muli (BitVec.ofNat 32 j) 384#32) (BitVec.ofNat 32 r) = BitVec.ofNat 32 (j * 384 + r) := by
    show BitVec.ofNat 32 j * BitVec.ofNat 32 384 + BitVec.ofNat 32 r = _
    rw [BitVec.ofNat_add, BitVec.ofNat_mul]
  rw [e, WordCmp.cmpi_slt_ofNat (by omega) (by omega)]
  by_cases h : j * 384 + r < 4112
  · rw [if_pos h, decide_eq_true h]; rfl
  · rw [if_neg h, decide_eq_false h]; rfl

/-- The rows a point reads, those past the sequence's end at zero. -/
noncomputable def maskedRow (i : grid0.Coords) (v1 : Vec F S16x1024 .f32) (v2 : Vec F S1x16x1024 .f32) (v5 : Vec F S1x368x1024 .f32) : FVec F S384x1024 .f32 :=
  let arg1 : BitVec 32 := BitVec.ofNat 32 (i 1).val
  let v0 : BitVec 1 := Scalar.cmpi .eq arg1 0#32
  have v3 : FVec F S16x1024 .f32 := shapeCast S16x1024 v2 shapeCasts_S1x16x1024_S16x1024
  have v4 : Vec F S16x1024 .f32 := Scalar.select v0 v1 v3
  have v6 : FVec F S368x1024 .f32 := shapeCast S368x1024 v5 shapeCasts_S1x368x1024_S368x1024
  have v7 : FVec F S384x1024 .f32 := concatenate S384x1024 0 [⟨S16x1024, v4⟩, ⟨S368x1024, v6⟩] concatenates_S16x1024_S368x1024_S384x1024_d0
  let v8 : BitVec 32 := Scalar.muli arg1 384#32
  have v9 : IVec S384x1 32 := iota .tc S384x1 32 [0] iota_S384x1_d0_w32
  have v10 : IVec S384x1 32 := broadcast S384x1 v8
  have v11 : IVec S384x1 32 := addi v10 v9
  have v12 : IVec S384x1 32 := broadcast S384x1 4112#32
  have v13 : IVec S384x1 1 := cmpi .slt v11 v12
  have cst : F .f32 := Scalar.ofBits .f32 0x00000000#32
  have v14 : IVec S384x1 1 := shapeCast S384x1 v13 shapeCasts_S384x1_S384x1
  have v15 : IVec S384x1024 1 := broadcastTo S384x1024 v14 broadcasts_S384x1_S384x1024
  have v16 : FVec F S384x1024 .f32 := broadcast S384x1024 cst
  have v17 : FVec F S384x1024 .f32 := select v15 v7 v16
  v17

/-- The normed rows of a point. -/
noncomputable def normedRows (v17 : FVec F S384x1024 .f32) (v21 : Vec F S1x1024 .f32) : FVec F S384x1024 .bf16 :=
  have v22 : FVec F S1x1024 .f32 := shapeCast S1x1024 v21 shapeCasts_S1x1024_S1x1024
  have v23 : FVec F S384x1024 .f32 := mulf v17 v17
  have v24 : FVec F S384 .f32 := multiReduction .add [1] S384 v23 0x00000000#32 reduces_S384x1024_S384 (.inl rfl) rfl
  have v25 : FVec F S384x1 .f32 := shapeCast S384x1 v24 shapeCasts_S384_S384x1
  have cst_12 : F .f32 := Scalar.ofBits .f32 0x44800000#32
  have v26 : FVec F S384x1 .f32 := broadcast S384x1 cst_12
  have v27 : FVec F S384x1 .f32 := divf v25 v26
  have cst_13 : F .f32 := Scalar.ofBits .f32 0x358637BD#32
  have v28 : FVec F S384x1 .f32 := broadcast S384x1 cst_13
  have v29 : FVec F S384x1 .f32 := addf v27 v28
  have v30 : FVec F S384x1 .f32 := rsqrt v29
  have v31 : FVec F S384x1024 .f32 := broadcastTo S384x1024 v30 broadcasts_S384x1_S384x1024
  have v32 : FVec F S384x1024 .f32 := mulf v17 v31
  have v33 : FVec F S384x1024 .f32 := broadcastTo S384x1024 v22 broadcasts_S1x1024_S384x1024
  have v34 : FVec F S384x1024 .f32 := mulf v32 v33
  have v35 : FVec F S384x1024 .bf16 := truncf .bf16 v34 bitsLt_bf16_f32
  v35

theorem pay7_rows (i : grid0.Coords) (v1 : Vec F S16x1024 .f32) (v2 : Vec F S1x16x1024 .f32) (v5 : Vec F S1x368x1024 .f32) (v21 : Vec F S1x1024 .f32) :
    k0_pay7 i v1 v2 v5 v21 = normedRows (maskedRow i v1 v2 v5) v21 := rfl

/-- The token rows enter the body through a mask: two loads of the second block that agree on the rows of the sequence
    give the same normed rows. -/
theorem pay7_masked (i : grid0.Coords) (v1 : Vec F S16x1024 .f32) (v2 : Vec F S1x16x1024 .f32) (v5 v5' : Vec F S1x368x1024 .f32)
    (v21 : Vec F S1x1024 .f32)
    (h : ∀ (r : Fin 368) (l : Fin 1024), (i 1).val * 384 + 16 + r.val < 4112 → v5 (ix3 0 r l) = v5' (ix3 0 r l)) :
    k0_pay7 i v1 v2 v5 v21 = k0_pay7 i v1 v2 v5' v21 := by
  have hx : ∀ (r : Fin 384) (l : Fin 1024), maskedRow i v1 v2 v5 (ix2 r l) = maskedRow i v1 v2 v5' (ix2 r l) := by
    intro r l
    pointwise [maskedRow]
    rw [mask_word _ _ (i 1).isLt r.isLt]
    by_cases hr : r.val < 16
    · simp only [dif_pos hr]
    · simp only [dif_neg hr]
      by_cases hm : (i 1).val * 384 + r.val < 4112
      · rw [if_pos hm, h ⟨r.val - 16, by omega⟩ l (by show (i 1).val * 384 + 16 + (r.val - 16) < 4112; omega)]
      · rw [if_neg hm]; rfl
  have hy : maskedRow i v1 v2 v5 = maskedRow i v1 v2 v5' := by
    funext y
    obtain ⟨r, l, rfl⟩ : ∃ (r : Fin 384) (l : Fin 1024), y = ix2 r l := ⟨y 0, y 1, eq_ix2 y⟩
    exact hx r l
  rw [pay7_rows, pay7_rows, hy]

/-! ## The buffers the body works in -/

variable (c : Dev nD) (i : grid0.Coords)
  (arg2 : Memref sig .tc .vmem S1x16x1024 .f32) (harg2 : arg2.IsWhole)
  (arg3 : Memref sig .tc .vmem S1x384x1024 .f32) (harg3 : arg3.IsWhole)
  (arg4 : Memref sig .tc .vmem S16x1024 .f32) (harg4 : arg4.IsWhole)
  (arg5 : Memref sig .tc .vmem S1x1024 .f32) (harg5 : arg5.IsWhole)
  (arg6 : Memref sig .tc .vmem S1024x3072 .bf16) (harg6 : arg6.IsWhole)
  (arg7 : Memref sig .tc .vmem S1024x128 .bf16) (harg7 : arg7.IsWhole)
  (arg8 : Memref sig .tc .vmem S1x128 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x128 .bf16) (harg11 : arg11.IsWhole)
  (arg12 : Memref sig .tc .vmem S256x1024 .bf16) (harg12 : arg12.IsWhole)
  (arg13 : Memref sig .tc .vmem S384x384 .bf16) (harg13 : arg13.IsWhole)
  (arg14 : Memref sig .tc .vmem S1x384x1024 .bf16) (harg14 : arg14.IsWhole)
  (arg15 : Memref sig .tc .vmem S1x384x1024 .bf16) (harg15 : arg15.IsWhole)
  (arg16 : Memref sig .tc .vmem S1x3x1024x128 .bf16) (harg16 : arg16.IsWhole)
  (arg17 : Memref sig .tc .vmem S1x1024x384 .f32) (harg17 : arg17.IsWhole)
  (arg18 : Memref sig .tc .vmem S1x1024x384 .f32) (harg18 : arg18.IsWhole)
  (arg19 : Memref sig .tc .vmem S1x384x128 .bf16) (harg19 : arg19.IsWhole)
  (arg20 : Memref sig .tc .vmem S1x384x128 .bf16) (harg20 : arg20.IsWhole)
  (arg21 : Memref sig .tc .vmem S1x128x384 .bf16) (harg21 : arg21.IsWhole)
  (arg22 : Memref sig .tc .vmem S1x16x384 .f32) (harg22 : arg22.IsWhole)
  (arg23 : Memref sig .tc .vmem S1x128 .f32) (harg23 : arg23.IsWhole)

section CaseA

variable (hc0 : cond0_0 i) (x0 : Vec F S1x16x1024 .f32) (x1 : Vec F S1x384x1024 .f32) (x2 : Vec F S16x1024 .f32) (x3 : Vec F S1x1024 .f32) (x4 : Vec F S1024x3072 .bf16) (x5 : Vec F S1024x128 .bf16) (x6 : Vec F S1x128 .f32) (x7 : Vec F S1x1024 .f32) (x8 : Vec F S1x1024 .f32) (x9 : Vec F S1024x128 .bf16) (x10 : Vec F S256x1024 .bf16) (x11 : Vec F S384x384 .bf16)

/-- The stores into output 12 cover it. -/
theorem cover0_A_12 (y : S1x384x1024.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).1 S1x384x1024.size (by sl_kernel_rfl) y

/-- What the body leaves in output 12. -/
def out0_A_12 : Vec F S1x384x1024 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).1)

/-- The stores into output 13 cover it. -/
theorem cover0_A_13 (y : S1x384x1024.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.1 S1x384x1024.size (by sl_kernel_rfl) y

/-- What the body leaves in output 13. -/
def out0_A_13 : Vec F S1x384x1024 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.1)

/-- The stores into output 14 cover it. -/
theorem cover0_A_14 (y : S1x3x1024x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.1 S1x1x1024x128.size (by sl_kernel_rfl) y

/-- What the body leaves in output 14. -/
def out0_A_14 : Vec F S1x3x1024x128 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.1)

/-- The stores into output 15 cover it. -/
theorem cover0_A_15 (y : S1x1024x384.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.1 S1x1024x384.size (by sl_kernel_rfl) y

/-- What the body leaves in output 15. -/
def out0_A_15 : Vec F S1x1024x384 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.1)

/-- The stores into output 16 cover it. -/
theorem cover0_A_16 (y : S1x1024x384.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.1 S1x1024x384.size (by sl_kernel_rfl) y

/-- What the body leaves in output 16. -/
def out0_A_16 : Vec F S1x1024x384 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.1)

/-- The stores into output 17 cover it. -/
theorem cover0_A_17 (y : S1x384x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.1 S1x384x128.size (by sl_kernel_rfl) y

/-- What the body leaves in output 17. -/
def out0_A_17 : Vec F S1x384x128 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.1)

/-- The stores into output 18 cover it. -/
theorem cover0_A_18 (y : S1x384x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.1 S1x384x128.size (by sl_kernel_rfl) y

/-- What the body leaves in output 18. -/
def out0_A_18 : Vec F S1x384x128 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.1)

/-- The stores into output 19 cover it. -/
theorem cover0_A_19 (y : S1x128x384.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.1 S1x128x384.size (by sl_kernel_rfl) y

/-- What the body leaves in output 19. -/
def out0_A_19 : Vec F S1x128x384 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.1)

/-- The stores into output 20 cover it. -/
theorem cover0_A_20 (y : S1x16x384.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.1 S1x16x384.size (by sl_kernel_rfl) y

/-- What the body leaves in output 20. -/
def out0_A_20 : Vec F S1x16x384 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.1)

/-- The stores into the carried row cover it. -/
theorem scover0_A_0 (y : S1x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.2.1 S1x128.size (by sl_kernel_rfl) y

/-- What the body leaves in the carried row. -/
def sout0_A_0 : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11).2.2.2.2.2.2.2.2.2.1)

/-- All the body leaves. -/
def outsA : Left F :=
  (out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11,
   out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11,
   out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11,
   out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11,
   out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11,
   out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11,
   out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11,
   out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11,
   out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11,
   sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)

end CaseA

section CaseB

variable (hc0 : ¬cond0_0 i) (x0 : Vec F S1x16x1024 .f32) (x1 : Vec F S1x384x1024 .f32) (x2 : Vec F S16x1024 .f32) (x3 : Vec F S1x1024 .f32) (x4 : Vec F S1024x3072 .bf16) (x5 : Vec F S1024x128 .bf16) (x6 : Vec F S1x128 .f32) (x7 : Vec F S1x1024 .f32) (x8 : Vec F S1x1024 .f32) (x9 : Vec F S1024x128 .bf16) (x10 : Vec F S256x1024 .bf16) (x11 : Vec F S384x384 .bf16) (xs0 : Vec F S1x128 .f32)

/-- The stores into output 12 cover it. -/
theorem cover0_B_12 (y : S1x384x1024.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).1 S1x384x1024.size (by sl_kernel_rfl) y

/-- What the body leaves in output 12. -/
def out0_B_12 : Vec F S1x384x1024 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).1)

/-- The stores into output 13 cover it. -/
theorem cover0_B_13 (y : S1x384x1024.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.1 S1x384x1024.size (by sl_kernel_rfl) y

/-- What the body leaves in output 13. -/
def out0_B_13 : Vec F S1x384x1024 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.1)

/-- The stores into output 14 cover it. -/
theorem cover0_B_14 (y : S1x3x1024x128.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.1 S1x1x1024x128.size (by sl_kernel_rfl) y

/-- What the body leaves in output 14. -/
def out0_B_14 : Vec F S1x3x1024x128 .bf16 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.1)

/-- The stores into output 15 cover it. -/
theorem cover0_B_15 (y : S1x1024x384.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.1 S1x1024x384.size (by sl_kernel_rfl) y

/-- What the body leaves in output 15. -/
def out0_B_15 : Vec F S1x1024x384 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.1)

/-- The stores into output 16 cover it. -/
theorem cover0_B_16 (y : S1x1024x384.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.1 S1x1024x384.size (by sl_kernel_rfl) y

/-- What the body leaves in output 16. -/
def out0_B_16 : Vec F S1x1024x384 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.1)

/-- The stores into output 17 cover it. -/
theorem cover0_B_17 (y : S1x384x128.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.1 S1x384x128.size (by sl_kernel_rfl) y

/-- What the body leaves in output 17. -/
def out0_B_17 : Vec F S1x384x128 .bf16 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.1)

/-- The stores into output 18 cover it. -/
theorem cover0_B_18 (y : S1x384x128.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.1 S1x384x128.size (by sl_kernel_rfl) y

/-- What the body leaves in output 18. -/
def out0_B_18 : Vec F S1x384x128 .bf16 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.1)

/-- The stores into output 19 cover it. -/
theorem cover0_B_19 (y : S1x128x384.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.2.1 S1x128x384.size (by sl_kernel_rfl) y

/-- What the body leaves in output 19. -/
def out0_B_19 : Vec F S1x128x384 .bf16 :=
  VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.2.1)

/-- The stores into output 20 cover it. -/
theorem cover0_B_20 (y : S1x16x384.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.2.2.1 S1x16x384.size (by sl_kernel_rfl) y

/-- What the body leaves in output 20. -/
def out0_B_20 : Vec F S1x16x384 .f32 :=
  VO0_20.read (Elt F) (VO0_20.writes (Elt F) VO0_20.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.2.2.1)

/-- The stores into the carried row cover it. -/
theorem scover0_B_0 (y : S1x128.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.2.2.2.1 S1x128.size (by sl_kernel_rfl) y

/-- What the body leaves in the carried row. -/
def sout0_B_0 : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0).2.2.2.2.2.2.2.2.2.1)

/-- All the body leaves. -/
def outsB : Left F :=
  (out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0,
   out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0,
   out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0,
   out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0,
   out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0,
   out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0,
   out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0,
   out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0,
   out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0,
   sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0)

end CaseB

end Cert.Proof.Prompt

end
-- ==== Proof.PromptMasked.lean ====
/-
  Hand-written, untrusted. What the body leaves does not depend on the second block's rows past the sequence's end.
-/
module

public import proofs.«01_k».proof.Proof.PromptLeft

@[expose] public section

set_option maxRecDepth 16384

noncomputable section

namespace Cert.Proof.Prompt
open Cert.Kernel7Ideal Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (c : Dev nD) (i : grid0.Coords)
  (arg2 : Memref sig .tc .vmem S1x16x1024 .f32) (harg2 : arg2.IsWhole)
  (arg3 : Memref sig .tc .vmem S1x384x1024 .f32) (harg3 : arg3.IsWhole)
  (arg4 : Memref sig .tc .vmem S16x1024 .f32) (harg4 : arg4.IsWhole)
  (arg5 : Memref sig .tc .vmem S1x1024 .f32) (harg5 : arg5.IsWhole)
  (arg6 : Memref sig .tc .vmem S1024x3072 .bf16) (harg6 : arg6.IsWhole)
  (arg7 : Memref sig .tc .vmem S1024x128 .bf16) (harg7 : arg7.IsWhole)
  (arg8 : Memref sig .tc .vmem S1x128 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x128 .bf16) (harg11 : arg11.IsWhole)
  (arg12 : Memref sig .tc .vmem S256x1024 .bf16) (harg12 : arg12.IsWhole)
  (arg13 : Memref sig .tc .vmem S384x384 .bf16) (harg13 : arg13.IsWhole)
  (arg14 : Memref sig .tc .vmem S1x384x1024 .bf16) (harg14 : arg14.IsWhole)
  (arg15 : Memref sig .tc .vmem S1x384x1024 .bf16) (harg15 : arg15.IsWhole)
  (arg16 : Memref sig .tc .vmem S1x3x1024x128 .bf16) (harg16 : arg16.IsWhole)
  (arg17 : Memref sig .tc .vmem S1x1024x384 .f32) (harg17 : arg17.IsWhole)
  (arg18 : Memref sig .tc .vmem S1x1024x384 .f32) (harg18 : arg18.IsWhole)
  (arg19 : Memref sig .tc .vmem S1x384x128 .bf16) (harg19 : arg19.IsWhole)
  (arg20 : Memref sig .tc .vmem S1x384x128 .bf16) (harg20 : arg20.IsWhole)
  (arg21 : Memref sig .tc .vmem S1x128x384 .bf16) (harg21 : arg21.IsWhole)
  (arg22 : Memref sig .tc .vmem S1x16x384 .f32) (harg22 : arg22.IsWhole)
  (arg23 : Memref sig .tc .vmem S1x128 .f32) (harg23 : arg23.IsWhole)

section CaseA

variable (hc0 : cond0_0 i) (x0 : Vec F S1x16x1024 .f32) (x1 : Vec F S1x384x1024 .f32) (x2 : Vec F S16x1024 .f32) (x3 : Vec F S1x1024 .f32) (x4 : Vec F S1024x3072 .bf16) (x5 : Vec F S1024x128 .bf16) (x6 : Vec F S1x128 .f32) (x7 : Vec F S1x1024 .f32) (x8 : Vec F S1x1024 .f32) (x9 : Vec F S1024x128 .bf16) (x10 : Vec F S256x1024 .bf16) (x11 : Vec F S384x384 .bf16)

set_option maxHeartbeats 1000000 in
theorem out0_A_12_masked (x1p : Vec F S1x384x1024 .f32)
    (h : ∀ (r : Fin 384) (l : Fin 1024), (i 1).val * 384 + 16 + r.val < 4112 → x1 (ix3 0 r l) = x1p (ix3 0 r l)) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_A_12
  frame_out
  rw [pay7_masked i _ _ _ _ _ hv]
set_option maxHeartbeats 1000000 in
theorem out0_A_13_masked (x1p : Vec F S1x384x1024 .f32)
    (h : ∀ (r : Fin 384) (l : Fin 1024), (i 1).val * 384 + 16 + r.val < 4112 → x1 (ix3 0 r l) = x1p (ix3 0 r l)) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_A_13
  frame_out
  rw [pay7_masked i _ _ _ _ _ hv]
set_option maxHeartbeats 1000000 in
theorem out0_A_14_masked (x1p : Vec F S1x384x1024 .f32)
    (h : ∀ (r : Fin 384) (l : Fin 1024), (i 1).val * 384 + 16 + r.val < 4112 → x1 (ix3 0 r l) = x1p (ix3 0 r l)) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_A_14
  frame_out
  rw [pay7_masked i _ _ _ _ _ hv]
set_option maxHeartbeats 1000000 in
theorem out0_A_15_masked (x1p : Vec F S1x384x1024 .f32)
    (h : ∀ (r : Fin 384) (l : Fin 1024), (i 1).val * 384 + 16 + r.val < 4112 → x1 (ix3 0 r l) = x1p (ix3 0 r l)) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_A_15
  frame_out
  rw [pay7_masked i _ _ _ _ _ hv]
set_option maxHeartbeats 1000000 in
theorem out0_A_16_masked (x1p : Vec F S1x384x1024 .f32)
    (h : ∀ (r : Fin 384) (l : Fin 1024), (i 1).val * 384 + 16 + r.val < 4112 → x1 (ix3 0 r l) = x1p (ix3 0 r l)) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_A_16
  frame_out
  rw [pay7_masked i _ _ _ _ _ hv]
set_option maxHeartbeats 1000000 in
theorem out0_A_17_masked (x1p : Vec F S1x384x1024 .f32)
    (h : ∀ (r : Fin 384) (l : Fin 1024), (i 1).val * 384 + 16 + r.val < 4112 → x1 (ix3 0 r l) = x1p (ix3 0 r l)) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_A_17
  frame_out
  rw [pay7_masked i _ _ _ _ _ hv]
set_option maxHeartbeats 1000000 in
theorem out0_A_18_masked (x1p : Vec F S1x384x1024 .f32)
    (h : ∀ (r : Fin 384) (l : Fin 1024), (i 1).val * 384 + 16 + r.val < 4112 → x1 (ix3 0 r l) = x1p (ix3 0 r l)) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_A_18
  frame_out
  rw [pay7_masked i _ _ _ _ _ hv]
set_option maxHeartbeats 1000000 in
theorem out0_A_19_masked (x1p : Vec F S1x384x1024 .f32)
    (h : ∀ (r : Fin 384) (l : Fin 1024), (i 1).val * 384 + 16 + r.val < 4112 → x1 (ix3 0 r l) = x1p (ix3 0 r l)) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_A_19
  frame_out
  rw [pay7_masked i _ _ _ _ _ hv]
set_option maxHeartbeats 1000000 in
theorem out0_A_20_masked (x1p : Vec F S1x384x1024 .f32)
    (h : ∀ (r : Fin 384) (l : Fin 1024), (i 1).val * 384 + 16 + r.val < 4112 → x1 (ix3 0 r l) = x1p (ix3 0 r l)) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_A_20
  frame_out
  rw [pay7_masked i _ _ _ _ _ hv]
set_option maxHeartbeats 1000000 in
theorem sout0_A_0_masked (x1p : Vec F S1x384x1024 .f32)
    (h : ∀ (r : Fin 384) (l : Fin 1024), (i 1).val * 384 + 16 + r.val < 4112 → x1 (ix3 0 r l) = x1p (ix3 0 r l)) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold sout0_A_0
  frame_out
  rw [pay7_masked i _ _ _ _ _ hv]

set_option maxHeartbeats 1000000 in
/-- The body leaves the same whatever the second block's buffer holds past the sequence's end. -/
theorem outsA_masked (x1p : Vec F S1x384x1024 .f32)
    (h : ∀ (r : Fin 384) (l : Fin 1024), (i 1).val * 384 + 16 + r.val < 4112 → x1 (ix3 0 r l) = x1p (ix3 0 r l)) :
    outsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = outsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 := by
  unfold outsA
  rw [out0_A_12_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]
  rw [out0_A_13_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]
  rw [out0_A_14_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]
  rw [out0_A_15_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]
  rw [out0_A_16_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]
  rw [out0_A_17_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]
  rw [out0_A_18_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]
  rw [out0_A_19_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]
  rw [out0_A_20_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]
  rw [sout0_A_0_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x1p h]

end CaseA

section CaseB

variable (hc0 : ¬cond0_0 i) (x0 : Vec F S1x16x1024 .f32) (x1 : Vec F S1x384x1024 .f32) (x2 : Vec F S16x1024 .f32) (x3 : Vec F S1x1024 .f32) (x4 : Vec F S1024x3072 .bf16) (x5 : Vec F S1024x128 .bf16) (x6 : Vec F S1x128 .f32) (x7 : Vec F S1x1024 .f32) (x8 : Vec F S1x1024 .f32) (x9 : Vec F S1024x128 .bf16) (x10 : Vec F S256x1024 .bf16) (x11 : Vec F S384x384 .bf16) (xs0 : Vec F S1x128 .f32)

set_option maxHeartbeats 1000000 in
theorem out0_B_12_masked (x1p : Vec F S1x384x1024 .f32)
    (h : ∀ (r : Fin 384) (l : Fin 1024), (i 1).val * 384 + 16 + r.val < 4112 → x1 (ix3 0 r l) = x1p (ix3 0 r l)) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_B_12
  frame_out
  rw [pay7_masked i _ _ _ _ _ hv]
set_option maxHeartbeats 1000000 in
theorem out0_B_13_masked (x1p : Vec F S1x384x1024 .f32)
    (h : ∀ (r : Fin 384) (l : Fin 1024), (i 1).val * 384 + 16 + r.val < 4112 → x1 (ix3 0 r l) = x1p (ix3 0 r l)) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_B_13
  frame_out
  rw [pay7_masked i _ _ _ _ _ hv]
set_option maxHeartbeats 1000000 in
theorem out0_B_14_masked (x1p : Vec F S1x384x1024 .f32)
    (h : ∀ (r : Fin 384) (l : Fin 1024), (i 1).val * 384 + 16 + r.val < 4112 → x1 (ix3 0 r l) = x1p (ix3 0 r l)) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_B_14
  frame_out
  rw [pay7_masked i _ _ _ _ _ hv]
set_option maxHeartbeats 1000000 in
theorem out0_B_15_masked (x1p : Vec F S1x384x1024 .f32)
    (h : ∀ (r : Fin 384) (l : Fin 1024), (i 1).val * 384 + 16 + r.val < 4112 → x1 (ix3 0 r l) = x1p (ix3 0 r l)) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_B_15
  frame_out
  rw [pay7_masked i _ _ _ _ _ hv]
set_option maxHeartbeats 1000000 in
theorem out0_B_16_masked (x1p : Vec F S1x384x1024 .f32)
    (h : ∀ (r : Fin 384) (l : Fin 1024), (i 1).val * 384 + 16 + r.val < 4112 → x1 (ix3 0 r l) = x1p (ix3 0 r l)) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_B_16
  frame_out
  rw [pay7_masked i _ _ _ _ _ hv]
set_option maxHeartbeats 1000000 in
theorem out0_B_17_masked (x1p : Vec F S1x384x1024 .f32)
    (h : ∀ (r : Fin 384) (l : Fin 1024), (i 1).val * 384 + 16 + r.val < 4112 → x1 (ix3 0 r l) = x1p (ix3 0 r l)) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_B_17
  frame_out
  rw [pay7_masked i _ _ _ _ _ hv]
set_option maxHeartbeats 1000000 in
theorem out0_B_18_masked (x1p : Vec F S1x384x1024 .f32)
    (h : ∀ (r : Fin 384) (l : Fin 1024), (i 1).val * 384 + 16 + r.val < 4112 → x1 (ix3 0 r l) = x1p (ix3 0 r l)) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_B_18
  frame_out
  rw [pay7_masked i _ _ _ _ _ hv]
set_option maxHeartbeats 1000000 in
theorem out0_B_19_masked (x1p : Vec F S1x384x1024 .f32)
    (h : ∀ (r : Fin 384) (l : Fin 1024), (i 1).val * 384 + 16 + r.val < 4112 → x1 (ix3 0 r l) = x1p (ix3 0 r l)) :
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_B_19
  frame_out
  rw [pay7_masked i _ _ _ _ _ hv]
set_option maxHeartbeats 1000000 in
theorem out0_B_20_masked (x1p : Vec F S1x384x1024 .f32)
    (h : ∀ (r : Fin 384) (l : Fin 1024), (i 1).val * 384 + 16 + r.val < 4112 → x1 (ix3 0 r l) = x1p (ix3 0 r l)) :
    out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold out0_B_20
  frame_out
  rw [pay7_masked i _ _ _ _ _ hv]
set_option maxHeartbeats 1000000 in
theorem sout0_B_0_masked (x1p : Vec F S1x384x1024 .f32)
    (h : ∀ (r : Fin 384) (l : Fin 1024), (i 1).val * 384 + 16 + r.val < 4112 → x1 (ix3 0 r l) = x1p (ix3 0 r l)) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  have hv : ∀ (r : Fin 368) (l : Fin 1024), (i 1).val * 384 + 16 + r.val < 4112 →
      View.ld x1 (Rect.unit ![0, 0, 0] ![1, 368, 1024] inb_S1x384x1024_S1x368x1024_0_0_0) (ix3 0 r l)
        = View.ld x1p (Rect.unit ![0, 0, 0] ![1, 368, 1024] inb_S1x384x1024_S1x368x1024_0_0_0) (ix3 0 r l) := by
    intro r l hr
    pointwise
    exact h ⟨r.val, by omega⟩ l hr
  unfold sout0_B_0
  frame_out
  rw [pay7_masked i _ _ _ _ _ hv]

set_option maxHeartbeats 1000000 in
/-- The body leaves the same whatever the second block's buffer holds past the sequence's end. -/
theorem outsB_masked (x1p : Vec F S1x384x1024 .f32)
    (h : ∀ (r : Fin 384) (l : Fin 1024), (i 1).val * 384 + 16 + r.val < 4112 → x1 (ix3 0 r l) = x1p (ix3 0 r l)) :
    outsB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 = outsB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1p x2 x3 x4 x5 x6 x7 x8 x9 x10 x11 xs0 := by
  unfold outsB
  rw [out0_B_12_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]
  rw [out0_B_13_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]
  rw [out0_B_14_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]
  rw [out0_B_15_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]
  rw [out0_B_16_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]
  rw [out0_B_17_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]
  rw [out0_B_18_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]
  rw [out0_B_19_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]
  rw [out0_B_20_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]
  rw [sout0_B_0_masked c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0 x1p h]

end CaseB

end Cert.Proof.Prompt

end
-- ==== Proof.PromptFrame.lean ====
/-
  Hand-written, untrusted. `Kernel7Ideal`: the run from any memory, the argument arrays unchanged, every result array named.
-/
module

public import proofs.«01_k».proof.Proof.PromptMasked
public import Idealize.ShloMosaic.Lib.Claim

@[expose] public section

set_option maxRecDepth 16384

noncomputable section

namespace Cert.Proof.Prompt
open Cert.Kernel7Ideal Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The second block's buffer -/

/-- What fills the second block's buffer past the array's end; nothing reads it. -/
def dflt0_1 : (cfg0.win 1).block.Idx → Elt F (cfg0.win 1).elt := fun _ => Classical.choice inferInstance
/-- The second block at `t`, filled out to the buffer's size. -/
def X0_1 (c : Dev nD) (t : Fin cfg0.N) : (cfg0.win 1).block.Idx → Elt F (cfg0.win 1).elt :=
  (cfg0.win 1).fill (cfg0.grid.coords t) dflt0_1 (iblk m c 1 t)
/-- A fetch of the second block moves every row it has inside the array. -/
theorem xsize0_1 : ∀ t : Fin cfg0.N, (cfg0.win 1).xsize (cfg0.grid.coords t) 0 = 1 ∧ (cfg0.win 1).xsize (cfg0.grid.coords t) 2 = 1024
    ∧ ((cfg0.win 1).xsize (cfg0.grid.coords t) 1 = 384 ∨ (grid0.coords t 1).val * 384 + (cfg0.win 1).xsize (cfg0.grid.coords t) 1 = 4096) := by decide +kernel
theorem moved0_1 (t : Fin cfg0.N) (r : Fin 384) (l : Fin 1024) (h : (grid0.coords t 1).val * 384 + 16 + r.val < 4112) :
    (cfg0.win 1).moved (cfg0.grid.coords t) (ix3 0 r l) = true :=
  ((cfg0.win 1).moved_iff _ _).mpr fun a => by
    obtain ⟨h0, h2, h1⟩ := xsize0_1 t
    match a with
    | ⟨0, _⟩ => exact lt_of_lt_of_eq (by show 0 < 1; omega) h0.symm
    | ⟨1, _⟩ =>
      show r.val < (cfg0.win 1).xsize (cfg0.grid.coords t) 1
      have := r.isLt
      omega
    | ⟨2, _⟩ => exact lt_of_lt_of_eq l.isLt h2.symm

/-! ## What the outputs hold after each point -/

/-- What the body leaves at the first block of a sequence, the second block's buffer at `X`. -/
def leftA (c : Dev nD) (t : Fin cfg0.N) (h0 : t.val % 11 = 0) (X : (cfg0.win 1).block.Idx → Elt F (cfg0.win 1).elt) : Left F :=
  outsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) X (iblk m c 2 t) (iblk m c 3 t) (iblk m c 4 t) (iblk m c 5 t) (iblk m c 6 t) (iblk m c 7 t) (iblk m c 8 t) (iblk m c 9 t) (iblk m c 10 t) (iblk m c 11 t)
/-- What the body leaves at a later block, from the carried row `s`. -/
def leftB (c : Dev nD) (t : Fin cfg0.N) (h0 : ¬t.val % 11 = 0) (X : (cfg0.win 1).block.Idx → Elt F (cfg0.win 1).elt) (s : Vec F S1x128 .f32) : Left F :=
  outsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) X (iblk m c 2 t) (iblk m c 3 t) (iblk m c 4 t) (iblk m c 5 t) (iblk m c 6 t) (iblk m c 7 t) (iblk m c 8 t) (iblk m c 9 t) (iblk m c 10 t) (iblk m c 11 t) s

/-- The block left is the same whatever the second block's buffer holds past the array's end. -/
theorem leftA_any (c : Dev nD) (t : Fin cfg0.N) (h0 : t.val % 11 = 0) (d : (cfg0.win 1).block.Idx → Elt F (cfg0.win 1).elt) :
    leftA m c t h0 (X0_1 m c t) = leftA m c t h0 ((cfg0.win 1).fill (cfg0.grid.coords t) d (iblk m c 1 t)) := by
  unfold leftA
  refine outsA_masked c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ fun r l h => ?_
  unfold X0_1 Pipeline.Window.fill
  rw [dif_pos (moved0_1 t r l h), dif_pos (moved0_1 t r l h)]
theorem leftB_any (c : Dev nD) (t : Fin cfg0.N) (h0 : ¬t.val % 11 = 0) (d : (cfg0.win 1).block.Idx → Elt F (cfg0.win 1).elt) (s : Vec F S1x128 .f32) :
    leftB m c t h0 (X0_1 m c t) s = leftB m c t h0 ((cfg0.win 1).fill (cfg0.grid.coords t) d (iblk m c 1 t)) s := by
  unfold leftB
  refine outsB_masked c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ fun r l h => ?_
  unfold X0_1 Pipeline.Window.fill
  rw [dif_pos (moved0_1 t r l h), dif_pos (moved0_1 t r l h)]

/-- What the outputs' buffers and the carried row hold after each point: the row starts afresh with each sequence. -/
def outsAt0 (c : Dev nD) : (n : ℕ) → n < cfg0.N → Left F
  | 0, hn => leftA m c ⟨0, hn⟩ (Nat.zero_mod _) (X0_1 m c ⟨0, hn⟩)
  | n + 1, hn =>
    if h0 : (n + 1) % 11 = 0 then leftA m c ⟨n + 1, hn⟩ h0 (X0_1 m c ⟨n + 1, hn⟩)
    else leftB m c ⟨n + 1, hn⟩ h0 (X0_1 m c ⟨n + 1, hn⟩) (outsAt0 c n (Nat.lt_of_succ_lt hn)).2.2.2.2.2.2.2.2.2

theorem outsAt0_A (c : Dev nD) (t : Fin cfg0.N) (h0 : t.val % 11 = 0) :
    outsAt0 m c t.val t.isLt = leftA m c t h0 (X0_1 m c t) := by
  obtain ⟨n, hn⟩ := t
  cases n with
  | zero => exact rfl
  | succ n => exact (dif_pos h0).trans rfl

theorem outsAt0_B (c : Dev nD) (t : Fin cfg0.N) (h0 : ¬t.val % 11 = 0) :
    outsAt0 m c t.val t.isLt = leftB m c t h0 (X0_1 m c t) (outsAt0 m c (t.val - 1) (Nat.lt_of_le_of_lt (Nat.sub_le _ _) t.isLt)).2.2.2.2.2.2.2.2.2 := by
  obtain ⟨n, hn⟩ := t
  cases n with
  | zero => exact (by exfalso; (try dsimp only at h0); exact absurd (Nat.zero_mod _) h0)
  | succ n => exact (dif_neg h0).trans rfl

/-- The invariant before point `n`: the carried row at what the point before left, at anything before the first. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2)) ∗ (∃ r, prngReg c r)) := by
  cases n with
  | zero => exact absurd rfl hz
  | succ n => rfl

/-! ## The pipeline's proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨20, _⟩ => (outsAt0 m c t.val t.isLt).2.2.2.2.2.2.2.2.1
    | ⟨_ + 21, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2.1 := by dsimp only [dats]
theorem after0_20 (c : Dev nD) (t : Fin cfg0.N) : (dats m 0 c).after 20 t = (outsAt0 m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = (cfg0.win 1).fill (cfg0.grid.coords t) d (iblk m c 1 t) := by
  unfold Dat.before; rw [if_pos (fetch0_1 t)]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare ((cfg0.win 1).fill (cfg0.grid.coords t) d ((cfg0.win 1).cut (cfg0.grid.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

/-- Before any point the carried row is there, at some contents. -/
theorem PhiS_any (c : Dev nD) (t : Fin cfg0.N) :
    (dats m 0 c).Φ t.castSucc ⊢ iprop(iprop((∃ d, owns (c : Thread nD τ) scM0_0 fullShare d)) ∗ (∃ r, prngReg c r)) := by
  rw [PhiS_castSucc m c t]
  by_cases hz : t.val = 0
  · rw [PhiS_zero m c _ _ hz, PhiA0_eq]
  · rw [PhiS_pos m c _ _ hz]
    iintro ⟨HS0, Hg⟩
    isplitl [HS0]
    · iexists _; iexact HS0
    iexact Hg

/-- The second block's buffer, stated on the rows inside the array. -/
theorem cut_X0_1 (c : Dev nD) (t : Fin cfg0.N) : (cfg0.win 1).cut (cfg0.grid.coords t) (X0_1 m c t) = iblk m c 1 t :=
  (cfg0.win 1).cut_fill _ _ _

set_option maxHeartbeats 2000000 in
theorem sound_A (c : Dev nD) (t : Fin cfg0.N) (h0 : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) t.isLt from rfl, PhiS_succ]
  rw [outsAt0_A m c t h0]
  refine (sep_mono (PhiS_any m c t) .rfl).trans ?_
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  rw [leftA_any m c t h0 d1]
  unfold leftA outsA out0_A_12 out0_A_13 out0_A_14 out0_A_15 out0_A_16 out0_A_17 out0_A_18 out0_A_19 out0_A_20 sout0_A_0; (try dsimp only)
  iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) ((cfg0.win 1).fill (cfg0.grid.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%es0, HS0⟩⟩
  isplitl [HS0 Hg]
  · isplitl [HS0]
    · unfold owns; iexists _; isplitr
      swap; · iexact HS0
      ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]
  · iexists d1
    rw [cut_X0_1]; try iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 2000000 in
theorem sound_B (c : Dev nD) (t : Fin cfg0.N) (h0 : ¬t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) t.isLt from rfl, PhiS_succ]
  rw [PhiS_castSucc m c t, PhiS_pos m c _ _ (by intro hz; rw [hz] at h0; exact h0 rfl)]
  rw [outsAt0_B m c t h0]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  rw [leftB_any m c t h0 d1]
  unfold leftB outsB out0_B_12 out0_B_13 out0_B_14 out0_B_15 out0_B_16 out0_B_17 out0_B_18 out0_B_19 out0_B_20 sout0_B_0; (try dsimp only)
  iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m c 0 t) ((cfg0.win 1).fill (cfg0.grid.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) _).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%es0, HS0⟩⟩
  isplitl [HS0 Hg]
  · isplitl [HS0]
    · unfold owns; iexists _; isplitr
      swap; · iexact HS0
      ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]
  · iexists d1
    rw [cut_X0_1]; try iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The same, the outputs whose blocks overhang their arrays stated on the part inside. -/
def bodyPostLoose (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare ((cfg0.win 1).fill (cfg0.grid.coords t) d ((cfg0.win 1).cut (cfg0.grid.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ d, owns (c : Thread nD τ) (ms0_15 t) fullShare ((cfg0.win 15).fill (cfg0.grid.coords t) d ((cfg0.win 15).cut (cfg0.grid.coords t) ((dats m 0 c).after 15 t))))
    ∗ (∃ d, owns (c : Thread nD τ) (ms0_16 t) fullShare ((cfg0.win 16).fill (cfg0.grid.coords t) d ((cfg0.win 16).cut (cfg0.grid.coords t) ((dats m 0 c).after 16 t))))
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ (∃ d, owns (c : Thread nD τ) (ms0_20 t) fullShare ((cfg0.win 20).fill (cfg0.grid.coords t) d ((cfg0.win 20).cut (cfg0.grid.coords t) ((dats m 0 c).after 20 t)))))

theorem loosen (c : Dev nD) (t : Fin cfg0.N) : bodyPost m c t ⊢ bodyPostLoose m c t := by
  unfold bodyPost bodyPostLoose
  iintro ⟨HΦ, Ho, H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · iexists (dats m 0 c).after 15 t; rw [(cfg0.win 15).fill_cut]; iexact H15
  isplitl [H16]
  · iexists (dats m 0 c).after 16 t; rw [(cfg0.win 16).fill_cut]; iexact H16
  isplitl [H17]; · iexact H17
  isplitl [H18]; · iexact H18
  isplitl [H19]; · iexact H19
  iexists (dats m 0 c).after 20 t; rw [(cfg0.win 20).fill_cut]; iexact H20

theorem sound_body (c : Dev nD) (t : Fin cfg0.N) :
    bodyPre m c t ⊢ wp frame (wpE (defs₀ (F := F)) Variants.none c none) Set.univ (bodyAt0 t) (fun _ => bodyPostLoose m c t) := by
  refine BIBase.Entails.trans ?_ (wp_mono _ _ _ fun _ => loosen m c t)
  by_cases h0 : t.val % 11 = 0
  · exact sound_A m c t h0
  · exact sound_B m c t h0

/-- The library's body obligation, at every point. -/
theorem body_obligation (c : Dev nD) : BodyObligationLoose (dats (F := F) m 0 c) (defs₀ (F := F)) Variants.none () Set.univ := fun t => by
  rw [bigSep_W0, bigSep_W0, defs₀_row]
  simp only
  exact sound_body m c t

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 88 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, at any instance of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- The run with the three result arrays named, the arguments unchanged. -/
theorem run_blocks : θ_run defs (onTc (τ := τ) (main (F := F))) ⟨m, fun _ => 0, ρ⟩ fun r =>
      (∀ c : Dev nD, r.2.mem ((c : Thread nD τ).loc main_v51_3) = (dats m 0 c).arrAt 15 cfg0.N
        ∧ r.2.mem ((c : Thread nD τ).loc main_v51_4) = (dats m 0 c).arrAt 16 cfg0.N
        ∧ r.2.mem ((c : Thread nD τ).loc main_v51_8) = (dats m 0 c).arrAt 20 cfg0.N)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_and ((θ_run defs _ _).mono (fun _ h c => ⟨(h c).1 15, (h c).1 16, (h c).1 20⟩) (run_main m ρ)) (unchanged m ρ)

end Cert.Proof.Prompt

end
-- ==== Proof.PromptRows.lean ====
/-
  Hand-written, untrusted. The prompt's input projections, `Kernel7Ideal`: what its region's operands hold.
-/
module

public import proofs.«01_k».proof.Proof.Foxin
public import proofs.«01_k».proof.Proof.Gen.Kernel7Ideal.Frame
public import proofs.«01_k».proof.Proof.Gen.Kernel7Ideal.Skeleton
public import Idealize.ShloMosaic.Lib.Pipeline.ValueKit

@[expose] public section

set_option maxRecDepth 16384

noncomputable section

namespace Cert.Proof.Prompt
open Idealize.ShloMosaic Idealize.SL.Sem Idealize.ShloMosaic.TcCoe
open Idealize.ShloMosaic.Pipeline (Dat Cfg Window)
open Cert.Kernel7Ideal Cert.Kernel7Ideal.Gen
open Cert.Proof.Foxin (lsg softplus_eq sq_nonneg' mean64 rest_zero head_sum pick)

variable (m : (ℓ : Loc nD τ sig) → Buf (Elt Ideal) ℓ)

/-! ## The region's operands -/

theorem V35 (c : Dev nD) (l : Fin 1024) : V m c main_v35 (ix2 0 l) = m ((c : Thread nD τ).loc main_arg2) (ix2 0 l) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise
theorem V2 (c : Dev nD) (k : Fin 1024) (l : Fin 3072) : V m c main_v2 (ix2 k l) = m ((c : Thread nD τ).loc main_arg3) (ix3 0 k ⟨l.val, by omega⟩) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise
theorem V5e (c : Dev nD) : V m c main_v5 = truncf .bf16 (pad S1024x128 ![0, 0] ![0, 112] ![0, 0] (extractStridedSlice S1024x16 ![0, 3072] (shapeCast S1024x3088 (m ((c : Thread nD τ).loc main_arg3)) shapeCasts_S1x1024x3088_S1024x3088) slices_S1024x3088_S1024x16_0_3072) (sitofp (F := Ideal) .f32 (constantI S_ 32 0#32)) pads_S1024x16_S1024x128_000_01120 h_S_) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl
theorem V5 (c : Dev nD) (k : Fin 1024) (l : Fin 128) (h : l.val < 16) : V m c main_v5 (ix2 k l) = m ((c : Thread nD τ).loc main_arg3) (ix3 0 k ⟨3072+l.val, by omega⟩) := by
  rw [V5e]
  pointwise
  simp only [h, ↓reduceDIte]
theorem V8e (c : Dev nD) : V m c main_v8 = shapeCast S1x128 (pad S128 ![0] ![112] ![0] (shapeCast S16 (m ((c : Thread nD τ).loc main_arg4)) shapeCasts_S1x16_S16) (sitofp (F := Ideal) .f32 (constantI S_ 32 0#32)) pads_S16_S128_01120 h_S_) shapeCasts_S128_S1x128 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl
theorem V8 (c : Dev nD) (l : Fin 128) (h : l.val < 16) : V m c main_v8 (ix2 0 l) = m ((c : Thread nD τ).loc main_arg4) (ix2 0 ⟨l.val, h⟩) := by
  rw [V8e]
  pointwise
  simp only [h, ↓reduceDIte]
theorem V20 (c : Dev nD) (l : Fin 1024) : V m c main_v20 (ix2 0 l) = m ((c : Thread nD τ).loc main_arg6) (ix2 0 ⟨l.val % 64, by omega⟩) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise
/-- The heads' one-hot: lanes against heads. -/
def oneHot : FVec Ideal S1024x128 .bf16 :=
  uitofp .bf16 (cmpi .eq (broadcastInDim S1024x128 ![0, 1] bcast_S1024x1_S1024x128_0_1 (broadcastInDim S1024x1 ![0] bcast_S1024_S1024x1_0 Foxin.headWord))
    (broadcastInDim S1024x128 ![0, 1] bcast_S1x128_S1024x128_0_1 (broadcastInDim S1x128 ![1] bcast_S128_S1x128_1 (iotaInDim S128 32 0))))
theorem oneHot_apply (k : Fin 1024) (h : Fin 128) : oneHot (ix2 k h) = (if k.val / 64 = h.val then 1 else 0 : EReal) := by
  pointwise [oneHot]
  rw [Foxin.headWord_apply, WordCmp.cmpi_eq_ofNat (by omega) (by omega)]
  show (((BitVec.ofBool (decide (k.val / 64 = h.val))).toNat : ℝ) : EReal) = _
  by_cases e : k.val / 64 = h.val <;> simp [e]
theorem V29e (c : Dev nD) : V m c main_v29 = oneHot := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl
theorem V32e (c : Dev nD) : V m c main_v32 = concatenate S256x1024 0 [⟨S128x1024, transpose S128x1024 [1, 0] oneHot transposes_S1024x128_S128x1024_1_0⟩,
    ⟨S128x1024, transpose S128x1024 [1, 0] oneHot transposes_S1024x128_S128x1024_1_0⟩] concatenates_S128x1024_S128x1024_S256x1024_d0 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl
theorem V32 (c : Dev nD) (h : Fin 256) (k : Fin 1024) : V m c main_v32 (ix2 h k) = (if k.val / 64 = h.val % 128 then 1 else 0 : EReal) := by
  rw [V32e]
  pointwise [oneHot_apply]
  by_cases e : h.val < 128
  · rw [dif_pos e, Nat.mod_eq_of_lt e]
  · rw [dif_neg e, show h.val % 128 = h.val - 128 by omega]

/-- The blocks' places: point `t` is tile `t % 11` of batch element `t / 11`; the weights are whole. -/
theorem places : ∀ t : Fin cfg0.N, win0_0.index t = ![t.val / 11, t.val % 11 * 24 - 1, 0]
    ∧ win0_1.index t = ![t.val / 11, t.val % 11, 0]
    ∧ win0_2.index t = ![0, 0]
    ∧ win0_3.index t = ![0, 0]
    ∧ win0_4.index t = ![0, 0]
    ∧ win0_5.index t = ![0, 0]
    ∧ win0_6.index t = ![0, 0]
    ∧ win0_8.index t = ![0, 0]
    ∧ win0_9.index t = ![0, 0]
    ∧ win0_10.index t = ![0, 0]
    ∧ win0_15.index t = ![t.val / 11, 0, t.val % 11]
    ∧ win0_16.index t = ![t.val / 11, 0, t.val % 11]
    ∧ win0_20.index t = ![t.val / 11, 0, t.val % 11]
    ∧ (grid0.coords t 1).val = t.val % 11 :=
  (by decide +kernel : ∀ t : Fin grid0.N, win0_0.index t = ![t.val / 11, t.val % 11 * 24 - 1, 0]
    ∧ win0_1.index t = ![t.val / 11, t.val % 11, 0]
    ∧ win0_2.index t = ![0, 0]
    ∧ win0_3.index t = ![0, 0]
    ∧ win0_4.index t = ![0, 0]
    ∧ win0_5.index t = ![0, 0]
    ∧ win0_6.index t = ![0, 0]
    ∧ win0_8.index t = ![0, 0]
    ∧ win0_9.index t = ![0, 0]
    ∧ win0_10.index t = ![0, 0]
    ∧ win0_15.index t = ![t.val / 11, 0, t.val % 11]
    ∧ win0_16.index t = ![t.val / 11, 0, t.val % 11]
    ∧ win0_20.index t = ![t.val / 11, 0, t.val % 11]
    ∧ (grid0.coords t 1).val = t.val % 11)

theorem bat_lt (t : Fin cfg0.N) : t.val / 11 < 8 := by
  have := t.isLt; have : cfg0.N = 88 := N_0; omega
/-- The batch element of a point. -/
def bat (t : Fin cfg0.N) : Fin 8 := ⟨t.val / 11, bat_lt t⟩

theorem b0 (c : Dev nD) (t : Fin cfg0.N) (r : Fin 16) (l : Fin 1024) :
    iblk m c 0 t (ix3 0 r l) = m ((c : Thread nD τ).loc main_arg0) (ix3 (bat t) ⟨(t.val % 11 * 24 - 1) * 16 + r.val, by omega⟩ l) := by
  have e := (places t).1
  unfold bat
  blk_ext [iblk, V, e]
theorem b2 (c : Dev nD) (t : Fin cfg0.N) (r : Fin 16) (l : Fin 1024) : iblk m c 2 t (ix2 r l) = m ((c : Thread nD τ).loc main_arg1) (ix2 r l) := by
  have e := (places t).2.2.1
  blk_ext [iblk, V, e]
theorem b3 (c : Dev nD) (t : Fin cfg0.N) (l : Fin 1024) : iblk m c 3 t (ix2 0 l) = m ((c : Thread nD τ).loc main_arg2) (ix2 0 l) := by
  refine Eq.trans ?_ (V35 m c l)
  have e := (places t).2.2.2.1
  blk_ext [iblk, e]
theorem b4 (c : Dev nD) (t : Fin cfg0.N) (k : Fin 1024) (l : Fin 3072) : iblk m c 4 t (ix2 k l) = m ((c : Thread nD τ).loc main_arg3) (ix3 0 k ⟨l.val, by omega⟩) := by
  refine Eq.trans ?_ (V2 m c k l)
  have e := (places t).2.2.2.2.1
  blk_ext [iblk, e]
theorem b5 (c : Dev nD) (t : Fin cfg0.N) (k : Fin 1024) (l : Fin 128) (h : l.val < 16) : iblk m c 5 t (ix2 k l) = m ((c : Thread nD τ).loc main_arg3) (ix3 0 k ⟨3072+l.val, by omega⟩) := by
  refine Eq.trans ?_ (V5 m c k l h)
  have e := (places t).2.2.2.2.2.1
  blk_ext [iblk, e]
theorem b6 (c : Dev nD) (t : Fin cfg0.N) (l : Fin 128) (h : l.val < 16) : iblk m c 6 t (ix2 0 l) = m ((c : Thread nD τ).loc main_arg4) (ix2 0 ⟨l.val, h⟩) := by
  refine Eq.trans ?_ (V8 m c l h)
  have e := (places t).2.2.2.2.2.2.1
  blk_ext [iblk, e]
theorem b8 (c : Dev nD) (t : Fin cfg0.N) (l : Fin 1024) : iblk m c 8 t (ix2 0 l) = m ((c : Thread nD τ).loc main_arg6) (ix2 0 ⟨l.val % 64, by omega⟩) := by
  refine Eq.trans ?_ (V20 m c l)
  have e := (places t).2.2.2.2.2.2.2.1
  blk_ext [iblk, e]
theorem b9 (c : Dev nD) (t : Fin cfg0.N) (k : Fin 1024) (h : Fin 128) : iblk m c 9 t (ix2 k h) = (if k.val / 64 = h.val then 1 else 0 : EReal) := by
  refine Eq.trans ?_ ((congrFun (V29e m c) (ix2 k h)).trans (oneHot_apply k h))
  have e := (places t).2.2.2.2.2.2.2.2.1
  blk_ext [iblk, e]
theorem b10 (c : Dev nD) (t : Fin cfg0.N) (h : Fin 256) (k : Fin 1024) : iblk m c 10 t (ix2 h k) = (if k.val / 64 = h.val % 128 then 1 else 0 : EReal) := by
  refine Eq.trans ?_ (V32 m c h k)
  have e := (places t).2.2.2.2.2.2.2.2.2.1
  blk_ext [iblk, e]

end Cert.Proof.Prompt
-- ==== Proof.PromptRef.lean ====
/-
  Hand-written, untrusted. The prompt's input projections, `Kernel7Ideal`: the reference's results at an index, and the
  body's payloads a row at a time.
-/
module

public import proofs.«01_k».proof.Proof.Foxin
public import proofs.«01_k».proof.Proof.PrefixedRun
public import proofs.«01_k».proof.Proof.Gen.Kernel7Ideal.Frame
public import proofs.«01_k».proof.Proof.Gen.Kernel7Ideal.Skeleton
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.Proof.Prompt
open Idealize.ShloMosaic Idealize.SL.Sem Idealize.ShloMosaic.TcCoe
open Idealize.ShloMosaic.Pipeline (Dat Cfg Window)
open Cert.Kernel7Ideal Cert.Kernel7Ideal.Gen
open Cert.Proof.Foxin (lsg softplus_eq sq_nonneg' mean64 rest_zero head_sum pick)

/-! ## The reference's results at an index -/

/-- A row's element after the root-mean-square norm with its gain. -/
def nrm (x g : Fin 1024 → EReal) (k : Fin 1024) : EReal :=
  x k * Ideal.rsqrt (Ideal.div (∑ k' : Fin 1024, x k' * x k') (Ideal.ofBits FTy.f32 0x44800000#32) + Ideal.ofBits FTy.f32 0x358637BD#32) * g k

/-- A row of the sequence: the prefix, then the prompt. -/
def seq (x : Vec Ideal S8x4096x1024 .f32) (pre : Vec Ideal S16x1024 .f32) (b : Fin 8) (t : Fin 4112) (l : Fin 1024) : EReal :=
  if h : t.val < 16 then pre (ix2 ⟨t.val, h⟩ l) else x (ix3 b ⟨t.val - 16, by omega⟩ l)

/-- An element of the projection. -/
def proj (x : Vec Ideal S8x4096x1024 .f32) (pre : Vec Ideal S16x1024 .f32) (g : Vec Ideal S2x1024 .f32) (w : Vec Ideal S1x1024x3088 .f32) (b : Fin 8) (t : Fin 4112) (l : Fin 3088) : EReal :=
  ∑ k : Fin 1024, nrm (seq x pre b t) (fun k => g (ix2 0 k)) k * w (ix3 0 k l)

open Cert.Reference7Ideal.Read

theorem ref_seq (x : Vec Ideal S8x4096x1024 .f32) (pre : Vec Ideal S16x1024 .f32) (b : Fin 8) (t : Fin 4112) (l : Fin 1024) :
    val_main_v2 (F := Ideal) x pre (ix3 b t l) = seq x pre b t l := by
  unfold seq
  pointwise [val_main_v2, val_main_v1, val_main_v0]

theorem ref_proj (x : Vec Ideal S8x4096x1024 .f32) (pre : Vec Ideal S16x1024 .f32) (g : Vec Ideal S2x1024 .f32) (w : Vec Ideal S1x1024x3088 .f32) (b : Fin 8) (t : Fin 4112) (l : Fin 3088) :
    val_main_v19 (F := Ideal) x pre g w (ix3 b t l) = proj x pre g w b t l := by
  pointwise [val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, ref_seq, nrm, proj]

theorem ref_v (x : Vec Ideal S8x4096x1024 .f32) (pre : Vec Ideal S16x1024 .f32) (g : Vec Ideal S2x1024 .f32) (w : Vec Ideal S1x1024x3088 .f32) (b : Fin 8) (t : Fin 4112) (l : Fin 1024) :
    val_main_v46 (F := Ideal) x pre g w (ix3 b l t) = proj x pre g w b t ⟨2048 + l.val, by omega⟩ := by
  pointwise [val_main_v46, val_main_v22, ref_proj]

/-- A key element before its head's norm. -/
def key (x : Vec Ideal S8x4096x1024 .f32) (pre : Vec Ideal S16x1024 .f32) (g : Vec Ideal S2x1024 .f32) (w : Vec Ideal S1x1024x3088 .f32) (b : Fin 8) (t : Fin 4112) (l : Fin 1024) : EReal := proj x pre g w b t ⟨1024 + l.val, by omega⟩

theorem ref_heads (x : Vec Ideal S8x4096x1024 .f32) (pre : Vec Ideal S16x1024 .f32) (g : Vec Ideal S2x1024 .f32) (w : Vec Ideal S1x1024x3088 .f32) (b : Fin 8) (t : Fin 4112) (h : Fin 16) (j : Fin 64) :
    val_main_v24 (F := Ideal) x pre g w (ix4 b t h j) = key x pre g w b t ⟨h.val * 64 + j.val, by omega⟩ := by
  pointwise [val_main_v24, val_main_v21, ref_proj]
  rfl

/-- A head's reciprocal root mean square. -/
def rec (x : Vec Ideal S8x4096x1024 .f32) (pre : Vec Ideal S16x1024 .f32) (g : Vec Ideal S2x1024 .f32) (w : Vec Ideal S1x1024x3088 .f32) (b : Fin 8) (t : Fin 4112) (h : Fin 16) : EReal :=
  Ideal.rsqrt (Ideal.div (∑ j : Fin 64, key x pre g w b t ⟨h.val * 64 + j.val, by omega⟩ * key x pre g w b t ⟨h.val * 64 + j.val, by omega⟩) (Ideal.ofBits FTy.f32 0x42800000#32)
    + Ideal.ofBits FTy.f32 0x358637BD#32)

theorem ref_sum (x : Vec Ideal S8x4096x1024 .f32) (pre : Vec Ideal S16x1024 .f32) (g : Vec Ideal S2x1024 .f32) (w : Vec Ideal S1x1024x3088 .f32) (b : Fin 8) (t : Fin 4112) (h : Fin 16) : val_main_v27 (F := Ideal) x pre g w (ix3 b t h)
      = ∑ j : Fin 64, key x pre g w b t ⟨h.val * 64 + j.val, by omega⟩ * key x pre g w b t ⟨h.val * 64 + j.val, by omega⟩ := by
  refine (val_main_v27_apply x pre g w (ix3 b t h)).trans ?_
  have e : ∀ k : Fin 64, idx_main_v27 (ix3 b t h) k = ix4 b t h k := fun k => funext fun a => match a with | ⟨0, _⟩ => rfl | ⟨1, _⟩ => rfl | ⟨2, _⟩ => rfl | ⟨3, _⟩ => rfl
  have hz : val_main_cst_2 (F := Ideal) (Shape.Idx.first h_S_) = (0 : EReal) := by pointwise [val_main_cst_2]
  rw [hz, zero_add]
  refine Finset.sum_congr rfl fun k _ => ?_
  rw [e, val_main_v26_apply, ref_heads]
  generalize key x pre g w b t = y
  rfl

theorem ref_rec (x : Vec Ideal S8x4096x1024 .f32) (pre : Vec Ideal S16x1024 .f32) (g : Vec Ideal S2x1024 .f32) (w : Vec Ideal S1x1024x3088 .f32) (b : Fin 8) (t : Fin 4112) (h : Fin 16) : val_main_v33 (F := Ideal) x pre g w (ix4 b t h 0) = rec x pre g w b t h := by
  have e : idx_main_v28 (ix4 b t h 0) = ix3 b t h := funext fun a => match a with | ⟨0, _⟩ => rfl | ⟨1, _⟩ => rfl | ⟨2, _⟩ => rfl
  have h8 : val_main_v29 (F := Ideal) (ix4 b t h 0) = Ideal.ofBits FTy.f32 0x42800000#32 := by pointwise [val_main_v29, val_main_cst_3]
  have h9 : val_main_v31 (F := Ideal) (ix4 b t h 0) = Ideal.ofBits FTy.f32 0x358637BD#32 := by pointwise [val_main_v31, val_main_cst_4]
  rw [val_main_v33_apply, val_main_v32_apply, val_main_v30_apply, val_main_v28_apply, e, ref_sum, h8, h9]
  unfold rec
  generalize key x pre g w b t = y
  rfl

theorem ref_k4 (x : Vec Ideal S8x4096x1024 .f32) (pre : Vec Ideal S16x1024 .f32) (g : Vec Ideal S2x1024 .f32) (w : Vec Ideal S1x1024x3088 .f32) (gk : Vec Ideal S1x64 .f32) (b : Fin 8) (t : Fin 4112) (h : Fin 16) (j : Fin 64) :
    val_main_v38 (F := Ideal) x pre g w gk (ix4 b t h j) = key x pre g w b t ⟨h.val * 64 + j.val, by omega⟩ * rec x pre g w b t h * gk (ix2 0 j) := by
  have e : idx_main_v34 (ix4 b t h j) = ix4 b t h 0 := funext fun a => match a with | ⟨0, _⟩ => rfl | ⟨1, _⟩ => rfl | ⟨2, _⟩ => rfl | ⟨3, _⟩ => rfl
  have hg : val_main_v37 (F := Ideal) gk (ix4 b t h j) = gk (ix2 0 j) := by pointwise [val_main_v25, val_main_v36, val_main_v37]
  rw [val_main_v38_apply, val_main_v35_apply, val_main_v34_apply, e, ref_rec, ref_heads, hg]
  generalize key x pre g w b t = y
  generalize rec x pre g w b t h = z
  rfl

theorem ref_k (x : Vec Ideal S8x4096x1024 .f32) (pre : Vec Ideal S16x1024 .f32) (g : Vec Ideal S2x1024 .f32) (w : Vec Ideal S1x1024x3088 .f32) (gk : Vec Ideal S1x64 .f32) (b : Fin 8) (t : Fin 4112) (l : Fin 1024) :
    val_main_v45 (F := Ideal) x pre g w gk (ix3 b l t) = key x pre g w b t l * rec x pre g w b t ⟨l.val / 64, by omega⟩ * gk (ix2 0 ⟨l.val % 64, by omega⟩) := by
  pointwise [val_main_v45, val_main_v44, ref_k4]
  refine congrArg (fun l' => key x pre g w b t l' * rec x pre g w b t ⟨l.val / 64, by omega⟩ * gk (ix2 0 ⟨l.val % 64, by omega⟩)) (Fin.ext ?_)
  show l.val / 64 * 64 + l.val % 64 = l.val
  omega

/-- The forget gate before its logarithm. -/
def gate (x : Vec Ideal S8x4096x1024 .f32) (pre : Vec Ideal S16x1024 .f32) (g : Vec Ideal S2x1024 .f32) (w : Vec Ideal S1x1024x3088 .f32) (bf : Vec Ideal S1x16 .f32) (b : Fin 8) (t : Fin 4112) (h : Fin 16) : EReal :=
  proj x pre g w b t ⟨3072 + h.val, by omega⟩ + bf (ix2 0 h)

theorem ref_gate (x : Vec Ideal S8x4096x1024 .f32) (pre : Vec Ideal S16x1024 .f32) (g : Vec Ideal S2x1024 .f32) (w : Vec Ideal S1x1024x3088 .f32) (bf : Vec Ideal S1x16 .f32) (b : Fin 8) (t : Fin 4112) (h : Fin 16) :
    val_main_v42 (F := Ideal) x pre g w bf (ix3 b t h) = gate x pre g w bf b t h := by
  pointwise [val_main_v23, val_main_v39, val_main_v40, val_main_v41, val_main_v42, ref_proj, gate]

theorem ref_f (x : Vec Ideal S8x4096x1024 .f32) (pre : Vec Ideal S16x1024 .f32) (g : Vec Ideal S2x1024 .f32) (w : Vec Ideal S1x1024x3088 .f32) (bf : Vec Ideal S1x16 .f32) (b : Fin 8) (t : Fin 4112) (h : Fin 16) :
    val_main_v47 (F := Ideal) x pre g w bf (ix3 b h t) = lsg (gate x pre g w bf b t h) := by
  pointwise [val_main_v47, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v43, ref_gate]
  rw [if_neg (by simp)]
  exact softplus_eq _

/-! ## The body's payloads, a row of the tile at a time -/

section
variable (i : grid0.Coords) (v1 : Vec Ideal S16x1024 .f32) (v2 : Vec Ideal S1x16x1024 .f32) (v5 : Vec Ideal S1x368x1024 .f32) (v21 : Vec Ideal S1x1024 .f32)

/-- The sequence row the body builds as row `r` of its tile. -/
def built (r : Fin 384) (l : Fin 1024) : EReal :=
  if (i 1).val * 384 + r.val < 4112 then
    (if h : r.val < 16 then (if (i 1).val = 0 then v1 (ix2 ⟨r.val, h⟩ l) else v2 (ix3 0 ⟨r.val, h⟩ l)) else v5 (ix3 0 ⟨r.val - 16, by omega⟩ l))
  else 0

theorem zero_row (a b : EReal) : (0 : EReal) = 0 * a * b := by rw [zero_mul, zero_mul]

theorem pay7_row (r : Fin 384) (l : Fin 1024) :
    k0_pay7 i v1 v2 v5 v21 (ix2 r l) = nrm (built i v1 v2 v5 r) (fun k => v21 (ix2 0 k)) l := by
  pointwise [k0_pay7]
  rw [Prefixed.mask_word _ _ (i 1).isLt r.isLt]
  have hj : (Scalar.cmpi .eq (BitVec.ofNat 32 (i 1).val) 0#32 : BitVec 1) = if (i 1).val = 0 then 1#1 else 0#1 :=
    (by decide : ∀ j : Fin 11, (Scalar.cmpi .eq (BitVec.ofNat 32 j.val) 0#32 : BitVec 1) = if j.val = 0 then 1#1 else 0#1) (i 1)
  rw [hj]
  unfold nrm built
  by_cases hm : (i 1).val * 384 + r.val < 4112 <;> by_cases hr : r.val < 16 <;> by_cases h0 : (i 1).val = 0 <;>
    simp only [hm, hr, ↓reduceIte, ↓reduceDIte] <;> (try simp only [h0, ↓reduceIte]) <;> first | rfl | exact zero_row _ _

theorem pay8_row (v35 : FVec Ideal S384x1024 .bf16) (v39 : Vec Ideal S1024x1024 .bf16) (r : Fin 384) (l : Fin 1024) :
    k0_pay8 v35 v39 (ix2 r l) = ∑ k : Fin 1024, v35 (ix2 r k) * v39 (ix2 k l) := by
  pointwise [k0_pay8]
theorem pay9_row (v35 : FVec Ideal S384x1024 .bf16) (v42 : Vec Ideal S1024x1024 .bf16) (r : Fin 384) (l : Fin 1024) :
    k0_pay5 (k0_pay17 (k0_pay9 v35 v42)) (ix3 0 l r) = ∑ k : Fin 1024, v35 (ix2 r k) * v42 (ix2 k l) := by
  pointwise [k0_pay5, k0_pay17, k0_pay9]
theorem pay10_row (v35 : FVec Ideal S384x1024 .bf16) (v45 : Vec Ideal S1024x128 .bf16) (v48 : Vec Ideal S1x128 .f32) (r : Fin 384) (h : Fin 16) :
    k0_pay3 (k0_pay14 (k0_pay10 v35 v45 v48)) (ix3 0 h r)
      = lsg ((∑ k : Fin 1024, v35 (ix2 r k) * v45 (ix2 k ⟨h.val, by omega⟩)) + v48 (ix2 0 ⟨h.val, by omega⟩)) := by
  pointwise [k0_pay3, k0_pay14, k0_pay10]
  simp only [lsg]
end

theorem normed (v25 : FVec Ideal S384x1024 .f32) (v60 : Vec Ideal S1x1024 .f32) (v63 : Vec Ideal S1024x128 .bf16) (v76 : Vec Ideal S256x1024 .bf16)
    (hs : ∀ (k : Fin 1024) (h : Fin 128), v63 (ix2 k h) = (if k.val / 64 = h.val then 1 else 0 : EReal))
    (ht : ∀ (h : Fin 256) (k : Fin 1024), v76 (ix2 h k) = (if k.val / 64 = h.val % 128 then 1 else 0 : EReal)) (r : Fin 384) (l : Fin 1024) :
    k0_pay13 v25 v60 v63 v76 (ix2 r l)
      = v25 (ix2 r l) * Ideal.rsqrt (Ideal.div (∑ j : Fin 64, v25 (ix2 r ⟨l.val / 64 * 64 + j.val, by omega⟩) * v25 (ix2 r ⟨l.val / 64 * 64 + j.val, by omega⟩)) (Ideal.ofBits FTy.f32 0x42800000#32)
        + Ideal.ofBits FTy.f32 0x358637BD#32) * v60 (ix2 0 l) := by
  pointwise [k0_pay13]
  simp only [hs, ht]
  rw [pick (fun h => Ideal.rsqrt ((∑ k : Fin 1024, v25 (ix2 r k) * v25 (ix2 r k) * (if k.val / 64 = h.val then 1 else 0)) * Ideal.ofBits FTy.f32 0x3C800000#32
    + Ideal.ofBits FTy.f32 0x358637BD#32)) (fun h => rest_zero _ (Finset.sum_nonneg fun k _ => ?_)) l]
  · show v25 (ix2 r l) * Ideal.rsqrt ((∑ k : Fin 1024, v25 (ix2 r k) * v25 (ix2 r k) * (if k.val / 64 = (⟨l.val / 64, by omega⟩ : Fin 16).val then 1 else 0)) * Ideal.ofBits FTy.f32 0x3C800000#32
      + Ideal.ofBits FTy.f32 0x358637BD#32) * v60 (ix2 0 l) = _
    rw [head_sum (fun k => v25 (ix2 r k) * v25 (ix2 r k)), mean64]
  · refine mul_nonneg (sq_nonneg' _) ?_
    split <;> simp

/-- The same over the row's own elements, as the body stores it. -/
theorem normed_of (v25 : FVec Ideal S384x1024 .f32) (v60 : Vec Ideal S1x1024 .f32) (v63 : Vec Ideal S1024x128 .bf16) (v76 : Vec Ideal S256x1024 .bf16)
    (hs : ∀ (k : Fin 1024) (h : Fin 128), v63 (ix2 k h) = (if k.val / 64 = h.val then 1 else 0 : EReal))
    (ht : ∀ (h : Fin 256) (k : Fin 1024), v76 (ix2 h k) = (if k.val / 64 = h.val % 128 then 1 else 0 : EReal)) (r : Fin 384) (l : Fin 1024)
    (y : Fin 1024 → EReal) (hy : ∀ l, v25 (ix2 r l) = y l) (g : EReal) (hg : v60 (ix2 0 l) = g) :
    k0_pay4 (k0_pay13 v25 v60 v63 v76) (ix3 0 l r)
      = y l * Ideal.rsqrt (Ideal.div (∑ j : Fin 64, y ⟨l.val / 64 * 64 + j.val, by omega⟩ * y ⟨l.val / 64 * 64 + j.val, by omega⟩) (Ideal.ofBits FTy.f32 0x42800000#32)
        + Ideal.ofBits FTy.f32 0x358637BD#32) * g := by
  pointwise [k0_pay4]
  rw [normed v25 v60 v63 v76 hs ht r l, hg]
  simp only [hy]

end Cert.Proof.Prompt
-- ==== Proof.Prompt.lean ====
/-
  Hand-written, untrusted. `Kernel7Ideal`, the prompt's input projections, their rows built on the way: its keys, values
  and gates in the order the mixer reads them are the reference's.
-/
module

public import proofs.«01_k».proof.Proof.PromptFrame
public import proofs.«01_k».proof.Proof.PromptRows
public import proofs.«01_k».proof.Proof.PromptRef

@[expose] public section

set_option maxRecDepth 16384

noncomputable section

namespace Cert.Proof.Prompt
open Idealize.ShloMosaic Idealize.SL.Sem Idealize.ShloMosaic.TcCoe
open Idealize.ShloMosaic.Pipeline (Dat Cfg Window)
open Cert.Kernel7Ideal Cert.Kernel7Ideal.Gen
open Cert.Proof.Foxin (lsg)

variable (m : (ℓ : Loc nD τ sig) → Buf (Elt Ideal) ℓ)

/-- The sequence row that row `r` of a point's tile is. -/
def row (t : Fin cfg0.N) (r : Fin 384) (h : t.val % 11 * 384 + r.val < 4112) : Fin 4112 := ⟨t.val % 11 * 384 + r.val, h⟩

theorem b1 (c : Dev nD) (t : Fin cfg0.N) (r : Fin 384) (l : Fin 1024) (h : t.val % 11 * 384 + 16 + r.val < 4112) :
    X0_1 m c t (ix3 0 r l) = m ((c : Thread nD τ).loc main_arg0) (ix3 (bat t) ⟨t.val % 11 * 384 + r.val, by omega⟩ l) := by
  have e := (places t).2.1
  unfold X0_1 Pipeline.Window.fill bat
  rw [dif_pos (moved0_1 t r l (by rw [(places t).2.2.2.2.2.2.2.2.2.2.2.2.2]; exact h))]
  blk_ext [iblk, V, e]

/-- The normed rows a point's body works from. -/
def rows7 (c : Dev nD) (t : Fin cfg0.N) : FVec Ideal S384x1024 .bf16 :=
  k0_pay7 (grid0.coords t) (iblk m c 2 t) (iblk m c 0 t)
    (View.ld (X0_1 m c t) (Rect.unit ![0, 0, 0] ![1, 368, 1024] inb_S1x384x1024_S1x368x1024_0_0_0)) (iblk m c 3 t)

theorem rows7_apply (c : Dev nD) (t : Fin cfg0.N) (r : Fin 384) (h : t.val % 11 * 384 + r.val < 4112) (l : Fin 1024) :
    rows7 m c t (ix2 r l) = nrm (seq (m ((c : Thread nD τ).loc main_arg0)) (m ((c : Thread nD τ).loc main_arg1)) (bat t) (row t r h)) (fun k => (m ((c : Thread nD τ).loc main_arg2)) (ix2 0 k)) l := by
  have ej := (places t).2.2.2.2.2.2.2.2.2.2.2.2.2
  unfold rows7
  rw [pay7_row]
  have hx : ∀ l, built (grid0.coords t) (iblk m c 2 t) (iblk m c 0 t)
      (View.ld (X0_1 m c t) (Rect.unit ![0, 0, 0] ![1, 368, 1024] inb_S1x384x1024_S1x368x1024_0_0_0)) r l = seq (m ((c : Thread nD τ).loc main_arg0)) (m ((c : Thread nD τ).loc main_arg1)) (bat t) (row t r h) l := by
    intro l
    unfold built seq
    rw [ej, if_pos h]
    by_cases hr : r.val < 16
    · rw [dif_pos hr]
      by_cases h0 : t.val % 11 = 0
      · rw [if_pos h0, b2, dif_pos (show (row t r h).val < 16 by show t.val % 11 * 384 + r.val < 16; omega)]
        exact congrArg (fun x => (m ((c : Thread nD τ).loc main_arg1)) (ix2 x l)) (Fin.ext (by show r.val = t.val % 11 * 384 + r.val; omega))
      · rw [if_neg h0, b0, dif_neg (show ¬ (row t r h).val < 16 by show ¬ t.val % 11 * 384 + r.val < 16; omega)]
        exact congrArg (fun x => (m ((c : Thread nD τ).loc main_arg0)) (ix3 (bat t) x l))
          (Fin.ext (by show (t.val % 11 * 24 - 1) * 16 + r.val = t.val % 11 * 384 + r.val - 16; omega))
    · rw [dif_neg hr, dif_neg (show ¬ (row t r h).val < 16 by show ¬ t.val % 11 * 384 + r.val < 16; omega)]
      pointwise
      refine (b1 m c t ⟨r.val - 16, by omega⟩ l (by show t.val % 11 * 384 + 16 + (r.val - 16) < 4112; omega)).trans ?_
      exact congrArg (fun x => (m ((c : Thread nD τ).loc main_arg0)) (ix3 (bat t) x l))
        (Fin.ext (by show t.val % 11 * 384 + (r.val - 16) = t.val % 11 * 384 + r.val - 16; omega))
  rw [show built (grid0.coords t) (iblk m c 2 t) (iblk m c 0 t)
      (View.ld (X0_1 m c t) (Rect.unit ![0, 0, 0] ![1, 368, 1024] inb_S1x384x1024_S1x368x1024_0_0_0)) r = seq (m ((c : Thread nD τ).loc main_arg0)) (m ((c : Thread nD τ).loc main_arg1)) (bat t) (row t r h) from funext hx]
  exact congrArg (nrm _ · l) (funext fun k => b3 m c t k)

/-- The projection's columns that make the keys. -/
theorem wk (c : Dev nD) (t : Fin cfg0.N) (k l : Fin 1024) :
    View.ld (iblk m c 4 t) (Rect.unit (s := S1024x3072) ![0, 1024] ![1024, 1024] inb_S1024x3072_S1024x1024_0_1024) (ix2 k l)
      = m ((c : Thread nD τ).loc main_arg3) (ix3 0 k ⟨1024 + l.val, by omega⟩) := by
  refine Eq.trans ?_ (b4 m c t k ⟨1024 + l.val, by omega⟩)
  generalize iblk m c 4 t = x
  pointwise

/-- The projection's columns that make the values. -/
theorem wv (c : Dev nD) (t : Fin cfg0.N) (k l : Fin 1024) :
    View.ld (iblk m c 4 t) (Rect.unit (s := S1024x3072) ![0, 2048] ![1024, 1024] inb_S1024x3072_S1024x1024_0_2048) (ix2 k l)
      = m ((c : Thread nD τ).loc main_arg3) (ix3 0 k ⟨2048 + l.val, by omega⟩) := by
  refine Eq.trans ?_ (b4 m c t k ⟨2048 + l.val, by omega⟩)
  generalize iblk m c 4 t = x
  pointwise

/-- A point's keys before their heads' norm. -/
def keys7 (c : Dev nD) (t : Fin cfg0.N) : FVec Ideal S384x1024 .f32 :=
  k0_pay8 (rows7 m c t) (View.ld (iblk m c 4 t) (Rect.unit (s := S1024x3072) ![0, 1024] ![1024, 1024] inb_S1024x3072_S1024x1024_0_1024))

theorem keys7_apply (c : Dev nD) (t : Fin cfg0.N) (r : Fin 384) (h : t.val % 11 * 384 + r.val < 4112) (l : Fin 1024) :
    keys7 m c t (ix2 r l) = key (m ((c : Thread nD τ).loc main_arg0)) (m ((c : Thread nD τ).loc main_arg1)) (m ((c : Thread nD τ).loc main_arg2)) (m ((c : Thread nD τ).loc main_arg3)) (bat t) (row t r h) l := by
  unfold keys7 key proj
  rw [pay8_row]
  refine Finset.sum_congr rfl fun k _ => ?_
  rw [rows7_apply m c t r h, wk m c t k l]

theorem block_k (c : Dev nD) (t : Fin cfg0.N) (l : Fin 1024) (r : Fin 384) (h : t.val % 11 * 384 + r.val < 4112) :
    k0_pay4 (k0_pay13 (keys7 m c t) (iblk m c 8 t) (iblk m c 9 t) (iblk m c 10 t)) (ix3 0 l r)
      = Cert.Reference7Ideal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (ix3 (bat t) l (row t r h)) := by
  rw [ref_k, normed_of _ _ _ _ (b9 m c t) (b10 m c t) r l _ (keys7_apply m c t r h) _ (b8 m c t l)]
  rfl

theorem block_v (c : Dev nD) (t : Fin cfg0.N) (l : Fin 1024) (r : Fin 384) (h : t.val % 11 * 384 + r.val < 4112) :
    k0_pay5 (k0_pay17 (k0_pay9 (rows7 m c t) (View.ld (iblk m c 4 t) (Rect.unit (s := S1024x3072) ![0, 2048] ![1024, 1024] inb_S1024x3072_S1024x1024_0_2048)))) (ix3 0 l r)
      = Cert.Reference7Ideal.Read.val_main_v46 (F := Ideal) (m ((c : Thread nD τ).loc main_arg0)) (m ((c : Thread nD τ).loc main_arg1)) (m ((c : Thread nD τ).loc main_arg2)) (m ((c : Thread nD τ).loc main_arg3)) (ix3 (bat t) l (row t r h)) := by
  rw [ref_v, pay9_row]
  unfold proj
  refine Finset.sum_congr rfl fun k _ => ?_
  rw [rows7_apply m c t r h, wv m c t k l]

theorem block_f (c : Dev nD) (t : Fin cfg0.N) (a : Fin 16) (r : Fin 384) (h : t.val % 11 * 384 + r.val < 4112) :
    k0_pay3 (k0_pay14 (k0_pay10 (rows7 m c t) (iblk m c 5 t) (iblk m c 6 t))) (ix3 0 a r)
      = Cert.Reference7Ideal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bat t) a (row t r h)) := by
  rw [ref_f, pay10_row]
  unfold gate proj
  rw [b6 m c t ⟨a.val, by omega⟩ a.isLt]
  refine congrArg (fun z => lsg (z + _)) (Finset.sum_congr rfl fun k _ => ?_)
  rw [rows7_apply m c t r h, b5 m c t k ⟨a.val, by omega⟩ a.isLt]

/-! ## The result arrays -/

set_option maxHeartbeats 1000000 in
theorem out_k (c : Dev nD) (t : Fin cfg0.N) : (outsAt0 m c t.val t.isLt).2.2.2.1 = k0_pay4 (k0_pay13 (keys7 m c t) (iblk m c 8 t) (iblk m c 9 t) (iblk m c 10 t)) := by
  by_cases h0 : t.val % 11 = 0
  · rw [outsAt0_A m c t h0]
    unfold leftA outsA out0_A_15
    dsimp only
    frame_out
    rfl
  · rw [outsAt0_B m c t h0]
    unfold leftB outsB out0_B_15
    dsimp only
    frame_out
    rfl

set_option maxHeartbeats 1000000 in
theorem out_v (c : Dev nD) (t : Fin cfg0.N) : (outsAt0 m c t.val t.isLt).2.2.2.2.1 = k0_pay5 (k0_pay17 (k0_pay9 (rows7 m c t) (View.ld (iblk m c 4 t) (Rect.unit (s := S1024x3072) ![0, 2048] ![1024, 1024] inb_S1024x3072_S1024x1024_0_2048)))) := by
  by_cases h0 : t.val % 11 = 0
  · rw [outsAt0_A m c t h0]
    unfold leftA outsA out0_A_16
    dsimp only
    frame_out
    rfl
  · rw [outsAt0_B m c t h0]
    unfold leftB outsB out0_B_16
    dsimp only
    frame_out
    rfl

set_option maxHeartbeats 1000000 in
theorem out_f (c : Dev nD) (t : Fin cfg0.N) : (outsAt0 m c t.val t.isLt).2.2.2.2.2.2.2.2.1 = k0_pay3 (k0_pay14 (k0_pay10 (rows7 m c t) (iblk m c 5 t) (iblk m c 6 t))) := by
  by_cases h0 : t.val % 11 = 0
  · rw [outsAt0_A m c t h0]
    unfold leftA outsA out0_A_20
    dsimp only
    frame_out
    rfl
  · rw [outsAt0_B m c t h0]
    unfold leftB outsB out0_B_20
    dsimp only
    frame_out
    rfl

/-- The last tile's results stop at the sequence's end. -/
theorem ends : ∀ t : Fin cfg0.N, t.val % 11 * 384 + (cfg0.win 15).xsize (cfg0.grid.coords t) 2 ≤ 4112
    ∧ t.val % 11 * 384 + (cfg0.win 16).xsize (cfg0.grid.coords t) 2 ≤ 4112
    ∧ t.val % 11 * 384 + (cfg0.win 20).xsize (cfg0.grid.coords t) 2 ≤ 4112 := by decide +kernel

theorem flat {n k : ℕ} (z : (⟨3, ![1, n, k]⟩ : Shape).Idx) : z = ix3 0 (z 1) (z 2) :=
  (eq_ix3 z).trans (congrArg (fun w : Fin 1 => ix3 w (z 1) (z 2)) (Subsingleton.elim (α := Fin 1) (show Fin 1 from z 0) (0 : Fin 1)))

theorem final_k (c : Dev nD) : (dats m 0 c).arrAt 15 cfg0.N
    = Cert.Reference7Ideal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 15 _ (by decide +kernel) fun t hf y => ?_
  have e := (places t).2.2.2.2.2.2.2.2.2.2.1
  blk_simp
  rw [after0_15, out_k]
  obtain ⟨a, r, hx⟩ : ∃ (a : Fin 1024) (r : Fin 384), (cfg0.win 15).xinj (cfg0.grid.coords t) y = ix3 0 a r := ⟨_, _, flat _⟩
  have hz : (y 0).val = 0 := congrArg (fun z => (z 0).val) hx
  have ha : (y 1).val = a.val := congrArg (fun z => (z 1).val) hx
  have hr : (y 2).val = r.val := congrArg (fun z => (z 2).val) hx
  have hlt : t.val % 11 * 384 + r.val < 4112 := by
    have h1 := (ends t).1
    have h2 : (y 2).val < (cfg0.win 15).xsize (cfg0.grid.coords t) 2 := (y 2).isLt
    omega
  have ei : (win0_15.blk t).view.emb y = ix3 (bat t) a (row t r hlt) := by
    unfold bat row
    blk_ext [e, hz, ha, hr]
  rw [hx]
  exact (block_k m c t a r hlt).trans (congrArg _ ei.symm)

theorem final_v (c : Dev nD) : (dats m 0 c).arrAt 16 cfg0.N
    = Cert.Reference7Ideal.Read.val_main_v46 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t hf y => ?_
  have e := (places t).2.2.2.2.2.2.2.2.2.2.2.1
  blk_simp
  rw [after0_16, out_v]
  obtain ⟨a, r, hx⟩ : ∃ (a : Fin 1024) (r : Fin 384), (cfg0.win 16).xinj (cfg0.grid.coords t) y = ix3 0 a r := ⟨_, _, flat _⟩
  have hz : (y 0).val = 0 := congrArg (fun z => (z 0).val) hx
  have ha : (y 1).val = a.val := congrArg (fun z => (z 1).val) hx
  have hr : (y 2).val = r.val := congrArg (fun z => (z 2).val) hx
  have hlt : t.val % 11 * 384 + r.val < 4112 := by
    have h1 := (ends t).2.1
    have h2 : (y 2).val < (cfg0.win 16).xsize (cfg0.grid.coords t) 2 := (y 2).isLt
    omega
  have ei : (win0_16.blk t).view.emb y = ix3 (bat t) a (row t r hlt) := by
    unfold bat row
    blk_ext [e, hz, ha, hr]
  rw [hx]
  exact (block_v m c t a r hlt).trans (congrArg _ ei.symm)

theorem final_f (c : Dev nD) : (dats m 0 c).arrAt 20 cfg0.N
    = Cert.Reference7Ideal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 20 _ (by decide +kernel) fun t hf y => ?_
  have e := (places t).2.2.2.2.2.2.2.2.2.2.2.2.1
  blk_simp
  rw [after0_20, out_f]
  obtain ⟨a, r, hx⟩ : ∃ (a : Fin 16) (r : Fin 384), (cfg0.win 20).xinj (cfg0.grid.coords t) y = ix3 0 a r := ⟨_, _, flat _⟩
  have hz : (y 0).val = 0 := congrArg (fun z => (z 0).val) hx
  have ha : (y 1).val = a.val := congrArg (fun z => (z 1).val) hx
  have hr : (y 2).val = r.val := congrArg (fun z => (z 2).val) hx
  have hlt : t.val % 11 * 384 + r.val < 4112 := by
    have h1 := (ends t).2.2
    have h2 : (y 2).val < (cfg0.win 20).xsize (cfg0.grid.coords t) 2 := (y 2).isLt
    omega
  have ei : (win0_20.blk t).view.emb y = ix3 (bat t) a (row t r hlt) := by
    unfold bat row
    blk_ext [e, hz, ha, hr]
  rw [hx]
  exact (block_f m c t a r hlt).trans (congrArg _ ei.symm)

end Cert.Proof.Prompt
-- ==== Proof.PrefixedBits.lean ====
/-
  Hand-written, untrusted. `Kernel4` as printed for the bits is the same program as `Kernel4Ideal`, no operation of it
  being rewritten; so its frame is that of `Kernel4Ideal` at the bits.
-/
module

public import proofs.«01_k».proof.Proof.PrefixedFrame
public import proofs.«01_k».proof.Proof.Gen.Kernel4.Frame

@[expose] public section

set_option maxRecDepth 16384

noncomputable section

namespace Cert.Proof.Prefixed

open Idealize.ShloMosaic Idealize.SL.Sem

variable {F : FTy → Type} [FloatOps F]

theorem same_bodies : Cert.Kernel4.defs₀ (F := F) = Cert.Kernel4Ideal.defs₀ (F := F) := by
  funext p ℓ a
  match p, ℓ, a with
  | .tc, 0, (t, s) =>
    show Cert.Kernel4.cc0_post_prefixed _ _ _ _ _ _ _ _ _ _ _ _ _ _ _ _ _ _ _ _ _ = Cert.Kernel4Ideal.cc0_post_prefixed _ _ _ _ _ _ _ _ _ _ _ _ _ _ _ _ _ _ _ _ _
    rfl
  | .scScalar _, _, _ => rfl
  | .scVector _ _, _, _ => rfl

theorem same_defs : Cert.Kernel4.defs (F := F) = Cert.Kernel4Ideal.defs (F := F) :=
  congrArg (Pipeline.defs Cert.Kernel4.pcfgs) same_bodies

theorem same_main : Cert.Kernel4.main (F := F) = Cert.Kernel4Ideal.main (F := F) := rfl

open Cert.Kernel4 in
theorem frame_printed (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have key : ∀ D, D = Cert.Kernel4Ideal.defs (F := F) → ∀ M, M = Cert.Kernel4Ideal.main (F := F) → θ_run D (onTc (τ := τ) M) ⟨m, fun _ => 0, ρ⟩ _ :=
    fun D hD M hM => by subst hD hM; exact frame (F := F) m ρ
  exact key _ same_defs _ same_main

end Cert.Proof.Prefixed
end
-- ==== Proof.lean ====
/-
  The claims of `Cert.Claim`, one theorem each. A value claim joins the kernel's generated run, whose output arrays
  the module named after the call rewrites into the reference's values, with the reference's generated run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Finite
public import proofs.«01_k».proof.Proof.Tail
public import proofs.«01_k».proof.Proof.Inproj1
public import proofs.«01_k».proof.Proof.Prefixed
public import proofs.«01_k».proof.Proof.Post
public import proofs.«01_k».proof.Proof.Foxin
public import proofs.«01_k».proof.Proof.Prompt
public import proofs.«01_k».proof.Proof.PrefixedBits
public import proofs.«01_k».proof.Proof.PrintedFrame
public import Idealize.ShloMosaic.Adequacy
public import Idealize.ShloMosaic.Init
public import Idealize.ShloMosaic.Lib.Quiescent

@[expose] public section

noncomputable section

namespace Cert.Proof

open Idealize.ShloMosaic Idealize.SL.Sem

/-- The reference `ReferenceIdeal` ends, keeps its arguments and leaves no semaphore raised. -/
theorem quiet_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel `KernelIdeal` and the reference `ReferenceIdeal` give equal results. -/
theorem equal_KernelIdeal : Cert.algebraic_KernelIdeal_ReferenceIdeal_pre_finite_scores := fun m ρ m' ρ' h e =>
  ⟨fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    (θ_run Cert.KernelIdeal.defs _ _).mono (fun r q c => ⟨(q c).1.trans (Decode.final m c (fine m h c)), (q c).2⟩) (Cert.KernelIdeal.Value.run_blocks (F := Ideal) m ρ),
    (θ_run Cert.ReferenceIdeal.defs _ _).mono (fun r q c => ⟨(q c).1.trans ((Cert.ReferenceIdeal.Read.val_main_v50_eq m' c).trans (by rw [(e c).1, (e c).2.1, (e c).2.2.1, (e c).2.2.2.1, (e c).2.2.2.2.1, (e c).2.2.2.2.2.1, (e c).2.2.2.2.2.2.1, (e c).2.2.2.2.2.2.2])), (q c).2⟩) (Cert.ReferenceIdeal.Value.run (F := Ideal) m' ρ')⟩

/-- The reference `Reference2Ideal` ends, keeps its arguments and leaves no semaphore raised. -/
theorem quiet_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel `Kernel2Ideal` and the reference `Reference2Ideal` give equal results. -/
theorem equal_Kernel2Ideal : Cert.algebraic_Kernel2Ideal_Reference2Ideal := fun m ρ m' ρ' _ e =>
  ⟨fun c => Cert.Reference2Ideal.Read.val_main_v41 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)),
    (θ_run Cert.Kernel2Ideal.defs _ _).mono (fun r q c => ⟨(q c).1.trans (Tail.final m c), (q c).2⟩) (Cert.Kernel2Ideal.Value.run_blocks (F := Ideal) m ρ),
    (θ_run Cert.Reference2Ideal.defs _ _).mono (fun r q c => ⟨(q c).1.trans ((Cert.Reference2Ideal.Read.val_main_v41_eq m' c).trans (by rw [(e c).1, (e c).2.1, (e c).2.2.1, (e c).2.2.2.1, (e c).2.2.2.2.1, (e c).2.2.2.2.2.1, (e c).2.2.2.2.2.2])), (q c).2⟩) (Cert.Reference2Ideal.Value.run (F := Ideal) m' ρ')⟩

/-- The reference `Reference3Ideal` ends, keeps its arguments and leaves no semaphore raised. -/
theorem quiet_Reference3Ideal : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The kernel `Kernel3Ideal` and the reference `Reference3Ideal` give equal results. -/
theorem equal_Kernel3Ideal : Cert.algebraic_Kernel3Ideal_Reference3Ideal := fun m ρ m' ρ' _ e =>
  ⟨fun c => Cert.Reference3Ideal.Read.val_main_v24 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => Cert.Reference3Ideal.Read.val_main_v25 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => Cert.Reference3Ideal.Read.val_main_v27 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => Cert.Reference3Ideal.Read.val_main_v29 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), fun c => Cert.Reference3Ideal.Read.val_main_v30 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    (θ_run Cert.Kernel3Ideal.defs _ _).mono (fun r q c => ⟨(q c).1.trans (Inproj1.final_k m c), (q c).2.1.trans (Inproj1.final_g m c), (q c).2.2.1.trans (Inproj1.final_q m c), (q c).2.2.2.1.trans (Inproj1.final_v m c), (q c).2.2.2.2.1.trans (Inproj1.final_o m c), (q c).2.2.2.2.2⟩) (Cert.Kernel3Ideal.Value.run_blocks (F := Ideal) m ρ),
    (θ_run Cert.Reference3Ideal.defs _ _).mono (fun r q c => ⟨(q c).1.trans ((Cert.Reference3Ideal.Read.val_main_v24_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans (by rw [(e c).1, (e c).2.1, (e c).2.2])), (q c).2.1.trans ((Cert.Reference3Ideal.Read.val_main_v25_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans (by rw [(e c).1, (e c).2.1, (e c).2.2])), (q c).2.2.1.trans ((Cert.Reference3Ideal.Read.val_main_v27_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans (by rw [(e c).1, (e c).2.1, (e c).2.2])), (q c).2.2.2.1.trans ((Cert.Reference3Ideal.Read.val_main_v29_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans (by rw [(e c).1, (e c).2.1, (e c).2.2])), (q c).2.2.2.2.1.trans ((Cert.Reference3Ideal.Read.val_main_v30_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans (by rw [(e c).1, (e c).2.1, (e c).2.2])), (q c).2.2.2.2.2⟩) (Cert.Reference3Ideal.Value.run (F := Ideal) m' ρ')⟩

/-- The reference `Reference4Ideal` ends, keeps its arguments and leaves no semaphore raised. -/
theorem quiet_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel `Kernel4Ideal` and the reference `Reference4Ideal` give equal results. -/
theorem equal_Kernel4Ideal : Cert.algebraic_Kernel4Ideal_Reference4Ideal := fun m ρ m' ρ' _ e =>
  ⟨fun c => Cert.Reference4Ideal.Read.val_main_v31 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)),
    (θ_run Cert.Kernel4Ideal.defs _ _).mono (fun r q c => ⟨(q.1 c).trans (Prefixed.final m c), q.2 c⟩) (Prefixed.run_blocks (F := Ideal) m ρ),
    (θ_run Cert.Reference4Ideal.defs _ _).mono (fun r q c => ⟨(q c).1.trans ((Cert.Reference4Ideal.Read.val_main_v31_eq m' c).trans (by rw [(e c).1, (e c).2.1, (e c).2.2.1, (e c).2.2.2.1, (e c).2.2.2.2.1, (e c).2.2.2.2.2.1, (e c).2.2.2.2.2.2.1])), (q c).2⟩) (Cert.Reference4Ideal.Value.run (F := Ideal) m' ρ')⟩

/-- The reference `Reference5Ideal` ends, keeps its arguments and leaves no semaphore raised. -/
theorem quiet_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel `Kernel5Ideal` and the reference `Reference5Ideal` give equal results. -/
theorem equal_Kernel5Ideal : Cert.algebraic_Kernel5Ideal_Reference5Ideal := fun m ρ m' ρ' _ e =>
  ⟨fun c => Cert.Reference5Ideal.Read.val_main_v40 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)),
    (θ_run Cert.Kernel5Ideal.defs _ _).mono (fun r q c => ⟨(q c).1.trans (Post.final m c), (q c).2⟩) (Cert.Kernel5Ideal.Value.run_blocks (F := Ideal) m ρ),
    (θ_run Cert.Reference5Ideal.defs _ _).mono (fun r q c => ⟨(q c).1.trans ((Cert.Reference5Ideal.Read.val_main_v40_eq m' c).trans (by rw [(e c).1, (e c).2.1, (e c).2.2.1, (e c).2.2.2.1, (e c).2.2.2.2.1, (e c).2.2.2.2.2.1, (e c).2.2.2.2.2.2])), (q c).2⟩) (Cert.Reference5Ideal.Value.run (F := Ideal) m' ρ')⟩

/-- The reference `Reference6Ideal` ends, keeps its arguments and leaves no semaphore raised. -/
theorem quiet_Reference6Ideal : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The kernel `Kernel6Ideal` and the reference `Reference6Ideal` give equal results. -/
theorem equal_Kernel6Ideal : Cert.algebraic_Kernel6Ideal_Reference6Ideal := fun m ρ m' ρ' _ e =>
  ⟨fun c => Cert.Reference6Ideal.Read.val_main_v43 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg5)), fun c => Cert.Reference6Ideal.Read.val_main_v19 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), fun c => Cert.Reference6Ideal.Read.val_main_v44 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    (θ_run Cert.Kernel6Ideal.defs _ _).mono (fun r q c => ⟨(q c).2.2.2.1.trans (Foxin.final_k m c), (q c).2.2.2.2.1.trans (Foxin.final_v m c), (q c).2.2.2.2.2.2.2.2.1.trans (Foxin.final_f m c), (q c).2.2.2.2.2.2.2.2.2⟩) (Cert.Kernel6Ideal.Value.run_blocks (F := Ideal) m ρ),
    (θ_run Cert.Reference6Ideal.defs _ _).mono (fun r q c => ⟨(q c).1.trans ((Cert.Reference6Ideal.Read.val_main_v43_eq m' c).trans (by rw [(e c).1, (e c).2.1, (e c).2.2.1, (e c).2.2.2.2.2])), (q c).2.1.trans ((Cert.Reference6Ideal.Read.val_main_v19_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans (by rw [(e c).1, (e c).2.1, (e c).2.2.1])), (q c).2.2.1.trans ((Cert.Reference6Ideal.Read.val_main_v44_eq m' c).trans (by rw [(e c).1, (e c).2.1, (e c).2.2.1, (e c).2.2.2.1])), (q c).2.2.2⟩) (Cert.Reference6Ideal.Value.run (F := Ideal) m' ρ')⟩

/-- The reference `Reference7Ideal` ends, keeps its arguments and leaves no semaphore raised. -/
theorem quiet_Reference7Ideal : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The kernel `Kernel7Ideal` and the reference `Reference7Ideal` give equal results. -/
theorem equal_Kernel7Ideal : Cert.algebraic_Kernel7Ideal_Reference7Ideal := fun m ρ m' ρ' _ e =>
  ⟨fun c => Cert.Reference7Ideal.Read.val_main_v45 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg6)), fun c => Cert.Reference7Ideal.Read.val_main_v46 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)), fun c => Cert.Reference7Ideal.Read.val_main_v47 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)),
    (θ_run Cert.Kernel7Ideal.defs _ _).mono (fun r q c => ⟨(q.1 c).1.trans (Prompt.final_k m c), (q.1 c).2.1.trans (Prompt.final_v m c), (q.1 c).2.2.trans (Prompt.final_f m c), q.2 c⟩) (Prompt.run_blocks (F := Ideal) m ρ),
    (θ_run Cert.Reference7Ideal.defs _ _).mono (fun r q c => ⟨(q c).1.trans ((Cert.Reference7Ideal.Read.val_main_v45_eq m' c).trans (by rw [(e c).1, (e c).2.1, (e c).2.2.1, (e c).2.2.2.1, (e c).2.2.2.2.2.2])), (q c).2.1.trans ((Cert.Reference7Ideal.Read.val_main_v46_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3))).trans (by rw [(e c).1, (e c).2.1, (e c).2.2.1, (e c).2.2.2.1])), (q c).2.2.1.trans ((Cert.Reference7Ideal.Read.val_main_v47_eq m' c).trans (by rw [(e c).1, (e c).2.1, (e c).2.2.1, (e c).2.2.2.1, (e c).2.2.2.2.1])), (q c).2.2.2⟩) (Cert.Reference7Ideal.Value.run (F := Ideal) m' ρ')⟩

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite_scores.Gen.facts,
  fun m ρ _ => Cert.Kernel.Gen.frame m ρ,
  fun m ρ _ => Cert.KernelIdeal.Gen.frame m ρ,
  fun m ρ _ => Cert.KernelIdeal.Gen.frame m ρ,
  quiet_ReferenceIdeal,
  fun m ρ _ => quiet_ReferenceIdeal m ρ trivial,
  fun m ρ _ => Cert.Kernel2.Gen.frame m ρ,
  fun m ρ _ => Cert.Kernel2Ideal.Gen.frame m ρ,
  quiet_Reference2Ideal,
  fun m ρ _ => Cert.Kernel3.Gen.frame m ρ,
  fun m ρ _ => Cert.Kernel3Ideal.Gen.frame m ρ,
  quiet_Reference3Ideal,
  fun m ρ _ => Prefixed.frame_printed m ρ,
  fun m ρ _ => Prefixed.frame m ρ,
  quiet_Reference4Ideal,
  fun m ρ _ => Cert.Kernel5.Gen.frame m ρ,
  fun m ρ _ => Cert.Kernel5Ideal.Gen.frame m ρ,
  quiet_Reference5Ideal,
  fun m ρ _ => Cert.Kernel6.Gen.frame m ρ,
  fun m ρ _ => Cert.Kernel6Ideal.Gen.frame m ρ,
  quiet_Reference6Ideal,
  fun m ρ _ => Printed.frame m ρ,
  fun m ρ _ => Prompt.frame m ρ,
  quiet_Reference7Ideal,
  IdealRules.named_const.statement Cert.KernelIdeal.κ "mask" .f32 0xF149F2CA#32 ⊥ rfl,
  equal_KernelIdeal,
  trivial,
  equal_Kernel2Ideal,
  trivial,
  equal_Kernel3Ideal,
  trivial,
  equal_Kernel4Ideal,
  trivial,
  equal_Kernel5Ideal,
  trivial,
  equal_Kernel6Ideal,
  trivial,
  equal_Kernel7Ideal⟩

end Cert.Proof

end
